-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_Mixers (m : (ℓ : Loc Cert.Mixers.nD Cert.Mixers.τ Cert.Mixers.sig) → Buf (Elt Bits) ℓ) : Prop :=
  True

def Pre_MixersIdeal (m : (ℓ : Loc Cert.MixersIdeal.nD Cert.MixersIdeal.τ Cert.MixersIdeal.sig) → Buf (Elt Ideal) ℓ) : Prop :=
  True

def Pre_MixersReferenceIdeal (m : (ℓ : Loc Cert.MixersReferenceIdeal.nD Cert.MixersReferenceIdeal.τ Cert.MixersReferenceIdeal.sig) → Buf (Elt Ideal) ℓ) : Prop :=
  True

def Pre_Combine [hPre_placed : Cert.Pre_placed.Facts] (m : (ℓ : Loc Cert.Combine.nD Cert.Combine.τ Cert.Combine.sig) → Buf (Elt Bits) ℓ) : Prop :=
  ∀ c : Dev Cert.Combine.nD,
    (Cert.Pre_placed.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2)) (m ((c.tc : Thread Cert.Combine.nD Cert.Combine.τ).loc Cert.Combine.main_arg3))) = (fun _ => 1#1)

def Pre_CombineIdeal [hPre_placed : Cert.Pre_placed.Facts] (m : (ℓ : Loc Cert.CombineIdeal.nD Cert.CombineIdeal.τ Cert.CombineIdeal.sig) → Buf (Elt Ideal) ℓ) : Prop :=
  ∀ c : Dev Cert.CombineIdeal.nD,
    (Cert.Pre_placed.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3))) = (fun _ => 1#1)

def Pre_CombineReferenceIdeal (m : (ℓ : Loc Cert.CombineReferenceIdeal.nD Cert.CombineReferenceIdeal.τ Cert.CombineReferenceIdeal.sig) → Buf (Elt Ideal) ℓ) : Prop :=
  True

def Pre_CombineReferenceIdeal_placed [hPre_placed : Cert.Pre_placed.Facts] (m : (ℓ : Loc Cert.CombineReferenceIdeal.nD Cert.CombineReferenceIdeal.τ Cert.CombineReferenceIdeal.sig) → Buf (Elt Ideal) ℓ) : Prop :=
  ∀ c : Dev Cert.CombineReferenceIdeal.nD,
    (Cert.Pre_placed.fn (F := Ideal) (m ((c.tc : Thread Cert.CombineReferenceIdeal.nD Cert.CombineReferenceIdeal.τ).loc Cert.CombineReferenceIdeal.main_arg0)) (m ((c.tc : Thread Cert.CombineReferenceIdeal.nD Cert.CombineReferenceIdeal.τ).loc Cert.CombineReferenceIdeal.main_arg1)) (m ((c.tc : Thread Cert.CombineReferenceIdeal.nD Cert.CombineReferenceIdeal.τ).loc Cert.CombineReferenceIdeal.main_arg2)) (m ((c.tc : Thread Cert.CombineReferenceIdeal.nD Cert.CombineReferenceIdeal.τ).loc Cert.CombineReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8)
      ∧ r.2.mem ((c.tc : Thread Cert.OutProj.nD Cert.OutProj.τ).loc Cert.OutProj.main_arg9) = m ((c.tc : Thread Cert.OutProj.nD Cert.OutProj.τ).loc Cert.OutProj.main_arg9))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
      ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4)
      ∧ r.2.mem ((c.tc : Thread Cert.OutProjReferenceIdeal.nD Cert.OutProjReferenceIdeal.τ).loc Cert.OutProjReferenceIdeal.main_arg5) = m ((c.tc : Thread Cert.OutProjReferenceIdeal.nD Cert.OutProjReferenceIdeal.τ).loc Cert.OutProjReferenceIdeal.main_arg5)
      ∧ r.2.mem ((c.tc : Thread Cert.OutProjReferenceIdeal.nD Cert.OutProjReferenceIdeal.τ).loc Cert.OutProjReferenceIdeal.main_arg6) = m ((c.tc : Thread Cert.OutProjReferenceIdeal.nD Cert.OutProjReferenceIdeal.τ).loc Cert.OutProjReferenceIdeal.main_arg6)
      ∧ r.2.mem ((c.tc : Thread Cert.OutProjReferenceIdeal.nD Cert.OutProjReferenceIdeal.τ).loc Cert.OutProjReferenceIdeal.main_arg7) = m ((c.tc : Thread Cert.OutProjReferenceIdeal.nD Cert.OutProjReferenceIdeal.τ).loc Cert.OutProjReferenceIdeal.main_arg7)
      ∧ r.2.mem ((c.tc : Thread Cert.OutProjReferenceIdeal.nD Cert.OutProjReferenceIdeal.τ).loc Cert.OutProjReferenceIdeal.main_arg8) = m ((c.tc : Thread Cert.OutProjReferenceIdeal.nD Cert.OutProjReferenceIdeal.τ).loc Cert.OutProjReferenceIdeal.main_arg8)
      ∧ r.2.mem ((c.tc : Thread Cert.OutProjReferenceIdeal.nD Cert.OutProjReferenceIdeal.τ).loc Cert.OutProjReferenceIdeal.main_arg9) = m ((c.tc : Thread Cert.OutProjReferenceIdeal.nD Cert.OutProjReferenceIdeal.τ).loc Cert.OutProjReferenceIdeal.main_arg9))
      ∧ r.2.sem = fun _ => 0)

def quiescent_Mixers [hMixers : Cert.Mixers.Facts] : Prop :=
  ∀ (m : (ℓ : Loc Cert.Mixers.nD Cert.Mixers.τ Cert.Mixers.sig) → Buf (Elt Bits) ℓ) (g : Dev Cert.Mixers.nD → PrngReg), Pre_Mixers m →
    θ_run (Cert.Mixers.defs (F := Bits)) (onTc (τ := Cert.Mixers.τ) (Cert.Mixers.main (F := Bits))) ⟨m, fun _ => 0, g⟩ (fun r => (∀ c : Dev Cert.Mixers.nD,
      r.2.mem ((c.tc : Thread Cert.Mixers.nD Cert.Mixers.τ).loc Cert.Mixers.main_arg0) = m ((c.tc : Thread Cert.Mixers.nD Cert.Mixers.τ).loc Cert.Mixers.main_arg0)
      ∧ r.2.mem ((c.tc : Thread Cert.Mixers.nD Cert.Mixers.τ).loc Cert.Mixers.main_arg1) = m ((c.tc : Thread Cert.Mixers.nD Cert.Mixers.τ).loc Cert.Mixers.main_arg1)
      ∧ r.2.mem ((c.tc : Thread Cert.Mixers.nD Cert.Mixers.τ).loc Cert.Mixers.main_arg2) = m ((c.tc : Thread Cert.Mixers.nD Cert.Mixers.τ).loc Cert.Mixers.main_arg2)
      ∧ r.2.mem ((c.tc : Thread Cert.Mixers.nD Cert.Mixers.τ).loc Cert.Mixers.main_arg3) = m ((c.tc : Thread Cert.Mixers.nD Cert.Mixers.τ).loc Cert.Mixers.main_arg3)
      ∧ r.2.mem ((c.tc : Thread Cert.Mixers.nD Cert.Mixers.τ).loc Cert.Mixers.main_arg4) = m ((c.tc : Thread Cert.Mixers.nD Cert.Mixers.τ).loc Cert.Mixers.main_arg4)
      ∧ r.2.mem ((c.tc : Thread Cert.Mixers.nD Cert.Mixers.τ).loc Cert.Mixers.main_arg5) = m ((c.tc : Thread Cert.Mixers.nD Cert.Mixers.τ).loc Cert.Mixers.main_arg5))
      ∧ r.2.sem = fun _ => 0)

def quiescent_MixersIdeal [hMixersIdeal : Cert.MixersIdeal.Facts] : Prop :=
  ∀ (m : (ℓ : Loc Cert.MixersIdeal.nD Cert.MixersIdeal.τ Cert.MixersIdeal.sig) → Buf (Elt Ideal) ℓ) (g : Dev Cert.MixersIdeal.nD → PrngReg), Pre_MixersIdeal m →
    θ_run (Cert.MixersIdeal.defs (F := Ideal)) (onTc (τ := Cert.MixersIdeal.τ) (Cert.MixersIdeal.main (F := Ideal))) ⟨m, fun _ => 0, g⟩ (fun r => (∀ c : Dev Cert.MixersIdeal.nD,
      r.2.mem ((c.tc : Thread Cert.MixersIdeal.nD Cert.MixersIdeal.τ).loc Cert.MixersIdeal.main_arg0) = m ((c.tc : Thread Cert.MixersIdeal.nD Cert.MixersIdeal.τ).loc Cert.MixersIdeal.main_arg0)
      ∧ r.2.mem ((c.tc : Thread Cert.MixersIdeal.nD Cert.MixersIdeal.τ).loc Cert.MixersIdeal.main_arg1) = m ((c.tc : Thread Cert.MixersIdeal.nD Cert.MixersIdeal.τ).loc Cert.MixersIdeal.main_arg1)
      ∧ r.2.mem ((c.tc : Thread Cert.MixersIdeal.nD Cert.MixersIdeal.τ).loc Cert.MixersIdeal.main_arg2) = m ((c.tc : Thread Cert.MixersIdeal.nD Cert.MixersIdeal.τ).loc Cert.MixersIdeal.main_arg2)
      ∧ r.2.mem ((c.tc : Thread Cert.MixersIdeal.nD Cert.MixersIdeal.τ).loc Cert.MixersIdeal.main_arg3) = m ((c.tc : Thread Cert.MixersIdeal.nD Cert.MixersIdeal.τ).loc Cert.MixersIdeal.main_arg3)
      ∧ r.2.mem ((c.tc : Thread Cert.MixersIdeal.nD Cert.MixersIdeal.τ).loc Cert.MixersIdeal.main_arg4) = m ((c.tc : Thread Cert.MixersIdeal.nD Cert.MixersIdeal.τ).loc Cert.MixersIdeal.main_arg4)
      ∧ r.2.mem ((c.tc : Thread Cert.MixersIdeal.nD Cert.MixersIdeal.τ).loc Cert.MixersIdeal.main_arg5) = m ((c.tc : Thread Cert.MixersIdeal.nD Cert.MixersIdeal.τ).loc Cert.MixersIdeal.main_arg5))
      ∧ r.2.sem = fun _ => 0)

def quiescent_MixersReferenceIdeal [hMixersReferenceIdeal : Cert.MixersReferenceIdeal.Facts] : Prop :=
  ∀ (m : (ℓ : Loc Cert.MixersReferenceIdeal.nD Cert.MixersReferenceIdeal.τ Cert.MixersReferenceIdeal.sig) → Buf (Elt Ideal) ℓ) (g : Dev Cert.MixersReferenceIdeal.nD → PrngReg), Pre_MixersReferenceIdeal m →
    θ_run (Cert.MixersReferenceIdeal.defs (F := Ideal)) (onTc (τ := Cert.MixersReferenceIdeal.τ) (Cert.MixersReferenceIdeal.main (F := Ideal))) ⟨m, fun _ => 0, g⟩ (fun r => (∀ c : Dev Cert.MixersReferenceIdeal.nD,
      r.2.mem ((c.tc : Thread Cert.MixersReferenceIdeal.nD Cert.MixersReferenceIdeal.τ).loc Cert.MixersReferenceIdeal.main_arg0) = m ((c.tc : Thread Cert.MixersReferenceIdeal.nD Cert.MixersReferenceIdeal.τ).loc Cert.MixersReferenceIdeal.main_arg0)
      ∧ r.2.mem ((c.tc : Thread Cert.MixersReferenceIdeal.nD Cert.MixersReferenceIdeal.τ).loc Cert.MixersReferenceIdeal.main_arg1) = m ((c.tc : Thread Cert.MixersReferenceIdeal.nD Cert.MixersReferenceIdeal.τ).loc Cert.MixersReferenceIdeal.main_arg1)
      ∧ r.2.mem ((c.tc : Thread Cert.MixersReferenceIdeal.nD Cert.MixersReferenceIdeal.τ).loc Cert.MixersReferenceIdeal.main_arg2) = m ((c.tc : Thread Cert.MixersReferenceIdeal.nD Cert.MixersReferenceIdeal.τ).loc Cert.MixersReferenceIdeal.main_arg2)
      ∧ r.2.mem ((c.tc : Thread Cert.MixersReferenceIdeal.nD Cert.MixersReferenceIdeal.τ).loc Cert.MixersReferenceIdeal.main_arg3) = m ((c.tc : Thread Cert.MixersReferenceIdeal.nD Cert.MixersReferenceIdeal.τ).loc Cert.MixersReferenceIdeal.main_arg3)
      ∧ r.2.mem ((c.tc : Thread Cert.MixersReferenceIdeal.nD Cert.MixersReferenceIdeal.τ).loc Cert.MixersReferenceIdeal.main_arg4) = m ((c.tc : Thread Cert.MixersReferenceIdeal.nD Cert.MixersReferenceIdeal.τ).loc Cert.MixersReferenceIdeal.main_arg4)
      ∧ r.2.mem ((c.tc : Thread Cert.MixersReferenceIdeal.nD Cert.MixersReferenceIdeal.τ).loc Cert.MixersReferenceIdeal.main_arg5) = m ((c.tc : Thread Cert.MixersReferenceIdeal.nD Cert.MixersReferenceIdeal.τ).loc Cert.MixersReferenceIdeal.main_arg5))
      ∧ r.2.sem = fun _ => 0)

def quiescent_Combine [hCombine : Cert.Combine.Facts] [hPre_placed : Cert.Pre_placed.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3))
      ∧ r.2.sem = fun _ => 0)

def quiescent_CombineIdeal [hCombineIdeal : Cert.CombineIdeal.Facts] [hPre_placed : Cert.Pre_placed.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3))
      ∧ r.2.sem = fun _ => 0)

def quiescent_CombineReferenceIdeal_pre_placed [hCombineReferenceIdeal : Cert.CombineReferenceIdeal.Facts] [hPre_placed : Cert.Pre_placed.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal_placed m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v14) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)
      ∧ m' ((c.tc : Thread Cert.OutProjReferenceIdeal.nD Cert.OutProjReferenceIdeal.τ).loc Cert.OutProjReferenceIdeal.main_arg5) = m ((c.tc : Thread Cert.OutProjIdeal.nD Cert.OutProjIdeal.τ).loc Cert.OutProjIdeal.main_arg5)
      ∧ m' ((c.tc : Thread Cert.OutProjReferenceIdeal.nD Cert.OutProjReferenceIdeal.τ).loc Cert.OutProjReferenceIdeal.main_arg6) = m ((c.tc : Thread Cert.OutProjIdeal.nD Cert.OutProjIdeal.τ).loc Cert.OutProjIdeal.main_arg6)
      ∧ m' ((c.tc : Thread Cert.OutProjReferenceIdeal.nD Cert.OutProjReferenceIdeal.τ).loc Cert.OutProjReferenceIdeal.main_arg7) = m ((c.tc : Thread Cert.OutProjIdeal.nD Cert.OutProjIdeal.τ).loc Cert.OutProjIdeal.main_arg7)
      ∧ m' ((c.tc : Thread Cert.OutProjReferenceIdeal.nD Cert.OutProjReferenceIdeal.τ).loc Cert.OutProjReferenceIdeal.main_arg8) = m ((c.tc : Thread Cert.OutProjIdeal.nD Cert.OutProjIdeal.τ).loc Cert.OutProjIdeal.main_arg8)
      ∧ m' ((c.tc : Thread Cert.OutProjReferenceIdeal.nD Cert.OutProjReferenceIdeal.τ).loc Cert.OutProjReferenceIdeal.main_arg9) = m ((c.tc : Thread Cert.OutProjIdeal.nD Cert.OutProjIdeal.τ).loc Cert.OutProjIdeal.main_arg9)) →
    ∃ (v0 : (c : Dev Cert.OutProjIdeal.nD) → Buf (Elt Ideal) ((c.tc : Thread Cert.OutProjIdeal.nD Cert.OutProjIdeal.τ).loc Cert.OutProjIdeal.main_v8_0)) (v1 : (c : Dev Cert.OutProjIdeal.nD) → Buf (Elt Ideal) ((c.tc : Thread Cert.OutProjIdeal.nD Cert.OutProjIdeal.τ).loc Cert.OutProjIdeal.main_v8_1)) (v2 : (c : Dev Cert.OutProjIdeal.nD) → Buf (Elt Ideal) ((c.tc : Thread Cert.OutProjIdeal.nD Cert.OutProjIdeal.τ).loc Cert.OutProjIdeal.main_v8_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v8_0) = v0 c
          ∧ r.2.mem ((c.tc : Thread Cert.OutProjIdeal.nD Cert.OutProjIdeal.τ).loc Cert.OutProjIdeal.main_v8_1) = v1 c
          ∧ r.2.mem ((c.tc : Thread Cert.OutProjIdeal.nD Cert.OutProjIdeal.τ).loc Cert.OutProjIdeal.main_v8_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
          ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v3) = v0 c
          ∧ r.2.mem ((c.tc : Thread Cert.OutProjReferenceIdeal.nD Cert.OutProjReferenceIdeal.τ).loc Cert.OutProjReferenceIdeal.main_v16) = v1 c
          ∧ r.2.mem ((c.tc : Thread Cert.OutProjReferenceIdeal.nD Cert.OutProjReferenceIdeal.τ).loc Cert.OutProjReferenceIdeal.main_v26) = v2 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4)
          ∧ r.2.mem ((c.tc : Thread Cert.OutProjReferenceIdeal.nD Cert.OutProjReferenceIdeal.τ).loc Cert.OutProjReferenceIdeal.main_arg5) = m' ((c.tc : Thread Cert.OutProjReferenceIdeal.nD Cert.OutProjReferenceIdeal.τ).loc Cert.OutProjReferenceIdeal.main_arg5)
          ∧ r.2.mem ((c.tc : Thread Cert.OutProjReferenceIdeal.nD Cert.OutProjReferenceIdeal.τ).loc Cert.OutProjReferenceIdeal.main_arg6) = m' ((c.tc : Thread Cert.OutProjReferenceIdeal.nD Cert.OutProjReferenceIdeal.τ).loc Cert.OutProjReferenceIdeal.main_arg6)
          ∧ r.2.mem ((c.tc : Thread Cert.OutProjReferenceIdeal.nD Cert.OutProjReferenceIdeal.τ).loc Cert.OutProjReferenceIdeal.main_arg7) = m' ((c.tc : Thread Cert.OutProjReferenceIdeal.nD Cert.OutProjReferenceIdeal.τ).loc Cert.OutProjReferenceIdeal.main_arg7)
          ∧ r.2.mem ((c.tc : Thread Cert.OutProjReferenceIdeal.nD Cert.OutProjReferenceIdeal.τ).loc Cert.OutProjReferenceIdeal.main_arg8) = m' ((c.tc : Thread Cert.OutProjReferenceIdeal.nD Cert.OutProjReferenceIdeal.τ).loc Cert.OutProjReferenceIdeal.main_arg8)
          ∧ r.2.mem ((c.tc : Thread Cert.OutProjReferenceIdeal.nD Cert.OutProjReferenceIdeal.τ).loc Cert.OutProjReferenceIdeal.main_arg9) = m' ((c.tc : Thread Cert.OutProjReferenceIdeal.nD Cert.OutProjReferenceIdeal.τ).loc Cert.OutProjReferenceIdeal.main_arg9))

def preserves_Mixers_MixersIdeal : Prop :=
  True

def algebraic_MixersIdeal_MixersReferenceIdeal [hMixersIdeal : Cert.MixersIdeal.Facts] [hMixersReferenceIdeal : Cert.MixersReferenceIdeal.Facts] : Prop :=
  ∀ (m : (ℓ : Loc Cert.MixersIdeal.nD Cert.MixersIdeal.τ Cert.MixersIdeal.sig) → Buf (Elt Ideal) ℓ) (g : Dev Cert.MixersIdeal.nD → PrngReg)
    (m' : (ℓ : Loc Cert.MixersReferenceIdeal.nD Cert.MixersReferenceIdeal.τ Cert.MixersReferenceIdeal.sig) → Buf (Elt Ideal) ℓ) (g' : Dev Cert.MixersReferenceIdeal.nD → PrngReg), Pre_MixersIdeal m →
    (∀ c : Dev Cert.MixersIdeal.nD,
      m' ((c.tc : Thread Cert.MixersReferenceIdeal.nD Cert.MixersReferenceIdeal.τ).loc Cert.MixersReferenceIdeal.main_arg0) = m ((c.tc : Thread Cert.MixersIdeal.nD Cert.MixersIdeal.τ).loc Cert.MixersIdeal.main_arg0)
      ∧ m' ((c.tc : Thread Cert.MixersReferenceIdeal.nD Cert.MixersReferenceIdeal.τ).loc Cert.MixersReferenceIdeal.main_arg1) = m ((c.tc : Thread Cert.MixersIdeal.nD Cert.MixersIdeal.τ).loc Cert.MixersIdeal.main_arg1)
      ∧ m' ((c.tc : Thread Cert.MixersReferenceIdeal.nD Cert.MixersReferenceIdeal.τ).loc Cert.MixersReferenceIdeal.main_arg2) = m ((c.tc : Thread Cert.MixersIdeal.nD Cert.MixersIdeal.τ).loc Cert.MixersIdeal.main_arg2)
      ∧ m' ((c.tc : Thread Cert.MixersReferenceIdeal.nD Cert.MixersReferenceIdeal.τ).loc Cert.MixersReferenceIdeal.main_arg3) = m ((c.tc : Thread Cert.MixersIdeal.nD Cert.MixersIdeal.τ).loc Cert.MixersIdeal.main_arg3)
      ∧ m' ((c.tc : Thread Cert.MixersReferenceIdeal.nD Cert.MixersReferenceIdeal.τ).loc Cert.MixersReferenceIdeal.main_arg4) = m ((c.tc : Thread Cert.MixersIdeal.nD Cert.MixersIdeal.τ).loc Cert.MixersIdeal.main_arg4)
      ∧ m' ((c.tc : Thread Cert.MixersReferenceIdeal.nD Cert.MixersReferenceIdeal.τ).loc Cert.MixersReferenceIdeal.main_arg5) = m ((c.tc : Thread Cert.MixersIdeal.nD Cert.MixersIdeal.τ).loc Cert.MixersIdeal.main_arg5)) →
    ∃ (v0 : (c : Dev Cert.MixersIdeal.nD) → Buf (Elt Ideal) ((c.tc : Thread Cert.MixersIdeal.nD Cert.MixersIdeal.τ).loc Cert.MixersIdeal.main_v3_0)) (v1 : (c : Dev Cert.MixersIdeal.nD) → Buf (Elt Ideal) ((c.tc : Thread Cert.MixersIdeal.nD Cert.MixersIdeal.τ).loc Cert.MixersIdeal.main_v3_1)),
      θ_run (Cert.MixersIdeal.defs (F := Ideal)) (onTc (τ := Cert.MixersIdeal.τ) (Cert.MixersIdeal.main (F := Ideal))) ⟨m, fun _ => 0, g⟩ (fun r => ∀ c : Dev Cert.MixersIdeal.nD,
          r.2.mem ((c.tc : Thread Cert.MixersIdeal.nD Cert.MixersIdeal.τ).loc Cert.MixersIdeal.main_v3_0) = v0 c
          ∧ r.2.mem ((c.tc : Thread Cert.MixersIdeal.nD Cert.MixersIdeal.τ).loc Cert.MixersIdeal.main_v3_1) = v1 c
          ∧ r.2.mem ((c.tc : Thread Cert.MixersIdeal.nD Cert.MixersIdeal.τ).loc Cert.MixersIdeal.main_arg0) = m ((c.tc : Thread Cert.MixersIdeal.nD Cert.MixersIdeal.τ).loc Cert.MixersIdeal.main_arg0)
          ∧ r.2.mem ((c.tc : Thread Cert.MixersIdeal.nD Cert.MixersIdeal.τ).loc Cert.MixersIdeal.main_arg1) = m ((c.tc : Thread Cert.MixersIdeal.nD Cert.MixersIdeal.τ).loc Cert.MixersIdeal.main_arg1)
          ∧ r.2.mem ((c.tc : Thread Cert.MixersIdeal.nD Cert.MixersIdeal.τ).loc Cert.MixersIdeal.main_arg2) = m ((c.tc : Thread Cert.MixersIdeal.nD Cert.MixersIdeal.τ).loc Cert.MixersIdeal.main_arg2)
          ∧ r.2.mem ((c.tc : Thread Cert.MixersIdeal.nD Cert.MixersIdeal.τ).loc Cert.MixersIdeal.main_arg3) = m ((c.tc : Thread Cert.MixersIdeal.nD Cert.MixersIdeal.τ).loc Cert.MixersIdeal.main_arg3)
          ∧ r.2.mem ((c.tc : Thread Cert.MixersIdeal.nD Cert.MixersIdeal.τ).loc Cert.MixersIdeal.main_arg4) = m ((c.tc : Thread Cert.MixersIdeal.nD Cert.MixersIdeal.τ).loc Cert.MixersIdeal.main_arg4)
          ∧ r.2.mem ((c.tc : Thread Cert.MixersIdeal.nD Cert.MixersIdeal.τ).loc Cert.MixersIdeal.main_arg5) = m ((c.tc : Thread Cert.MixersIdeal.nD Cert.MixersIdeal.τ).loc Cert.MixersIdeal.main_arg5))
      ∧ θ_run (Cert.MixersReferenceIdeal.defs (F := Ideal)) (onTc (τ := Cert.MixersReferenceIdeal.τ) (Cert.MixersReferenceIdeal.main (F := Ideal))) ⟨m', fun _ => 0, g'⟩ (fun r => ∀ c : Dev Cert.MixersReferenceIdeal.nD,
          r.2.mem ((c.tc : Thread Cert.MixersReferenceIdeal.nD Cert.MixersReferenceIdeal.τ).loc Cert.MixersReferenceIdeal.main_v289) = v0 c
          ∧ r.2.mem ((c.tc : Thread Cert.MixersReferenceIdeal.nD Cert.MixersReferenceIdeal.τ).loc Cert.MixersReferenceIdeal.main_v291) = v1 c
          ∧ r.2.mem ((c.tc : Thread Cert.MixersReferenceIdeal.nD Cert.MixersReferenceIdeal.τ).loc Cert.MixersReferenceIdeal.main_arg0) = m' ((c.tc : Thread Cert.MixersReferenceIdeal.nD Cert.MixersReferenceIdeal.τ).loc Cert.MixersReferenceIdeal.main_arg0)
          ∧ r.2.mem ((c.tc : Thread Cert.MixersReferenceIdeal.nD Cert.MixersReferenceIdeal.τ).loc Cert.MixersReferenceIdeal.main_arg1) = m' ((c.tc : Thread Cert.MixersReferenceIdeal.nD Cert.MixersReferenceIdeal.τ).loc Cert.MixersReferenceIdeal.main_arg1)
          ∧ r.2.mem ((c.tc : Thread Cert.MixersReferenceIdeal.nD Cert.MixersReferenceIdeal.τ).loc Cert.MixersReferenceIdeal.main_arg2) = m' ((c.tc : Thread Cert.MixersReferenceIdeal.nD Cert.MixersReferenceIdeal.τ).loc Cert.MixersReferenceIdeal.main_arg2)
          ∧ r.2.mem ((c.tc : Thread Cert.MixersReferenceIdeal.nD Cert.MixersReferenceIdeal.τ).loc Cert.MixersReferenceIdeal.main_arg3) = m' ((c.tc : Thread Cert.MixersReferenceIdeal.nD Cert.MixersReferenceIdeal.τ).loc Cert.MixersReferenceIdeal.main_arg3)
          ∧ r.2.mem ((c.tc : Thread Cert.MixersReferenceIdeal.nD Cert.MixersReferenceIdeal.τ).loc Cert.MixersReferenceIdeal.main_arg4) = m' ((c.tc : Thread Cert.MixersReferenceIdeal.nD Cert.MixersReferenceIdeal.τ).loc Cert.MixersReferenceIdeal.main_arg4)
          ∧ r.2.mem ((c.tc : Thread Cert.MixersReferenceIdeal.nD Cert.MixersReferenceIdeal.τ).loc Cert.MixersReferenceIdeal.main_arg5) = m' ((c.tc : Thread Cert.MixersReferenceIdeal.nD Cert.MixersReferenceIdeal.τ).loc Cert.MixersReferenceIdeal.main_arg5))

def preserves_Combine_CombineIdeal : Prop :=
  True

def algebraic_CombineIdeal_CombineReferenceIdeal [hCombineIdeal : Cert.CombineIdeal.Facts] [hCombineReferenceIdeal : Cert.CombineReferenceIdeal.Facts] [hPre_placed : Cert.Pre_placed.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)) →
    ∃ (v0 : (c : Dev Cert.CombineIdeal.nD) → Buf (Elt Ideal) ((c.tc : Thread Cert.CombineIdeal.nD Cert.CombineIdeal.τ).loc Cert.CombineIdeal.main_v4)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v4) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v21) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hOutProj : Cert.OutProj.Facts) (hOutProjIdeal : Cert.OutProjIdeal.Facts) (hOutProjReferenceIdeal : Cert.OutProjReferenceIdeal.Facts) (hMixers : Cert.Mixers.Facts) (hMixersIdeal : Cert.MixersIdeal.Facts) (hMixersReferenceIdeal : Cert.MixersReferenceIdeal.Facts) (hCombine : Cert.Combine.Facts) (hCombineIdeal : Cert.CombineIdeal.Facts) (hCombineReferenceIdeal : Cert.CombineReferenceIdeal.Facts) (hPre_finite : Cert.Pre_finite.Facts) (hPre_placed : Cert.Pre_placed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_InProjReferenceIdeal (hInProjReferenceIdeal := hInProjReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_Mixers (hMixers := hMixers)
    ∧ quiescent_MixersIdeal (hMixersIdeal := hMixersIdeal)
    ∧ quiescent_MixersReferenceIdeal (hMixersReferenceIdeal := hMixersReferenceIdeal)
    ∧ quiescent_Combine (hCombine := hCombine) (hPre_placed := hPre_placed)
    ∧ quiescent_CombineIdeal (hCombineIdeal := hCombineIdeal) (hPre_placed := hPre_placed)
    ∧ quiescent_CombineReferenceIdeal (hCombineReferenceIdeal := hCombineReferenceIdeal)
    ∧ quiescent_CombineReferenceIdeal_pre_placed (hCombineReferenceIdeal := hCombineReferenceIdeal) (hPre_placed := hPre_placed)
    ∧ preserves_Kernel_KernelIdeal
    ∧ algebraic_KernelIdeal_ReferenceIdeal_pre_finite (hKernelIdeal := hKernelIdeal) (hReferenceIdeal := hReferenceIdeal) (hPre_finite := hPre_finite)
    ∧ preserves_InProj_InProjIdeal
    ∧ algebraic_InProjIdeal_InProjReferenceIdeal (hInProjIdeal := hInProjIdeal) (hInProjReferenceIdeal := hInProjReferenceIdeal)
    ∧ preserves_OutProj_OutProjIdeal
    ∧ algebraic_OutProjIdeal_OutProjReferenceIdeal (hOutProjIdeal := hOutProjIdeal) (hOutProjReferenceIdeal := hOutProjReferenceIdeal)
    ∧ preserves_Mixers_MixersIdeal
    ∧ algebraic_MixersIdeal_MixersReferenceIdeal (hMixersIdeal := hMixersIdeal) (hMixersReferenceIdeal := hMixersReferenceIdeal)
    ∧ preserves_Combine_CombineIdeal
    ∧ algebraic_CombineIdeal_CombineReferenceIdeal (hCombineIdeal := hCombineIdeal) (hCombineReferenceIdeal := hCombineReferenceIdeal) (hPre_placed := hPre_placed)
-- ==== Pre_finite.lean ====
abbrev S16384x5632 : Shape := ⟨2, ![16384, 5632]⟩
abbrev S_ : Shape := ⟨0, ![]⟩

class Facts : Prop where
  bitsLt_bf16_f32 : FTy.bits .bf16 < FTy.bits .f32
  bcast_S_S16384x5632 : S_.BroadcastsInDim S16384x5632 (![] : Fin 0 → Fin S16384x5632.rank)

variable [Facts]

def fn {F : FTy → Type} [FloatOps F] (main_arg0 : FVec F S16384x5632 .bf16) : IVec S16384x5632 1 :=
  let main_v0 : FVec F S16384x5632 .f32 := (extf .f32 · bitsLt_bf16_f32) main_arg0
  let main_v1 : FVec F S16384x5632 .f32 := Host.absf main_v0
  let main_cst : FVec F S_ .f32 := constant S_ .f32 0x7F800000#32
  let main_v2 : FVec F S16384x5632 .f32 := broadcastInDim S16384x5632 ![] bcast_S_S16384x5632 main_cst
  let main_v3 : IVec S16384x5632 1 := cmpf .olt main_v1 main_v2
  main_v3
-- ==== Pre_placed.lean ====
abbrev S16384x2048 : Shape := ⟨2, ![16384, 2048]⟩
abbrev S40960x2048 : Shape := ⟨2, ![40960, 2048]⟩
abbrev S16384x2 : Shape := ⟨2, ![16384, 2]⟩
abbrev S2048 : Shape := ⟨1, ![2048]⟩
abbrev S_ : Shape := ⟨0, ![]⟩

class Facts : Prop where
  bcast_S_S16384x2 : S_.BroadcastsInDim S16384x2 (![] : Fin 0 → Fin S16384x2.rank)

variable [Facts]

def fn {F : FTy → Type} [FloatOps F] (main_arg0 : FVec F S16384x2048 .f32) (main_arg1 : FVec F S40960x2048 .f32) (main_arg2 : IVec S16384x2 32) (main_arg3 : FVec F S2048 .f32) : IVec S16384x2 1 :=
  let main_c : IVec S_ 32 := constantI S_ 32 0#32
  let main_v0 : IVec S16384x2 32 := broadcastInDim S16384x2 ![] bcast_S_S16384x2 main_c
  let main_v1 : IVec S16384x2 1 := cmpi .sge main_arg2 main_v0
  let main_c_0 : IVec S_ 32 := constantI S_ 32 40960#32
  let main_v2 : IVec S16384x2 32 := broadcastInDim S16384x2 ![] bcast_S_S16384x2 main_c_0
  let main_v3 : IVec S16384x2 1 := cmpi .slt main_arg2 main_v2
  let main_v4 : IVec S16384x2 1 := andi main_v1 main_v3
  main_v4
-- ==== Kernel.lean ====
abbrev S16384x5632 : Shape := ⟨2, ![16384, 5632]⟩
abbrev S8 : Shape := ⟨1, ![8]⟩
abbrev S_ : Shape := ⟨0, ![]⟩
abbrev S16384x1024 : Shape := ⟨2, ![16384, 1024]⟩
abbrev S256x128 : Shape := ⟨2, ![256, 128]⟩
abbrev S4096x128 : Shape := ⟨2, ![4096, 128]⟩
abbrev S128x128 : Shape := ⟨2, ![128, 128]⟩
abbrev S1 : Shape := ⟨1, ![1]⟩
abbrev S16x256x128 : Shape := ⟨3, ![16, 256, 128]⟩
abbrev S16x128 : Shape := ⟨2, ![16, 128]⟩
abbrev S256x1 : Shape := ⟨2, ![256, 1]⟩
abbrev S256x256 : Shape := ⟨2, ![256, 256]⟩
abbrev S256 : Shape := ⟨1, ![256]⟩

abbrev nBuf : Space → Nat
  | .hbm => 16
  | .vmem => 10
  | .smem => 1
  | _ => 0

abbrev bufTy : (tb : Table) → Fin (tcTables nBuf tb) → BufTy
  | .hbm, ⟨0, _⟩ => ⟨S16384x5632, .bf16⟩
  | .hbm, ⟨1, _⟩ => ⟨S8, .f32⟩
  | .hbm, ⟨2, _⟩ => ⟨S_, .f32⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S16384x1024, .bf16⟩
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x128, .bf16⟩
  | .local _ .vmem, ⟨7, _⟩ => ⟨S256x128, .bf16⟩
  | .local _ .vmem, ⟨8, _⟩ => ⟨S128x128, .bf16⟩
  | .local _ .vmem, ⟨9, _⟩ => ⟨S128x128, .bf16⟩
  | .local _ .smem, ⟨0, _⟩ => ⟨S8, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 8, 16], ![false, false, false]⟩

def k0_off1 (i : grid0.Coords) : Fin 1 → Nat :=
  let arg1 : BitVec 32 := BitVec.ofNat 32 (i 1).val
  let v0 : Index := Scalar.indexCast arg1
  ![v0.toNat]
def k0_mult1 (i : grid0.Coords) : BitVec 32 :=
  let arg2 : BitVec 32 := BitVec.ofNat 32 (i 2).val
  let c256_i32 : BitVec 32 := 256#32
  let v285 : BitVec 32 := Scalar.muli arg2 c256_i32
  v285
def k0_off2 (i : grid0.Coords) : Fin 2 → Nat :=
  let arg2 : BitVec 32 := BitVec.ofNat 32 (i 2).val
  let c256_i32 : BitVec 32 := 256#32
  let v285 : BitVec 32 := Scalar.muli arg2 c256_i32
  let v286 : BitVec 32 := v285
  let v287 : Index := Scalar.indexCast v286
  let c0_61 : Index := 0#32
  ![v287.toNat, 0]
@[reducible] def k0_t1_loop (i : grid0.Coords) : Scf.Loop 32 :=
  let c0_i32_69 : BitVec 32 := 0#32
  let arg2 : BitVec 32 := BitVec.ofNat 32 (i 2).val
  let v307 : BitVec 32 := Scalar.subi arg2 c0_i32_69
  let c1_i32_70 : BitVec 32 := 1#32
  let v309 : BitVec 32 := Scalar.divsi v307 c1_i32_70
  let v310 : BitVec 32 := Scalar.muli v309 c1_i32_70
  let v311 : BitVec 32 := Scalar.addi c0_i32_69 v310
  let c1_i32_71 : BitVec 32 := 1#32
  ⟨c0_i32_69, v311, c1_i32_71⟩
def k0_mult2 (i : grid0.Coords) (k0_t1 : Fin (k0_t1_loop i).trips) : BitVec 32 :=
  let c0_i32_69 : BitVec 32 := 0#32
  let c1_i32_71 : BitVec 32 := 1#32
  let arg10 : BitVec 32 := Scf.iv c0_i32_69 c1_i32_71 k0_t1
  let c256_i32_75 : BitVec 32 := 256#32
  let v318 : BitVec 32 := Scalar.muli arg10 c256_i32_75
  v318
def k0_off3 (i : grid0.Coords) (k0_t1 : Fin (k0_t1_loop i).trips) : Fin 2 → Nat :=
  let c0_i32_69 : BitVec 32 := 0#32
  let c1_i32_71 : BitVec 32 := 1#32
  let arg10 : BitVec 32 := Scf.iv c0_i32_69 c1_i32_71 k0_t1
  let c256_i32_75 : BitVec 32 := 256#32
  let v318 : BitVec 32 := Scalar.muli arg10 c256_i32_75
  let v319 : BitVec 32 := v318
  let v320 : Index := Scalar.indexCast v319
  let c0_76 : Index := 0#32
  ![v320.toNat, 0]
@[reducible] def k0_t2_loop (i : grid0.Coords) : Scf.Loop 32 :=
  let c0_i32_69 : BitVec 32 := 0#32
  let arg2 : BitVec 32 := BitVec.ofNat 32 (i 2).val
  let v307 : BitVec 32 := Scalar.subi arg2 c0_i32_69
  let c1_i32_70 : BitVec 32 := 1#32
  let v309 : BitVec 32 := Scalar.divsi v307 c1_i32_70
  let v310 : BitVec 32 := Scalar.muli v309 c1_i32_70
  let v311 : BitVec 32 := Scalar.addi c0_i32_69 v310
  let v308 : BitVec 32 := Scalar.addi c0_i32_69 v307
  let c1_i32_72 : BitVec 32 := 1#32
  ⟨v311, v308, c1_i32_72⟩
def k0_mult3 (i : grid0.Coords) (k0_t2 : Fin (k0_t2_loop i).trips) : BitVec 32 :=
  let c0_i32_69 : BitVec 32 := 0#32
  let arg2 : BitVec 32 := BitVec.ofNat 32 (i 2).val
  let v307 : BitVec 32 := Scalar.subi arg2 c0_i32_69
  let c1_i32_70 : BitVec 32 := 1#32
  let v309 : BitVec 32 := Scalar.divsi v307 c1_i32_70
  let v310 : BitVec 32 := Scalar.muli v309 c1_i32_70
  let v311 : BitVec 32 := Scalar.addi c0_i32_69 v310
  let c1_i32_72 : BitVec 32 := 1#32
  let arg10 : BitVec 32 := Scf.iv v311 c1_i32_72 k0_t2
  let c256_i32_75 : BitVec 32 := 256#32
  let v318 : BitVec 32 := Scalar.muli arg10 c256_i32_75
  v318
def k0_off4 (i : grid0.Coords) (k0_t2 : Fin (k0_t2_loop i).trips) : Fin 2 → Nat :=
  let c0_i32_69 : BitVec 32 := 0#32
  let arg2 : BitVec 32 := BitVec.ofNat 32 (i 2).val
  let v307 : BitVec 32 := Scalar.subi arg2 c0_i32_69
  let c1_i32_70 : BitVec 32 := 1#32
  let v309 : BitVec 32 := Scalar.divsi v307 c1_i32_70
  let v310 : BitVec 32 := Scalar.muli v309 c1_i32_70
  let v311 : BitVec 32 := Scalar.addi c0_i32_69 v310
  let c1_i32_72 : BitVec 32 := 1#32
  let arg10 : BitVec 32 := Scf.iv v311 c1_i32_72 k0_t2
  let c256_i32_75 : BitVec 32 := 256#32
  let v318 : BitVec 32 := Scalar.muli arg10 c256_i32_75
  let v319 : BitVec 32 := v318
  let v320 : Index := Scalar.indexCast v319
  let c0_76 : Index := 0#32
  ![v320.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c12_i32 : BitVec 32 := 12#32
  let v2 : BitVec 32 := Scalar.addi c12_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c28_i32 : BitVec 32 := 28#32
  let v0 : BitVec 32 := Scalar.addi c28_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16384x5632 : Shape := ⟨2, ![16384, 5632]⟩
abbrev S4x4096x5632 : Shape := ⟨3, ![4, 4096, 5632]⟩
abbrev S4x4096x1024 : Shape := ⟨3, ![4, 4096, 1024]⟩
abbrev S4x4096x8x128 : Shape := ⟨4, ![4, 4096, 8, 128]⟩
abbrev S4x8x4096x128 : Shape := ⟨4, ![4, 8, 4096, 128]⟩
abbrev S_ : Shape := ⟨0, ![]⟩
abbrev S4x8x16x256x128 : Shape := ⟨5, ![4, 8, 16, 256, 128]⟩
abbrev S4x8x16x128 : Shape := ⟨4, ![4, 8, 16, 128]⟩
abbrev S4096 : Shape := ⟨1, ![4096]⟩
abbrev S4x8x4096x16 : Shape := ⟨4, ![4, 8, 4096, 16]⟩
abbrev S16 : Shape := ⟨1, ![16]⟩
abbrev S1x16 : Shape := ⟨2, ![1, 16]⟩
abbrev S4096x1 : Shape := ⟨2, ![4096, 1]⟩
abbrev S4096x16 : Shape := ⟨2, ![4096, 16]⟩
abbrev S4x8x4096x3 : Shape := ⟨4, ![4, 8, 4096, 3]⟩
abbrev S8 : Shape := ⟨1, ![8]⟩
abbrev S4x8x4096x3x1 : Shape := ⟨5, ![4, 8, 4096, 3, 1]⟩
abbrev S4x8x4096x3x256x128 : Shape := ⟨6, ![4, 8, 4096, 3, 256, 128]⟩
abbrev S256 : Shape := ⟨1, ![256]⟩
abbrev S1x1x1x1x256 : Shape := ⟨5, ![1, 1, 1, 1, 256]⟩
abbrev S4x8x4096x3x256 : Shape := ⟨5, ![4, 8, 4096, 3, 256]⟩
abbrev S3 : Shape := ⟨1, ![3]⟩
abbrev S1x3 : Shape := ⟨2, ![1, 3]⟩
abbrev S4096x3 : Shape := ⟨2, ![4096, 3]⟩
abbrev S8x1x1x1 : Shape := ⟨4, ![8, 1, 1, 1]⟩
abbrev S4096x1x1 : Shape := ⟨3, ![4096, 1, 1]⟩
abbrev S1x1x4096x1x1 : Shape := ⟨5, ![1, 1, 4096, 1, 1]⟩
abbrev S1x8x1x1x1 : Shape := ⟨5, ![1, 8, 1, 1, 1]⟩
abbrev S4096x3x1 : Shape := ⟨3, ![4096, 3, 1]⟩
abbrev S4x8x16x256x256 : Shape := ⟨5, ![4, 8, 16, 256, 256]⟩
abbrev S256x1 : Shape := ⟨2, ![256, 1]⟩
abbrev S1x256 : Shape := ⟨2, ![1, 256]⟩
abbrev S256x256 : Shape := ⟨2, ![256, 256]⟩
abbrev S1x1x256x256 : Shape := ⟨4, ![1, 1, 256, 256]⟩
abbrev S8x1x256x256 : Shape := ⟨4, ![8, 1, 256, 256]⟩
abbrev S1x8x1x256x256 : Shape := ⟨5, ![1, 8, 1, 256, 256]⟩
abbrev S4x8x4096x768 : Shape := ⟨4, ![4, 8, 4096, 768]⟩
abbrev S4x8x4096x256 : Shape := ⟨4, ![4, 8, 4096, 256]⟩
abbrev S4x8x4096x1024 : Shape := ⟨4, ![4, 8, 4096, 1024]⟩
abbrev S4x8x4096 : Shape := ⟨3, ![4, 8, 4096]⟩
abbrev S4x8x4096x1 : Shape := ⟨4, ![4, 8, 4096, 1]⟩
abbrev S16384x1024 : Shape := ⟨2, ![16384, 1024]⟩

abbrev nBuf : Space → Nat
  | .hbm => 174
  | .vmem => 0
  | .smem => 0
  | _ => 0

abbrev hbmTy0_0 (i : Nat) : BufTy := match i % 128 with
  | 0 => ⟨S16384x5632, .bf16⟩
  | 1 => ⟨S16384x5632, .f32⟩
  | 2 => ⟨S4x4096x5632, .f32⟩
  | 3 => ⟨S4x4096x1024, .f32⟩
  | 4 => ⟨S4x4096x1024, .f32⟩
  | 5 => ⟨S4x4096x1024, .f32⟩
  | 6 => ⟨S4x4096x8x128, .f32⟩
  | 7 => ⟨S4x8x4096x128, .f32⟩
  | 8 => ⟨S_, .f32⟩
  | 9 => ⟨S4x8x4096x128, .f32⟩
  | 10 => ⟨S4x8x4096x128, .f32⟩
  | 11 => ⟨S4x4096x8x128, .f32⟩
  | 12 => ⟨S4x8x4096x128, .f32⟩
  | 13 => ⟨S4x4096x8x128, .f32⟩
  | 14 => ⟨S4x8x4096x128, .f32⟩
  | 15 => ⟨S4x8x16x256x128, .f32⟩
  | 16 => ⟨S4x8x16x256x128, .f32⟩
  | 17 => ⟨S_, .f32⟩
  | 18 => ⟨S4x8x16x128, .f32⟩
  | 19 => ⟨S_, .f32⟩
  | 20 => ⟨S4x8x16x128, .f32⟩
  | 21 => ⟨S4x8x16x128, .f32⟩
  | 22 => ⟨S4096, .i32⟩
  | 23 => ⟨S_, .i32⟩
  | 24 => ⟨S_, .i32⟩
  | 25 => ⟨S4096, .i32⟩
  | 26 => ⟨S4096, .i32⟩
  | 27 => ⟨S4096, .i32⟩
  | 28 => ⟨S_, .i32⟩
  | 29 => ⟨S4096, .i32⟩
  | 30 => ⟨S4096, .i1⟩
  | 31 => ⟨S4096, .i32⟩
  | 32 => ⟨S4096, .i32⟩
  | 33 => ⟨S_, .i32⟩
  | 34 => ⟨S4096, .i32⟩
  | 35 => ⟨S4096, .i1⟩
  | 36 => ⟨S4096, .i1⟩
  | 37 => ⟨S_, .i32⟩
  | 38 => ⟨S4096, .i32⟩
  | 39 => ⟨S4096, .i32⟩
  | 40 => ⟨S4096, .i32⟩
  | 41 => ⟨S4x8x4096x16, .f32⟩
  | 42 => ⟨S16, .i32⟩
  | 43 => ⟨S1x16, .i32⟩
  | 44 => ⟨S4096x1, .i32⟩
  | 45 => ⟨S4096x16, .i32⟩
  | 46 => ⟨S4096x16, .i32⟩
  | 47 => ⟨S4096x16, .i1⟩
  | 48 => ⟨S_, .f32⟩
  | 49 => ⟨S_, .f32⟩
  | 50 => ⟨S4x8x4096x16, .i1⟩
  | 51 => ⟨S4x8x4096x16, .f32⟩
  | 52 => ⟨S4x8x4096x16, .f32⟩
  | 53 => ⟨S4x8x4096x3, .f32⟩
  | 54 => ⟨S4x8x4096x3, .i32⟩
  | 55 => ⟨S8, .f32⟩
  | 56 => ⟨S_, .f32⟩
  | 57 => ⟨S8, .f32⟩
  | 58 => ⟨S8, .f32⟩
  | 59 => ⟨S_, .f32⟩
  | 60 => ⟨S8, .f32⟩
  | 61 => ⟨S8, .f32⟩
  | 62 => ⟨S_, .f32⟩
  | 63 => ⟨S8, .f32⟩
  | 64 => ⟨S8, .f32⟩
  | 65 => ⟨S_, .f32⟩
  | 66 => ⟨S8, .f32⟩
  | 67 => ⟨S8, .f32⟩
  | 68 => ⟨S8, .f32⟩
  | 69 => ⟨S_, .i32⟩
  | 70 => ⟨S4x8x4096x3, .i32⟩
  | 71 => ⟨S4x8x4096x3, .i1⟩
  | 72 => ⟨S_, .i32⟩
  | 73 => ⟨S4x8x4096x3, .i32⟩
  | 74 => ⟨S4x8x4096x3, .i32⟩
  | 75 => ⟨S4x8x4096x3, .i32⟩
  | 76 => ⟨S4x8x4096x3x1, .i32⟩
  | 77 => ⟨S4x8x4096x3x256x128, .f32⟩
  | 78 => ⟨S_, .i32⟩
  | 79 => ⟨S4x8x4096x3, .i32⟩
  | 80 => ⟨S4x8x4096x3, .i1⟩
  | 81 => ⟨S_, .i32⟩
  | 82 => ⟨S4x8x4096x3, .i32⟩
  | 83 => ⟨S4x8x4096x3, .i32⟩
  | 84 => ⟨S4x8x4096x3, .i32⟩
  | 85 => ⟨S4x8x4096x3x1, .i32⟩
  | 86 => ⟨S4x8x4096x3x256x128, .f32⟩
  | 87 => ⟨S4x8x4096x3x1, .i32⟩
  | 88 => ⟨S_, .i32⟩
  | 89 => ⟨S4x8x4096x3x1, .i32⟩
  | 90 => ⟨S4x8x4096x3x1, .i32⟩
  | 91 => ⟨S256, .i32⟩
  | 92 => ⟨S1x1x1x1x256, .i32⟩
  | 93 => ⟨S4x8x4096x3x256, .i32⟩
  | 94 => ⟨S4x8x4096x3x256, .i32⟩
  | 95 => ⟨S4x8x4096x3x256, .i32⟩
  | 96 => ⟨S3, .i32⟩
  | 97 => ⟨S1x3, .i32⟩
  | 98 => ⟨S4096x1, .i32⟩
  | 99 => ⟨S4096x3, .i32⟩
  | 100 => ⟨S4096x3, .i32⟩
  | 101 => ⟨S4096x3, .i1⟩
  | 102 => ⟨S4x8x4096x3x256, .f32⟩
  | 103 => ⟨S8x1x1x1, .f32⟩
  | 104 => ⟨S4096x1x1, .i32⟩
  | 105 => ⟨S1x1x4096x1x1, .i32⟩
  | 106 => ⟨S4x8x4096x3x256, .i32⟩
  | 107 => ⟨S4x8x4096x3x256, .i32⟩
  | 108 => ⟨S4x8x4096x3x256, .f32⟩
  | 109 => ⟨S1x8x1x1x1, .f32⟩
  | 110 => ⟨S4x8x4096x3x256, .f32⟩
  | 111 => ⟨S4x8x4096x3x256, .f32⟩
  | 112 => ⟨S4x8x4096x3x256, .f32⟩
  | 113 => ⟨S4096x3x1, .i1⟩
  | 114 => ⟨S_, .f32⟩
  | 115 => ⟨S_, .f32⟩
  | 116 => ⟨S4x8x4096x3x256, .i1⟩
  | 117 => ⟨S4x8x4096x3x256, .f32⟩
  | 118 => ⟨S4x8x4096x3x256, .f32⟩
  | 119 => ⟨S4x8x16x256x128, .f32⟩
  | 120 => ⟨S256, .i32⟩
  | 121 => ⟨S4x8x16x256x256, .f32⟩
  | 122 => ⟨S8x1x1x1, .f32⟩
  | 123 => ⟨S256x1, .i32⟩
  | 124 => ⟨S1x256, .i32⟩
  | 125 => ⟨S256x256, .i32⟩
  | 126 => ⟨S256x256, .i32⟩
  | 127 => ⟨S256x256, .i32⟩
  | _ => ⟨S16384x5632, .bf16⟩

abbrev hbmTy0_1 (i : Nat) : BufTy := match i % 128 with
  | 0 => ⟨S256x256, .f32⟩
  | 1 => ⟨S1x1x256x256, .f32⟩
  | 2 => ⟨S8x1x256x256, .f32⟩
  | 3 => ⟨S8x1x256x256, .f32⟩
  | 4 => ⟨S8x1x256x256, .f32⟩
  | 5 => ⟨S1x8x1x256x256, .f32⟩
  | 6 => ⟨S4x8x16x256x256, .f32⟩
  | 7 => ⟨S4x8x16x256x256, .f32⟩
  | 8 => ⟨S1x256, .i32⟩
  | 9 => ⟨S256x1, .i32⟩
  | 10 => ⟨S256x256, .i32⟩
  | 11 => ⟨S256x256, .i32⟩
  | 12 => ⟨S256x256, .i1⟩
  | 13 => ⟨S_, .f32⟩
  | 14 => ⟨S_, .f32⟩
  | 15 => ⟨S4x8x16x256x256, .i1⟩
  | 16 => ⟨S4x8x16x256x256, .f32⟩
  | 17 => ⟨S4x8x16x256x256, .f32⟩
  | 18 => ⟨S4x8x4096x768, .f32⟩
  | 19 => ⟨S4x8x4096x256, .f32⟩
  | 20 => ⟨S4x8x4096x1024, .f32⟩
  | 21 => ⟨S_, .f32⟩
  | 22 => ⟨S4x8x4096, .f32⟩
  | 23 => ⟨S_, .f32⟩
  | 24 => ⟨S4x8x4096, .f32⟩
  | 25 => ⟨S4x8x4096, .f32⟩
  | 26 => ⟨S4x8x4096x1, .f32⟩
  | 27 => ⟨S4x8x4096x1024, .f32⟩
  | 28 => ⟨S4x8x4096x1024, .f32⟩
  | 29 => ⟨S4x8x4096x1024, .f32⟩
  | 30 => ⟨S_, .f32⟩
  | 31 => ⟨S4x8x4096, .f32⟩
  | 32 => ⟨S4x8x4096x1, .f32⟩
  | 33 => ⟨S4x8x4096x1024, .f32⟩
  | 34 => ⟨S4x8x4096x1024, .f32⟩
  | 35 => ⟨S4x8x4096x768, .f32⟩
  | 36 => ⟨S4x8x4096x3x256, .f32⟩
  | 37 => ⟨S4x8x4096x256, .f32⟩
  | 38 => ⟨S4x8x16x256x256, .f32⟩
  | 39 => ⟨S4x8x4096x128, .f32⟩
  | 40 => ⟨S4x8x16x256x128, .f32⟩
  | 41 => ⟨S4x8x4096x128, .f32⟩
  | 42 => ⟨S4x8x4096x128, .f32⟩
  | 43 => ⟨S4x4096x8x128, .f32⟩
  | 44 => ⟨S16384x1024, .f32⟩
  | 45 => ⟨S16384x1024, .bf16⟩
  | _ => ⟨S16384x5632, .bf16⟩

abbrev hbmTy (i : Nat) : BufTy := match i / 128 with
  | 0 => hbmTy0_0 i
  | 1 => hbmTy0_1 i
  | _ => ⟨S16384x5632, .bf16⟩

abbrev bufTy : (tb : Table) → Fin (tcTables nBuf tb) → BufTy
  | .hbm, ⟨i, _⟩ => hbmTy i
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst_0 : Ref sig .tc := ⟨.hbm, 17, rfl⟩
abbrev main_v15 : Ref sig .tc := ⟨.hbm, 18, rfl⟩
abbrev main_cst_1 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_2 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v27 : Ref sig .tc := ⟨.hbm, 52, rfl⟩
abbrev main_values : Ref sig .tc := ⟨.hbm, 53, rfl⟩
abbrev main_indices : Ref sig .tc := ⟨.hbm, 54, rfl⟩
abbrev main_v28 : Ref sig .tc := ⟨.hbm, 55, rfl⟩
abbrev main_cst_3 : Ref sig .tc := ⟨.hbm, 56, rfl⟩
abbrev main_v29 : Ref sig .tc := ⟨.hbm, 57, rfl⟩
abbrev main_v30 : Ref sig .tc := ⟨.hbm, 58, rfl⟩
abbrev main_cst_4 : Ref sig .tc := ⟨.hbm, 59, rfl⟩
abbrev main_v31 : Ref sig .tc := ⟨.hbm, 60, rfl⟩
abbrev main_v32 : Ref sig .tc := ⟨.hbm, 61, rfl⟩
abbrev main_cst_5 : Ref sig .tc := ⟨.hbm, 62, rfl⟩
abbrev main_v33 : Ref sig .tc := ⟨.hbm, 63, rfl⟩
abbrev main_v34 : Ref sig .tc := ⟨.hbm, 64, rfl⟩
abbrev main_cst_6 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_c_7 : Ref sig .tc := ⟨.hbm, 69, rfl⟩
abbrev main_v38 : Ref sig .tc := ⟨.hbm, 70, rfl⟩
abbrev main_v39 : Ref sig .tc := ⟨.hbm, 71, rfl⟩
abbrev main_c_8 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_c_9 : Ref sig .tc := ⟨.hbm, 78, rfl⟩
abbrev main_v45 : Ref sig .tc := ⟨.hbm, 79, rfl⟩
abbrev main_v46 : Ref sig .tc := ⟨.hbm, 80, rfl⟩
abbrev main_c_10 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_c_11 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_12 : Ref sig .tc := ⟨.hbm, 114, rfl⟩
abbrev main_call2_v0 : Ref sig .tc := ⟨.hbm, 115, rfl⟩
abbrev main_call2_v1 : Ref sig .tc := ⟨.hbm, 116, rfl⟩
abbrev main_call2_v2 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_13 : Ref sig .tc := ⟨.hbm, 141, rfl⟩
abbrev main_call3_v0 : Ref sig .tc := ⟨.hbm, 142, rfl⟩
abbrev main_call3_v1 : Ref sig .tc := ⟨.hbm, 143, rfl⟩
abbrev main_call3_v2 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_14 : Ref sig .tc := ⟨.hbm, 149, rfl⟩
abbrev main_v105 : Ref sig .tc := ⟨.hbm, 150, rfl⟩
abbrev main_cst_15 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_cst_16 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩

abbrev nD : Nat := 1
abbrev τ : Topo := Topo.v7x

variable {F : FTy → Type} [FloatOps F]
-- ==== InProj.lean ====
abbrev S16384x2048 : Shape := ⟨2, ![16384, 2048]⟩
abbrev S2048 : Shape := ⟨1, ![2048]⟩
abbrev S2048x5632 : Shape := ⟨2, ![2048, 5632]⟩
abbrev S1x2048 : Shape := ⟨2, ![1, 2048]⟩
abbrev S16384x5632 : Shape := ⟨2, ![16384, 5632]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .f32⟩
  | .hbm, ⟨3, _⟩ => ⟨S2048x5632, .bf16⟩
  | .hbm, ⟨4, _⟩ => ⟨S1x2048, .f32⟩
  | .hbm, ⟨5, _⟩ => ⟨S16384x5632, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .bf16⟩
  | .local _ .vmem, ⟨6, _⟩ => ⟨S1024x512, .bf16⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjReferenceIdeal.lean ====
abbrev S16384x2048 : Shape := ⟨2, ![16384, 2048]⟩
abbrev S2048 : Shape := ⟨1, ![2048]⟩
abbrev S2048x5632 : Shape := ⟨2, ![2048, 5632]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x5632 : Shape := ⟨2, ![16384, 5632]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x5632, .f32⟩
  | .hbm, ⟨20, _⟩ => ⟨S16384x5632, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== OutProj.lean ====
abbrev S16384x2048 : Shape := ⟨2, ![16384, 2048]⟩
abbrev S16384x512 : Shape := ⟨2, ![16384, 512]⟩
abbrev S16384x1024 : Shape := ⟨2, ![16384, 1024]⟩
abbrev S2048x2048 : Shape := ⟨2, ![2048, 2048]⟩
abbrev S2048 : Shape := ⟨1, ![2048]⟩
abbrev S2048x4 : Shape := ⟨2, ![2048, 4]⟩
abbrev S2048x32 : Shape := ⟨2, ![2048, 32]⟩
abbrev S4 : Shape := ⟨1, ![4]⟩
abbrev S32 : Shape := ⟨1, ![32]⟩
abbrev S2048x36 : Shape := ⟨2, ![2048, 36]⟩
abbrev S_ : Shape := ⟨0, ![]⟩
abbrev S2048x128 : Shape := ⟨2, ![2048, 128]⟩
abbrev S36 : Shape := ⟨1, ![36]⟩
abbrev S128 : Shape := ⟨1, ![128]⟩
abbrev S1x128 : Shape := ⟨2, ![1, 128]⟩
abbrev S1x2048 : Shape := ⟨2, ![1, 2048]⟩
abbrev S16384x128 : Shape := ⟨2, ![16384, 128]⟩
abbrev S256x2048 : Shape := ⟨2, ![256, 2048]⟩
abbrev S256x512 : Shape := ⟨2, ![256, 512]⟩
abbrev S256x1024 : Shape := ⟨2, ![256, 1024]⟩
abbrev S256x128 : Shape := ⟨2, ![256, 128]⟩
abbrev S512x2048 : Shape := ⟨2, ![512, 2048]⟩
abbrev S1024x2048 : Shape := ⟨2, ![1024, 2048]⟩
abbrev S256 : Shape := ⟨1, ![256]⟩
abbrev S256x1 : Shape := ⟨2, ![256, 1]⟩

abbrev nBuf : Space → Nat
  | .hbm => 25
  | .vmem => 18
  | .smem => 0
  | _ => 0

abbrev bufTy : (tb : Table) → Fin (tcTables nBuf tb) → BufTy
  | .hbm, ⟨0, _⟩ => ⟨S16384x2048, .f32⟩
  | .hbm, ⟨1, _⟩ => ⟨S16384x512, .bf16⟩
  | .hbm, ⟨2, _⟩ => ⟨S16384x1024, .bf16⟩
  | .hbm, ⟨3, _⟩ => ⟨S16384x512, .bf16⟩
  | .hbm, ⟨4, _⟩ => ⟨S2048x2048, .f32⟩
  | .hbm, ⟨5, _⟩ => ⟨S2048, .f32⟩
  | .hbm, ⟨6, _⟩ => ⟨S2048x4, .f32⟩
  | .hbm, ⟨7, _⟩ => ⟨S2048x32, .f32⟩
  | .hbm, ⟨8, _⟩ => ⟨S4, .f32⟩
  | .hbm, ⟨9, _⟩ => ⟨S32, .f32⟩
  | .hbm, ⟨10, _⟩ => ⟨S2048x36, .f32⟩
  | .hbm, ⟨11, _⟩ => ⟨S_, .i32⟩
  | .hbm, ⟨12, _⟩ => ⟨S_, .f32⟩
  | .hbm, ⟨13, _⟩ => ⟨S2048x128, .f32⟩
  | .hbm, ⟨14, _⟩ => ⟨S2048x128, .bf16⟩
  | .hbm, ⟨15, _⟩ => ⟨S36, .f32⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S2048x2048, .bf16⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S16384x128, .f32⟩
  | .local _ .vmem, ⟨0, _⟩ => ⟨S256x2048, .f32⟩
  | .local _ .vmem, ⟨1, _⟩ => ⟨S256x2048, .f32⟩
  | .local _ .vmem, ⟨2, _⟩ => ⟨S256x512, .bf16⟩
  | .local _ .vmem, ⟨3, _⟩ => ⟨S256x512, .bf16⟩
  | .local _ .vmem, ⟨4, _⟩ => ⟨S256x1024, .bf16⟩
  | .local _ .vmem, ⟨5, _⟩ => ⟨S256x1024, .bf16⟩
  | .local _ .vmem, ⟨6, _⟩ => ⟨S256x512, .bf16⟩
  | .local _ .vmem, ⟨7, _⟩ => ⟨S256x512, .bf16⟩
  | .local _ .vmem, ⟨8, _⟩ => ⟨S2048x2048, .bf16⟩
  | .local _ .vmem, ⟨9, _⟩ => ⟨S1x2048, .f32⟩
  | .local _ .vmem, ⟨10, _⟩ => ⟨S2048x128, .bf16⟩
  | .local _ .vmem, ⟨11, _⟩ => ⟨S1x128, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x128, .f32⟩
  | .local _ .vmem, ⟨17, _⟩ => ⟨S256x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_call1_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8_0 : Ref sig .tc := ⟨.hbm, 22, rfl⟩
abbrev main_v8_1 : Ref sig .tc := ⟨.hbm, 23, rfl⟩
abbrev main_v8_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutProjReferenceIdeal.lean ====
abbrev S16384x2048 : Shape := ⟨2, ![16384, 2048]⟩
abbrev S16384x512 : Shape := ⟨2, ![16384, 512]⟩
abbrev S16384x1024 : Shape := ⟨2, ![16384, 1024]⟩
abbrev S2048x2048 : Shape := ⟨2, ![2048, 2048]⟩
abbrev S2048 : Shape := ⟨1, ![2048]⟩
abbrev S2048x4 : Shape := ⟨2, ![2048, 4]⟩
abbrev S2048x32 : Shape := ⟨2, ![2048, 32]⟩
abbrev S4 : Shape := ⟨1, ![4]⟩
abbrev S32 : Shape := ⟨1, ![32]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x92 : Shape := ⟨2, ![16384, 92]⟩
abbrev S16384x4 : Shape := ⟨2, ![16384, 4]⟩
abbrev S1x4 : Shape := ⟨2, ![1, 4]⟩
abbrev S16384x32 : Shape := ⟨2, ![16384, 32]⟩
abbrev S1x32 : Shape := ⟨2, ![1, 32]⟩
abbrev S16384x128 : Shape := ⟨2, ![16384, 128]⟩

abbrev nBuf : Space → Nat
  | .hbm => 41
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x512, .bf16⟩
  | .hbm, ⟨2, _⟩ => ⟨S16384x1024, .bf16⟩
  | .hbm, ⟨3, _⟩ => ⟨S16384x512, .bf16⟩
  | .hbm, ⟨4, _⟩ => ⟨S2048x2048, .f32⟩
  | .hbm, ⟨5, _⟩ => ⟨S2048, .f32⟩
  | .hbm, ⟨6, _⟩ => ⟨S2048x4, .f32⟩
  | .hbm, ⟨7, _⟩ => ⟨S2048x32, .f32⟩
  | .hbm, ⟨8, _⟩ => ⟨S4, .f32⟩
  | .hbm, ⟨9, _⟩ => ⟨S32, .f32⟩
  | .hbm, ⟨10, _⟩ => ⟨S16384x2048, .bf16⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x2048, .f32⟩
  | .hbm, ⟨26, _⟩ => ⟨S16384x2048, .f32⟩
  | .hbm, ⟨27, _⟩ => ⟨S1x2048, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S16384x92, .f32⟩
  | .hbm, ⟨32, _⟩ => ⟨S16384x4, .f32⟩
  | .hbm, ⟨33, _⟩ => ⟨S1x4, .f32⟩
  | .hbm, ⟨34, _⟩ => ⟨S16384x4, .f32⟩
  | .hbm, ⟨35, _⟩ => ⟨S16384x4, .f32⟩
  | .hbm, ⟨36, _⟩ => ⟨S16384x32, .f32⟩
  | .hbm, ⟨37, _⟩ => ⟨S1x32, .f32⟩
  | .hbm, ⟨38, _⟩ => ⟨S16384x32, .f32⟩
  | .hbm, ⟨39, _⟩ => ⟨S16384x32, .f32⟩
  | .hbm, ⟨40, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Mixers.lean ====
abbrev S16384x5632 : Shape := ⟨2, ![16384, 5632]⟩
abbrev S3x512 : Shape := ⟨2, ![3, 512]⟩
abbrev S31x512 : Shape := ⟨2, ![31, 512]⟩
abbrev S512 : Shape := ⟨1, ![512]⟩
abbrev S1x512 : Shape := ⟨2, ![1, 512]⟩
abbrev S16384x512 : Shape := ⟨2, ![16384, 512]⟩
abbrev S256x512 : Shape := ⟨2, ![256, 512]⟩
abbrev S264x512 : Shape := ⟨2, ![264, 512]⟩
abbrev S288x512 : Shape := ⟨2, ![288, 512]⟩
abbrev S8x512 : Shape := ⟨2, ![8, 512]⟩
abbrev S32x512 : Shape := ⟨2, ![32, 512]⟩
abbrev S256 : Shape := ⟨1, ![256]⟩
abbrev S256x1 : Shape := ⟨2, ![256, 1]⟩

abbrev nBuf : Space → Nat
  | .hbm => 11
  | .vmem => 21
  | .smem => 0
  | _ => 0

abbrev bufTy : (tb : Table) → Fin (tcTables nBuf tb) → BufTy
  | .hbm, ⟨0, _⟩ => ⟨S16384x5632, .bf16⟩
  | .hbm, ⟨1, _⟩ => ⟨S3x512, .f32⟩
  | .hbm, ⟨2, _⟩ => ⟨S31x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S16384x512, .bf16⟩
  | .hbm, ⟨10, _⟩ => ⟨S16384x512, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S3x512, .f32⟩
  | .local _ .vmem, ⟨11, _⟩ => ⟨S31x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S264x512, .f32⟩
  | .local _ .vmem, ⟨20, _⟩ => ⟨S288x512, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c9_i32 : BitVec 32 := 9#32
  let c0_i32 : BitVec 32 := 0#32
  ![v1.toNat, c9_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c10_i32 : BitVec 32 := 10#32
  let c0_i32 : BitVec 32 := 0#32
  ![v1.toNat, c10_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S31x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MixersReferenceIdeal.lean ====
abbrev S16384x5632 : Shape := ⟨2, ![16384, 5632]⟩
abbrev S3x512 : Shape := ⟨2, ![3, 512]⟩
abbrev S31x512 : Shape := ⟨2, ![31, 512]⟩
abbrev S512 : Shape := ⟨1, ![512]⟩
abbrev S4x4096x5632 : Shape := ⟨3, ![4, 4096, 5632]⟩
abbrev S4x4096x1536 : Shape := ⟨3, ![4, 4096, 1536]⟩
abbrev S4x4096x512 : Shape := ⟨3, ![4, 4096, 512]⟩
abbrev S4x4096x1024 : Shape := ⟨3, ![4, 4096, 1024]⟩
abbrev S_ : Shape := ⟨0, ![]⟩
abbrev S4x4098x512 : Shape := ⟨3, ![4, 4098, 512]⟩
abbrev S1x512 : Shape := ⟨2, ![1, 512]⟩
abbrev S1x1x512 : Shape := ⟨3, ![1, 1, 512]⟩
abbrev S4x4126x512 : Shape := ⟨3, ![4, 4126, 512]⟩
abbrev S4x4096 : Shape := ⟨2, ![4, 4096]⟩
abbrev S4x4096x1 : Shape := ⟨3, ![4, 4096, 1]⟩
abbrev S16384x512 : Shape := ⟨2, ![16384, 512]⟩

abbrev nBuf : Space → Nat
  | .hbm => 319
  | .vmem => 0
  | .smem => 0
  | _ => 0

abbrev hbmTy0_0 (i : Nat) : BufTy := match i % 128 with
  | 0 => ⟨S16384x5632, .bf16⟩
  | 1 => ⟨S3x512, .f32⟩
  | 2 => ⟨S31x512, .f32⟩
  | 3 => ⟨S512, .f32⟩
  | 4 => ⟨S512, .f32⟩
  | 5 => ⟨S512, .f32⟩
  | 6 => ⟨S16384x5632, .f32⟩
  | 7 => ⟨S4x4096x5632, .f32⟩
  | 8 => ⟨S4x4096x1536, .f32⟩
  | 9 => ⟨S4x4096x512, .f32⟩
  | 10 => ⟨S4x4096x512, .f32⟩
  | 11 => ⟨S4x4096x512, .f32⟩
  | 12 => ⟨S4x4096x1024, .f32⟩
  | 13 => ⟨S4x4096x512, .f32⟩
  | 14 => ⟨S4x4096x512, .f32⟩
  | 15 => ⟨S4x4096x512, .f32⟩
  | 16 => ⟨S_, .i32⟩
  | 17 => ⟨S_, .f32⟩
  | 18 => ⟨S4x4098x512, .f32⟩
  | 19 => ⟨S1x512, .f32⟩
  | 20 => ⟨S512, .f32⟩
  | 21 => ⟨S4x4096x512, .f32⟩
  | 22 => ⟨S1x1x512, .f32⟩
  | 23 => ⟨S4x4096x512, .f32⟩
  | 24 => ⟨S4x4096x512, .f32⟩
  | 25 => ⟨S_, .f32⟩
  | 26 => ⟨S4x4096x512, .f32⟩
  | 27 => ⟨S4x4096x512, .f32⟩
  | 28 => ⟨S1x512, .f32⟩
  | 29 => ⟨S512, .f32⟩
  | 30 => ⟨S4x4096x512, .f32⟩
  | 31 => ⟨S1x1x512, .f32⟩
  | 32 => ⟨S4x4096x512, .f32⟩
  | 33 => ⟨S4x4096x512, .f32⟩
  | 34 => ⟨S4x4096x512, .f32⟩
  | 35 => ⟨S1x512, .f32⟩
  | 36 => ⟨S512, .f32⟩
  | 37 => ⟨S4x4096x512, .f32⟩
  | 38 => ⟨S1x1x512, .f32⟩
  | 39 => ⟨S4x4096x512, .f32⟩
  | 40 => ⟨S4x4096x512, .f32⟩
  | 41 => ⟨S4x4096x512, .f32⟩
  | 42 => ⟨S4x4096x512, .f32⟩
  | 43 => ⟨S4x4096x512, .f32⟩
  | 44 => ⟨S4x4096x512, .f32⟩
  | 45 => ⟨S_, .f32⟩
  | 46 => ⟨S4x4096x512, .f32⟩
  | 47 => ⟨S4x4096x512, .f32⟩
  | 48 => ⟨S_, .f32⟩
  | 49 => ⟨S4x4096x512, .f32⟩
  | 50 => ⟨S4x4096x512, .f32⟩
  | 51 => ⟨S4x4096x512, .f32⟩
  | 52 => ⟨S_, .i32⟩
  | 53 => ⟨S_, .f32⟩
  | 54 => ⟨S4x4126x512, .f32⟩
  | 55 => ⟨S1x512, .f32⟩
  | 56 => ⟨S512, .f32⟩
  | 57 => ⟨S4x4096x512, .f32⟩
  | 58 => ⟨S1x1x512, .f32⟩
  | 59 => ⟨S4x4096x512, .f32⟩
  | 60 => ⟨S4x4096x512, .f32⟩
  | 61 => ⟨S_, .f32⟩
  | 62 => ⟨S4x4096x512, .f32⟩
  | 63 => ⟨S4x4096x512, .f32⟩
  | 64 => ⟨S1x512, .f32⟩
  | 65 => ⟨S512, .f32⟩
  | 66 => ⟨S4x4096x512, .f32⟩
  | 67 => ⟨S1x1x512, .f32⟩
  | 68 => ⟨S4x4096x512, .f32⟩
  | 69 => ⟨S4x4096x512, .f32⟩
  | 70 => ⟨S4x4096x512, .f32⟩
  | 71 => ⟨S1x512, .f32⟩
  | 72 => ⟨S512, .f32⟩
  | 73 => ⟨S4x4096x512, .f32⟩
  | 74 => ⟨S1x1x512, .f32⟩
  | 75 => ⟨S4x4096x512, .f32⟩
  | 76 => ⟨S4x4096x512, .f32⟩
  | 77 => ⟨S4x4096x512, .f32⟩
  | 78 => ⟨S1x512, .f32⟩
  | 79 => ⟨S512, .f32⟩
  | 80 => ⟨S4x4096x512, .f32⟩
  | 81 => ⟨S1x1x512, .f32⟩
  | 82 => ⟨S4x4096x512, .f32⟩
  | 83 => ⟨S4x4096x512, .f32⟩
  | 84 => ⟨S4x4096x512, .f32⟩
  | 85 => ⟨S1x512, .f32⟩
  | 86 => ⟨S512, .f32⟩
  | 87 => ⟨S4x4096x512, .f32⟩
  | 88 => ⟨S1x1x512, .f32⟩
  | 89 => ⟨S4x4096x512, .f32⟩
  | 90 => ⟨S4x4096x512, .f32⟩
  | 91 => ⟨S4x4096x512, .f32⟩
  | 92 => ⟨S1x512, .f32⟩
  | 93 => ⟨S512, .f32⟩
  | 94 => ⟨S4x4096x512, .f32⟩
  | 95 => ⟨S1x1x512, .f32⟩
  | 96 => ⟨S4x4096x512, .f32⟩
  | 97 => ⟨S4x4096x512, .f32⟩
  | 98 => ⟨S4x4096x512, .f32⟩
  | 99 => ⟨S1x512, .f32⟩
  | 100 => ⟨S512, .f32⟩
  | 101 => ⟨S4x4096x512, .f32⟩
  | 102 => ⟨S1x1x512, .f32⟩
  | 103 => ⟨S4x4096x512, .f32⟩
  | 104 => ⟨S4x4096x512, .f32⟩
  | 105 => ⟨S4x4096x512, .f32⟩
  | 106 => ⟨S1x512, .f32⟩
  | 107 => ⟨S512, .f32⟩
  | 108 => ⟨S4x4096x512, .f32⟩
  | 109 => ⟨S1x1x512, .f32⟩
  | 110 => ⟨S4x4096x512, .f32⟩
  | 111 => ⟨S4x4096x512, .f32⟩
  | 112 => ⟨S4x4096x512, .f32⟩
  | 113 => ⟨S1x512, .f32⟩
  | 114 => ⟨S512, .f32⟩
  | 115 => ⟨S4x4096x512, .f32⟩
  | 116 => ⟨S1x1x512, .f32⟩
  | 117 => ⟨S4x4096x512, .f32⟩
  | 118 => ⟨S4x4096x512, .f32⟩
  | 119 => ⟨S4x4096x512, .f32⟩
  | 120 => ⟨S1x512, .f32⟩
  | 121 => ⟨S512, .f32⟩
  | 122 => ⟨S4x4096x512, .f32⟩
  | 123 => ⟨S1x1x512, .f32⟩
  | 124 => ⟨S4x4096x512, .f32⟩
  | 125 => ⟨S4x4096x512, .f32⟩
  | 126 => ⟨S4x4096x512, .f32⟩
  | 127 => ⟨S1x512, .f32⟩
  | _ => ⟨S16384x5632, .bf16⟩

abbrev hbmTy0_1 (i : Nat) : BufTy := match i % 128 with
  | 0 => ⟨S512, .f32⟩
  | 1 => ⟨S4x4096x512, .f32⟩
  | 2 => ⟨S1x1x512, .f32⟩
  | 3 => ⟨S4x4096x512, .f32⟩
  | 4 => ⟨S4x4096x512, .f32⟩
  | 5 => ⟨S4x4096x512, .f32⟩
  | 6 => ⟨S1x512, .f32⟩
  | 7 => ⟨S512, .f32⟩
  | 8 => ⟨S4x4096x512, .f32⟩
  | 9 => ⟨S1x1x512, .f32⟩
  | 10 => ⟨S4x4096x512, .f32⟩
  | 11 => ⟨S4x4096x512, .f32⟩
  | 12 => ⟨S4x4096x512, .f32⟩
  | 13 => ⟨S1x512, .f32⟩
  | 14 => ⟨S512, .f32⟩
  | 15 => ⟨S4x4096x512, .f32⟩
  | 16 => ⟨S1x1x512, .f32⟩
  | 17 => ⟨S4x4096x512, .f32⟩
  | 18 => ⟨S4x4096x512, .f32⟩
  | 19 => ⟨S4x4096x512, .f32⟩
  | 20 => ⟨S1x512, .f32⟩
  | 21 => ⟨S512, .f32⟩
  | 22 => ⟨S4x4096x512, .f32⟩
  | 23 => ⟨S1x1x512, .f32⟩
  | 24 => ⟨S4x4096x512, .f32⟩
  | 25 => ⟨S4x4096x512, .f32⟩
  | 26 => ⟨S4x4096x512, .f32⟩
  | 27 => ⟨S1x512, .f32⟩
  | 28 => ⟨S512, .f32⟩
  | 29 => ⟨S4x4096x512, .f32⟩
  | 30 => ⟨S1x1x512, .f32⟩
  | 31 => ⟨S4x4096x512, .f32⟩
  | 32 => ⟨S4x4096x512, .f32⟩
  | 33 => ⟨S4x4096x512, .f32⟩
  | 34 => ⟨S1x512, .f32⟩
  | 35 => ⟨S512, .f32⟩
  | 36 => ⟨S4x4096x512, .f32⟩
  | 37 => ⟨S1x1x512, .f32⟩
  | 38 => ⟨S4x4096x512, .f32⟩
  | 39 => ⟨S4x4096x512, .f32⟩
  | 40 => ⟨S4x4096x512, .f32⟩
  | 41 => ⟨S1x512, .f32⟩
  | 42 => ⟨S512, .f32⟩
  | 43 => ⟨S4x4096x512, .f32⟩
  | 44 => ⟨S1x1x512, .f32⟩
  | 45 => ⟨S4x4096x512, .f32⟩
  | 46 => ⟨S4x4096x512, .f32⟩
  | 47 => ⟨S4x4096x512, .f32⟩
  | 48 => ⟨S1x512, .f32⟩
  | 49 => ⟨S512, .f32⟩
  | 50 => ⟨S4x4096x512, .f32⟩
  | 51 => ⟨S1x1x512, .f32⟩
  | 52 => ⟨S4x4096x512, .f32⟩
  | 53 => ⟨S4x4096x512, .f32⟩
  | 54 => ⟨S4x4096x512, .f32⟩
  | 55 => ⟨S1x512, .f32⟩
  | 56 => ⟨S512, .f32⟩
  | 57 => ⟨S4x4096x512, .f32⟩
  | 58 => ⟨S1x1x512, .f32⟩
  | 59 => ⟨S4x4096x512, .f32⟩
  | 60 => ⟨S4x4096x512, .f32⟩
  | 61 => ⟨S4x4096x512, .f32⟩
  | 62 => ⟨S1x512, .f32⟩
  | 63 => ⟨S512, .f32⟩
  | 64 => ⟨S4x4096x512, .f32⟩
  | 65 => ⟨S1x1x512, .f32⟩
  | 66 => ⟨S4x4096x512, .f32⟩
  | 67 => ⟨S4x4096x512, .f32⟩
  | 68 => ⟨S4x4096x512, .f32⟩
  | 69 => ⟨S1x512, .f32⟩
  | 70 => ⟨S512, .f32⟩
  | 71 => ⟨S4x4096x512, .f32⟩
  | 72 => ⟨S1x1x512, .f32⟩
  | 73 => ⟨S4x4096x512, .f32⟩
  | 74 => ⟨S4x4096x512, .f32⟩
  | 75 => ⟨S4x4096x512, .f32⟩
  | 76 => ⟨S1x512, .f32⟩
  | 77 => ⟨S512, .f32⟩
  | 78 => ⟨S4x4096x512, .f32⟩
  | 79 => ⟨S1x1x512, .f32⟩
  | 80 => ⟨S4x4096x512, .f32⟩
  | 81 => ⟨S4x4096x512, .f32⟩
  | 82 => ⟨S4x4096x512, .f32⟩
  | 83 => ⟨S1x512, .f32⟩
  | 84 => ⟨S512, .f32⟩
  | 85 => ⟨S4x4096x512, .f32⟩
  | 86 => ⟨S1x1x512, .f32⟩
  | 87 => ⟨S4x4096x512, .f32⟩
  | 88 => ⟨S4x4096x512, .f32⟩
  | 89 => ⟨S4x4096x512, .f32⟩
  | 90 => ⟨S1x512, .f32⟩
  | 91 => ⟨S512, .f32⟩
  | 92 => ⟨S4x4096x512, .f32⟩
  | 93 => ⟨S1x1x512, .f32⟩
  | 94 => ⟨S4x4096x512, .f32⟩
  | 95 => ⟨S4x4096x512, .f32⟩
  | 96 => ⟨S4x4096x512, .f32⟩
  | 97 => ⟨S1x512, .f32⟩
  | 98 => ⟨S512, .f32⟩
  | 99 => ⟨S4x4096x512, .f32⟩
  | 100 => ⟨S1x1x512, .f32⟩
  | 101 => ⟨S4x4096x512, .f32⟩
  | 102 => ⟨S4x4096x512, .f32⟩
  | 103 => ⟨S4x4096x512, .f32⟩
  | 104 => ⟨S1x512, .f32⟩
  | 105 => ⟨S512, .f32⟩
  | 106 => ⟨S4x4096x512, .f32⟩
  | 107 => ⟨S1x1x512, .f32⟩
  | 108 => ⟨S4x4096x512, .f32⟩
  | 109 => ⟨S4x4096x512, .f32⟩
  | 110 => ⟨S4x4096x512, .f32⟩
  | 111 => ⟨S1x512, .f32⟩
  | 112 => ⟨S512, .f32⟩
  | 113 => ⟨S4x4096x512, .f32⟩
  | 114 => ⟨S1x1x512, .f32⟩
  | 115 => ⟨S4x4096x512, .f32⟩
  | 116 => ⟨S4x4096x512, .f32⟩
  | 117 => ⟨S4x4096x512, .f32⟩
  | 118 => ⟨S1x512, .f32⟩
  | 119 => ⟨S512, .f32⟩
  | 120 => ⟨S4x4096x512, .f32⟩
  | 121 => ⟨S1x1x512, .f32⟩
  | 122 => ⟨S4x4096x512, .f32⟩
  | 123 => ⟨S4x4096x512, .f32⟩
  | 124 => ⟨S4x4096x512, .f32⟩
  | 125 => ⟨S1x512, .f32⟩
  | 126 => ⟨S512, .f32⟩
  | 127 => ⟨S4x4096x512, .f32⟩
  | _ => ⟨S16384x5632, .bf16⟩

abbrev hbmTy0_2 (i : Nat) : BufTy := match i % 128 with
  | 0 => ⟨S1x1x512, .f32⟩
  | 1 => ⟨S4x4096x512, .f32⟩
  | 2 => ⟨S4x4096x512, .f32⟩
  | 3 => ⟨S4x4096x512, .f32⟩
  | 4 => ⟨S1x512, .f32⟩
  | 5 => ⟨S512, .f32⟩
  | 6 => ⟨S4x4096x512, .f32⟩
  | 7 => ⟨S1x1x512, .f32⟩
  | 8 => ⟨S4x4096x512, .f32⟩
  | 9 => ⟨S4x4096x512, .f32⟩
  | 10 => ⟨S4x4096x512, .f32⟩
  | 11 => ⟨S1x512, .f32⟩
  | 12 => ⟨S512, .f32⟩
  | 13 => ⟨S4x4096x512, .f32⟩
  | 14 => ⟨S1x1x512, .f32⟩
  | 15 => ⟨S4x4096x512, .f32⟩
  | 16 => ⟨S4x4096x512, .f32⟩
  | 17 => ⟨S4x4096x512, .f32⟩
  | 18 => ⟨S1x1x512, .f32⟩
  | 19 => ⟨S4x4096x512, .f32⟩
  | 20 => ⟨S4x4096x512, .f32⟩
  | 21 => ⟨S_, .f32⟩
  | 22 => ⟨S4x4096, .f32⟩
  | 23 => ⟨S4x4096x1, .f32⟩
  | 24 => ⟨S_, .f32⟩
  | 25 => ⟨S4x4096x1, .f32⟩
  | 26 => ⟨S4x4096x1, .f32⟩
  | 27 => ⟨S4x4096x512, .f32⟩
  | 28 => ⟨S4x4096x512, .f32⟩
  | 29 => ⟨S4x4096x512, .f32⟩
  | 30 => ⟨S_, .f32⟩
  | 31 => ⟨S4x4096, .f32⟩
  | 32 => ⟨S4x4096x1, .f32⟩
  | 33 => ⟨S_, .f32⟩
  | 34 => ⟨S4x4096x1, .f32⟩
  | 35 => ⟨S4x4096x1, .f32⟩
  | 36 => ⟨S4x4096x512, .f32⟩
  | 37 => ⟨S4x4096x512, .f32⟩
  | 38 => ⟨S_, .f32⟩
  | 39 => ⟨S4x4096x1, .f32⟩
  | 40 => ⟨S4x4096x1, .f32⟩
  | 41 => ⟨S4x4096x1, .f32⟩
  | 42 => ⟨S4x4096x512, .f32⟩
  | 43 => ⟨S4x4096x512, .f32⟩
  | 44 => ⟨S1x1x512, .f32⟩
  | 45 => ⟨S4x4096x512, .f32⟩
  | 46 => ⟨S4x4096x512, .f32⟩
  | 47 => ⟨S1x1x512, .f32⟩
  | 48 => ⟨S4x4096x512, .f32⟩
  | 49 => ⟨S4x4096x512, .f32⟩
  | 50 => ⟨S4x4096x512, .f32⟩
  | 51 => ⟨S4x4096x512, .f32⟩
  | 52 => ⟨S_, .f32⟩
  | 53 => ⟨S4x4096x512, .f32⟩
  | 54 => ⟨S4x4096x512, .f32⟩
  | 55 => ⟨S_, .f32⟩
  | 56 => ⟨S4x4096x512, .f32⟩
  | 57 => ⟨S4x4096x512, .f32⟩
  | 58 => ⟨S4x4096x512, .f32⟩
  | 59 => ⟨S16384x512, .f32⟩
  | 60 => ⟨S16384x512, .bf16⟩
  | 61 => ⟨S16384x512, .f32⟩
  | 62 => ⟨S16384x512, .bf16⟩
  | _ => ⟨S16384x5632, .bf16⟩

abbrev hbmTy (i : Nat) : BufTy := match i / 128 with
  | 0 => hbmTy0_0 i
  | 1 => hbmTy0_1 i
  | 2 => hbmTy0_2 i
  | _ => ⟨S16384x5632, .bf16⟩

abbrev bufTy : (tb : Table) → Fin (tcTables nBuf tb) → BufTy
  | .hbm, ⟨i, _⟩ => hbmTy i
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_0 : Ref sig .tc := ⟨.hbm, 45, rfl⟩
abbrev main_v36 : Ref sig .tc := ⟨.hbm, 46, rfl⟩
abbrev main_v37 : Ref sig .tc := ⟨.hbm, 47, rfl⟩
abbrev main_cst_1 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_2 : Ref sig .tc := ⟨.hbm, 52, rfl⟩
abbrev main_call1_v0 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_3 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_v191 : Ref sig .tc := ⟨.hbm, 205, rfl⟩
abbrev main_v192 : Ref sig .tc := ⟨.hbm, 206, rfl⟩
abbrev main_v193 : Ref sig .tc := ⟨.hbm, 207, rfl⟩
abbrev main_v194 : Ref sig .tc := ⟨.hbm, 208, rfl⟩
abbrev main_v195 : Ref sig .tc := ⟨.hbm, 209, rfl⟩
abbrev main_v196 : Ref sig .tc := ⟨.hbm, 210, rfl⟩
abbrev main_v197 : Ref sig .tc := ⟨.hbm, 211, rfl⟩
abbrev main_v198 : Ref sig .tc := ⟨.hbm, 212, rfl⟩
abbrev main_v199 : Ref sig .tc := ⟨.hbm, 213, rfl⟩
abbrev main_v200 : Ref sig .tc := ⟨.hbm, 214, rfl⟩
abbrev main_v201 : Ref sig .tc := ⟨.hbm, 215, rfl⟩
abbrev main_v202 : Ref sig .tc := ⟨.hbm, 216, rfl⟩
abbrev main_v203 : Ref sig .tc := ⟨.hbm, 217, rfl⟩
abbrev main_v204 : Ref sig .tc := ⟨.hbm, 218, rfl⟩
abbrev main_v205 : Ref sig .tc := ⟨.hbm, 219, rfl⟩
abbrev main_v206 : Ref sig .tc := ⟨.hbm, 220, rfl⟩
abbrev main_v207 : Ref sig .tc := ⟨.hbm, 221, rfl⟩
abbrev main_v208 : Ref sig .tc := ⟨.hbm, 222, rfl⟩
abbrev main_v209 : Ref sig .tc := ⟨.hbm, 223, rfl⟩
abbrev main_v210 : Ref sig .tc := ⟨.hbm, 224, rfl⟩
abbrev main_v211 : Ref sig .tc := ⟨.hbm, 225, rfl⟩
abbrev main_v212 : Ref sig .tc := ⟨.hbm, 226, rfl⟩
abbrev main_v213 : Ref sig .tc := ⟨.hbm, 227, rfl⟩
abbrev main_v214 : Ref sig .tc := ⟨.hbm, 228, rfl⟩
abbrev main_v215 : Ref sig .tc := ⟨.hbm, 229, rfl⟩
abbrev main_v216 : Ref sig .tc := ⟨.hbm, 230, rfl⟩
abbrev main_v217 : Ref sig .tc := ⟨.hbm, 231, rfl⟩
abbrev main_v218 : Ref sig .tc := ⟨.hbm, 232, rfl⟩
abbrev main_v219 : Ref sig .tc := ⟨.hbm, 233, rfl⟩
abbrev main_v220 : Ref sig .tc := ⟨.hbm, 234, rfl⟩
abbrev main_v221 : Ref sig .tc := ⟨.hbm, 235, rfl⟩
abbrev main_v222 : Ref sig .tc := ⟨.hbm, 236, rfl⟩
abbrev main_v223 : Ref sig .tc := ⟨.hbm, 237, rfl⟩
abbrev main_v224 : Ref sig .tc := ⟨.hbm, 238, rfl⟩
abbrev main_v225 : Ref sig .tc := ⟨.hbm, 239, rfl⟩
abbrev main_v226 : Ref sig .tc := ⟨.hbm, 240, rfl⟩
abbrev main_v227 : Ref sig .tc := ⟨.hbm, 241, rfl⟩
abbrev main_v228 : Ref sig .tc := ⟨.hbm, 242, rfl⟩
abbrev main_v229 : Ref sig .tc := ⟨.hbm, 243, rfl⟩
abbrev main_v230 : Ref sig .tc := ⟨.hbm, 244, rfl⟩
abbrev main_v231 : Ref sig .tc := ⟨.hbm, 245, rfl⟩
abbrev main_v232 : Ref sig .tc := ⟨.hbm, 246, rfl⟩
abbrev main_v233 : Ref sig .tc := ⟨.hbm, 247, rfl⟩
abbrev main_v234 : Ref sig .tc := ⟨.hbm, 248, rfl⟩
abbrev main_v235 : Ref sig .tc := ⟨.hbm, 249, rfl⟩
abbrev main_v236 : Ref sig .tc := ⟨.hbm, 250, rfl⟩
abbrev main_v237 : Ref sig .tc := ⟨.hbm, 251, rfl⟩
abbrev main_v238 : Ref sig .tc := ⟨.hbm, 252, rfl⟩
abbrev main_v239 : Ref sig .tc := ⟨.hbm, 253, rfl⟩
abbrev main_v240 : Ref sig .tc := ⟨.hbm, 254, rfl⟩
abbrev main_v241 : Ref sig .tc := ⟨.hbm, 255, rfl⟩
abbrev main_v242 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_v255 : Ref sig .tc := ⟨.hbm, 269, rfl⟩
abbrev main_v256 : Ref sig .tc := ⟨.hbm, 270, rfl⟩
abbrev main_v257 : Ref sig .tc := ⟨.hbm, 271, rfl⟩
abbrev main_v258 : Ref sig .tc := ⟨.hbm, 272, rfl⟩
abbrev main_v259 : Ref sig .tc := ⟨.hbm, 273, rfl⟩
abbrev main_v260 : Ref sig .tc := ⟨.hbm, 274, rfl⟩
abbrev main_v261 : Ref sig .tc := ⟨.hbm, 275, rfl⟩
abbrev main_v262 : Ref sig .tc := ⟨.hbm, 276, rfl⟩
abbrev main_cst_4 : Ref sig .tc := ⟨.hbm, 277, rfl⟩
abbrev main_v263 : Ref sig .tc := ⟨.hbm, 278, rfl⟩
abbrev main_v264 : Ref sig .tc := ⟨.hbm, 279, rfl⟩
abbrev main_cst_5 : Ref sig .tc := ⟨.hbm, 280, rfl⟩
abbrev main_v265 : Ref sig .tc := ⟨.hbm, 281, rfl⟩
abbrev main_v266 : Ref sig .tc := ⟨.hbm, 282, rfl⟩
abbrev main_v267 : Ref sig .tc := ⟨.hbm, 283, rfl⟩
abbrev main_v268 : Ref sig .tc := ⟨.hbm, 284, rfl⟩
abbrev main_v269 : Ref sig .tc := ⟨.hbm, 285, rfl⟩
abbrev main_cst_6 : Ref sig .tc := ⟨.hbm, 286, rfl⟩
abbrev main_v270 : Ref sig .tc := ⟨.hbm, 287, rfl⟩
abbrev main_v271 : Ref sig .tc := ⟨.hbm, 288, rfl⟩
abbrev main_cst_7 : Ref sig .tc := ⟨.hbm, 289, rfl⟩
abbrev main_v272 : Ref sig .tc := ⟨.hbm, 290, rfl⟩
abbrev main_v273 : Ref sig .tc := ⟨.hbm, 291, rfl⟩
abbrev main_v274 : Ref sig .tc := ⟨.hbm, 292, rfl⟩
abbrev main_v275 : Ref sig .tc := ⟨.hbm, 293, rfl⟩
abbrev main_cst_8 : Ref sig .tc := ⟨.hbm, 294, rfl⟩
abbrev main_v276 : Ref sig .tc := ⟨.hbm, 295, rfl⟩
abbrev main_v277 : Ref sig .tc := ⟨.hbm, 296, rfl⟩
abbrev main_v278 : Ref sig .tc := ⟨.hbm, 297, rfl⟩
abbrev main_v279 : Ref sig .tc := ⟨.hbm, 298, rfl⟩
abbrev main_v280 : Ref sig .tc := ⟨.hbm, 299, rfl⟩
abbrev main_v281 : Ref sig .tc := ⟨.hbm, 300, rfl⟩
abbrev main_v282 : Ref sig .tc := ⟨.hbm, 301, rfl⟩
abbrev main_v283 : Ref sig .tc := ⟨.hbm, 302, rfl⟩
abbrev main_v284 : Ref sig .tc := ⟨.hbm, 303, rfl⟩
abbrev main_v285 : Ref sig .tc := ⟨.hbm, 304, rfl⟩
abbrev main_v286 : Ref sig .tc := ⟨.hbm, 305, rfl⟩
abbrev main_call2_v0 : Ref sig .tc := ⟨.hbm, 306, rfl⟩
abbrev main_call2_v1 : Ref sig .tc := ⟨.hbm, 307, rfl⟩
abbrev main_call2_cst : Ref sig .tc := ⟨.hbm, 308, rfl⟩
abbrev main_call2_v2 : Ref sig .tc := ⟨.hbm, 309, rfl⟩
abbrev main_call2_v3 : Ref sig .tc := ⟨.hbm, 310, rfl⟩
abbrev main_call2_cst_0 : Ref sig .tc := ⟨.hbm, 311, rfl⟩
abbrev main_call2_v4 : Ref sig .tc := ⟨.hbm, 312, rfl⟩
abbrev main_call2_v5 : Ref sig .tc := ⟨.hbm, 313, rfl⟩
abbrev main_v287 : Ref sig .tc := ⟨.hbm, 314, rfl⟩
abbrev main_v288 : Ref sig .tc := ⟨.hbm, 315, rfl⟩
abbrev main_v289 : Ref sig .tc := ⟨.hbm, 316, rfl⟩
abbrev main_v290 : Ref sig .tc := ⟨.hbm, 317, rfl⟩
abbrev main_v291 : Ref sig .tc := ⟨.hbm, 318, rfl⟩

abbrev nD : Nat := 1
abbrev τ : Topo := Topo.v7x

variable {F : FTy → Type} [FloatOps F]
-- ==== Combine.lean ====
abbrev S16384x2048 : Shape := ⟨2, ![16384, 2048]⟩
abbrev S40960x2048 : Shape := ⟨2, ![40960, 2048]⟩
abbrev S16384x2 : Shape := ⟨2, ![16384, 2]⟩
abbrev S2048 : Shape := ⟨1, ![2048]⟩
abbrev S64x256x2 : Shape := ⟨3, ![64, 256, 2]⟩
abbrev S64x2x256 : Shape := ⟨3, ![64, 2, 256]⟩
abbrev S64x1x512 : Shape := ⟨3, ![64, 1, 512]⟩
abbrev S1x2048 : Shape := ⟨2, ![1, 2048]⟩
abbrev S1x1x512 : Shape := ⟨3, ![1, 1, 512]⟩
abbrev S256x2048 : Shape := ⟨2, ![256, 2048]⟩
abbrev S2x512x2048 : Shape := ⟨3, ![2, 512, 2048]⟩
abbrev S2 : Shape := ⟨1, ![2]⟩
abbrev S1x1x1 : Shape := ⟨3, ![1, 1, 1]⟩
abbrev S1 : Shape := ⟨1, ![1]⟩
abbrev S_ : Shape := ⟨0, ![]⟩
abbrev S1x512x2048 : Shape := ⟨3, ![1, 512, 2048]⟩
abbrev S512x2048 : Shape := ⟨2, ![512, 2048]⟩
abbrev S1x256x2048 : Shape := ⟨3, ![1, 256, 2048]⟩
abbrev S256 : Shape := ⟨1, ![256]⟩
abbrev S256x1 : Shape := ⟨2, ![256, 1]⟩

abbrev nBuf : Space → Nat
  | .hbm => 9
  | .vmem => 6
  | .smem => 4
  | _ => 0

abbrev bufTy : (tb : Table) → Fin (tcTables nBuf tb) → BufTy
  | .hbm, ⟨0, _⟩ => ⟨S16384x2048, .f32⟩
  | .hbm, ⟨1, _⟩ => ⟨S40960x2048, .f32⟩
  | .hbm, ⟨2, _⟩ => ⟨S16384x2, .i32⟩
  | .hbm, ⟨3, _⟩ => ⟨S2048, .f32⟩
  | .hbm, ⟨4, _⟩ => ⟨S64x256x2, .i32⟩
  | .hbm, ⟨5, _⟩ => ⟨S64x2x256, .i32⟩
  | .hbm, ⟨6, _⟩ => ⟨S64x1x512, .i32⟩
  | .hbm, ⟨7, _⟩ => ⟨S1x2048, .f32⟩
  | .hbm, ⟨8, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S2x512x2048, .f32⟩
  | .local _ .smem, ⟨0, _⟩ => ⟨S1x1x512, .i32⟩
  | .local _ .smem, ⟨1, _⟩ => ⟨S1x1x512, .i32⟩
  | .local _ .smem, ⟨2, _⟩ => ⟨S1x1x512, .i32⟩
  | .local _ .smem, ⟨3, _⟩ => ⟨S1x1x512, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_scratch0 : Ref sig .tc := ⟨.vmem, 5, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_17 : BitVec 32 := 0#32
  let c512_i32_18 : BitVec 32 := 512#32
  let v33 : BitVec 32 := Scalar.addi c0_i32_17 c512_i32_18
  let c1_i32_19 : BitVec 32 := 1#32
  ⟨c0_i32_17, v33, c1_i32_19⟩
def k0_off1 (k0_t1 : Fin k0_t1_loop.trips) : Fin 3 → Nat :=
  let c0_21 : Index := 0#32
  let c0_22 : Index := 0#32
  let c0_i32_17 : BitVec 32 := 0#32
  let c1_i32_19 : BitVec 32 := 1#32
  let arg9 : BitVec 32 := Scf.iv c0_i32_17 c1_i32_19 k0_t1
  let v34 : Index := Scalar.indexCast arg9
  ![0, 0, v34.toNat]
def k0_off2 (k0_t1 : Fin k0_t1_loop.trips) : Fin 2 → Nat :=
  let c0_i32_17 : BitVec 32 := 0#32
  let c1_i32_19 : BitVec 32 := 1#32
  let arg9 : BitVec 32 := Scf.iv c0_i32_17 c1_i32_19 k0_t1
  let c0_i32_25 : BitVec 32 := 0#32
  ![arg9.toNat, 0]
def k0_off3 (v35 : BitVec 32) : Fin 2 → Nat :=
  let c0_i32_26 : BitVec 32 := 0#32
  ![v35.toNat, 0]

def k0_chk1 (i : grid0.Coords) (v35 : BitVec 32) : Prop :=
  (∀ (k0_h1 : k0_cond1 i = 1#1), ∀ a, (k0_off3 v35) a + S1x2048.size a ≤ S40960x2048.size a)
theorem k0_off3_inb : ∀ (i : grid0.Coords) (v35 : BitVec 32) (k0_hw1 : k0_chk1 i v35), ∀ (k0_h1 : k0_cond1 i = 1#1), ∀ a, (k0_off3 v35) a + S1x2048.size a ≤ S40960x2048.size a := fun i v35 k0_hw1 k0_h1 => k0_hw1 k0_h1

def k0_cond2 (i : grid0.Coords) : BitVec 1 :=
  let arg0 : BitVec 32 := BitVec.ofNat 32 (i 0).val
  let c1_i32 : BitVec 32 := 1#32
  let v4 : BitVec 32 := Scalar.addi arg0 c1_i32
  let c64_i32 : BitVec 32 := 64#32
  let v5 : BitVec 1 := Scalar.cmpi .slt v4 c64_i32
  let v6 : BitVec 32 := Scalar.extui v5
  let c0_i32_1 : BitVec 32 := 0#32
  let v7 : BitVec 1 := Scalar.cmpi .ne v6 c0_i32_1
  v7

@[reducible] def k0_t2_loop : Scf.Loop 32 :=
  let c0_i32_17 : BitVec 32 := 0#32
  let c512_i32_18 : BitVec 32 := 512#32
  let v35 : BitVec 32 := Scalar.addi c0_i32_17 c512_i32_18
  let c1_i32_19 : BitVec 32 := 1#32
  ⟨c0_i32_17, v35, c1_i32_19⟩
def k0_off4 (k0_t2 : Fin k0_t2_loop.trips) : Fin 3 → Nat :=
  let c0_21 : Index := 0#32
  let c0_22 : Index := 0#32
  let c0_i32_17 : BitVec 32 := 0#32
  let c1_i32_19 : BitVec 32 := 1#32
  let arg9 : BitVec 32 := Scf.iv c0_i32_17 c1_i32_19 k0_t2
  let v36 : Index := Scalar.indexCast arg9
  ![0, 0, v36.toNat]
def k0_off5 (i : grid0.Coords) : Fin 1 → Nat :=
  let c1_i32_16 : BitVec 32 := 1#32
  let arg0 : BitVec 32 := BitVec.ofNat 32 (i 0).val
  let c2_i32 : BitVec 32 := 2#32
  let v0 : BitVec 32 := Scalar.remsi arg0 c2_i32
  let v34 : BitVec 32 := Scalar.subi c1_i32_16 v0
  ![v34.toNat]
def k0_off6 (i : grid0.Coords) : Fin 3 → Nat :=
  let c1_i32_15 : BitVec 32 := 1#32
  let arg0 : BitVec 32 := BitVec.ofNat 32 (i 0).val
  let c2_i32 : BitVec 32 := 2#32
  let v0 : BitVec 32 := Scalar.remsi arg0 c2_i32
  let v33 : BitVec 32 := Scalar.subi c1_i32_15 v0
  let c0_i32_23 : BitVec 32 := 0#32
  let c0_i32_24 : BitVec 32 := 0#32
  ![v33.toNat, 0, 0]
def k0_off7 (k0_t2 : Fin k0_t2_loop.trips) : Fin 2 → Nat :=
  let c0_i32_17 : BitVec 32 := 0#32
  let c1_i32_19 : BitVec 32 := 1#32
  let arg9 : BitVec 32 := Scf.iv c0_i32_17 c1_i32_19 k0_t2
  let c0_i32_25 : BitVec 32 := 0#32
  ![arg9.toNat, 0]
def k0_off8 (v37 : BitVec 32) : Fin 2 → Nat :=
  let c0_i32_26 : BitVec 32 := 0#32
  ![v37.toNat, 0]

def k0_chk2 (i : grid0.Coords) (v37 : BitVec 32) : Prop :=
  (∀ (k0_h2 : k0_cond2 i = 1#1), ∀ a, (k0_off8 v37) a + S1x2048.size a ≤ S40960x2048.size a)
theorem k0_off8_inb : ∀ (i : grid0.Coords) (v37 : BitVec 32) (k0_hw2 : k0_chk2 i v37), ∀ (k0_h2 : k0_cond2 i = 1#1), ∀ a, (k0_off8 v37) a + S1x2048.size a ≤ S40960x2048.size a := fun i v37 k0_hw2 k0_h2 => k0_hw2 k0_h2

@[reducible] def k0_t3_loop : Scf.Loop 32 :=
  let c0_i32_2 : BitVec 32 := 0#32
  let c512_i32 : BitVec 32 := 512#32
  let v8 : BitVec 32 := Scalar.addi c0_i32_2 c512_i32
  let c1_i32_3 : BitVec 32 := 1#32
  ⟨c0_i32_2, v8, c1_i32_3⟩
def k0_off9 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off10 (i : grid0.Coords) : Fin 3 → Nat :=
  let arg0 : BitVec 32 := BitVec.ofNat 32 (i 0).val
  let c2_i32 : BitVec 32 := 2#32
  let v0 : BitVec 32 := Scalar.remsi arg0 c2_i32
  let c0_i32_15 : BitVec 32 := 0#32
  let c0_i32_16 : BitVec 32 := 0#32
  ![v0.toNat, 0, 0]
def k0_off11 (k0_t3 : Fin k0_t3_loop.trips) : Fin 2 → Nat :=
  let c0_i32_2 : BitVec 32 := 0#32
  let c1_i32_3 : BitVec 32 := 1#32
  let arg9 : BitVec 32 := Scf.iv c0_i32_2 c1_i32_3 k0_t3
  let c0_i32_17 : BitVec 32 := 0#32
  ![arg9.toNat, 0]
def k0_off12 (i : grid0.Coords) : Fin 3 → Nat :=
  let arg0 : BitVec 32 := BitVec.ofNat 32 (i 0).val
  let c2_i32 : BitVec 32 := 2#32
  let v0 : BitVec 32 := Scalar.remsi arg0 c2_i32
  let v10 : Index := Scalar.indexCast v0
  let c0_6 : Index := 0#32
  let c0_7 : Index := 0#32
  ![v10.toNat, 0, 0]
def k0_off13 (i : grid0.Coords) : Fin 3 → Nat :=
  let arg0 : BitVec 32 := BitVec.ofNat 32 (i 0).val
  let c2_i32 : BitVec 32 := 2#32
  let v0 : BitVec 32 := Scalar.remsi arg0 c2_i32
  let v13 : Index := Scalar.indexCast v0
  let c256 : Index := 256#32
  let c0_8 : Index := 0#32
  ![v13.toNat, 256, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CombineReferenceIdeal.lean ====
abbrev S16384x2048 : Shape := ⟨2, ![16384, 2048]⟩
abbrev S40960x2048 : Shape := ⟨2, ![40960, 2048]⟩
abbrev S16384x2 : Shape := ⟨2, ![16384, 2]⟩
abbrev S2048 : Shape := ⟨1, ![2048]⟩
abbrev S_ : Shape := ⟨0, ![]⟩
abbrev S16384x2x1 : Shape := ⟨3, ![16384, 2, 1]⟩
abbrev S16384x2x2048 : Shape := ⟨3, ![16384, 2, 2048]⟩
abbrev S16384 : Shape := ⟨1, ![16384]⟩
abbrev S16384x1 : Shape := ⟨2, ![16384, 1]⟩
abbrev S1x2048 : Shape := ⟨2, ![1, 2048]⟩

abbrev nBuf : Space → Nat
  | .hbm => 32
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S40960x2048, .f32⟩
  | .hbm, ⟨2, _⟩ => ⟨S16384x2, .i32⟩
  | .hbm, ⟨3, _⟩ => ⟨S2048, .f32⟩
  | .hbm, ⟨4, _⟩ => ⟨S_, .i32⟩
  | .hbm, ⟨5, _⟩ => ⟨S16384x2, .i32⟩
  | .hbm, ⟨6, _⟩ => ⟨S16384x2, .i1⟩
  | .hbm, ⟨7, _⟩ => ⟨S_, .i32⟩
  | .hbm, ⟨8, _⟩ => ⟨S16384x2, .i32⟩
  | .hbm, ⟨9, _⟩ => ⟨S16384x2, .i32⟩
  | .hbm, ⟨10, _⟩ => ⟨S16384x2, .i32⟩
  | .hbm, ⟨11, _⟩ => ⟨S16384x2x1, .i32⟩
  | .hbm, ⟨12, _⟩ => ⟨S16384x2x2048, .f32⟩
  | .hbm, ⟨13, _⟩ => ⟨S_, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x2048, .f32⟩
  | .hbm, ⟨28, _⟩ => ⟨S16384x2048, .f32⟩
  | .hbm, ⟨29, _⟩ => ⟨S1x2048, .f32⟩
  | .hbm, ⟨30, _⟩ => ⟨S16384x2048, .f32⟩
  | .hbm, ⟨31, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Proof.Body.lean ====
module

public import proofs.«01_k».proof.Proof.Gen.KernelIdeal.Value
public import Idealize.ShloMosaic.Lib.Pipeline.ValueKit

@[expose] public section

set_option maxRecDepth 16384

noncomputable section

namespace Cert.KernelIdeal.Body

open Idealize.ShloMosaic Idealize.ShloMosaic.TcCoe Idealize.SL.Sem
open Cert.KernelIdeal Cert.KernelIdeal.Gen

variable {F : FTy → Type} [FloatOps F] [Named F]

/-- Which past blocks each query row attends to, as a mask of ones and zeros over lanes. -/
def selV (i : grid0.Coords) (q : Vec F S256x128 .bf16) (hi lo : Vec F S128x128 .bf16) : IVec S256x128 1 :=
  let a : BitVec 32 := BitVec.ofNat 32 (i 2).val
  let g := k0_pay23 q hi lo
  let n : IVec S256x128 32 := iota .tc S256x128 32 [1] iota_S256x128_d1_w32
  let r3 := k0_pay28 a g n (k0_pay24 i q hi lo) (k0_pay26 q hi lo) (k0_pay27 q hi lo)
  let r6 := k0_pay32 a g n r3 (k0_pay30 g) (k0_pay31 g n)
  let r9 := k0_pay36 a g n r6 (k0_pay34 g) (k0_pay35 g n)
  let r12 := k0_pay40 a g n r9 (k0_pay38 g) (k0_pay39 g n)
  k0_pay44 a g n r12 (k0_pay42 g) (k0_pay43 g n)

/-- One trip of the loop over past blocks: the running maximum, the running sum and the running
    weighted values, after block `k`. -/
def tripV (i : grid0.Coords) (w : Elt F .f32) (q : Vec F S256x128 .bf16) (sel : IVec S256x128 1)
    (X Y : Vec F S4096x128 .bf16) (k : Fin (k0_t1_loop i).trips)
    (acc : FVec F S256x1 .f32 × FVec F S256x1 .f32 × FVec F S256x128 .f32) :
    FVec F S256x1 .f32 × FVec F S256x1 .f32 × FVec F S256x128 .f32 :=
  let a : BitVec 32 := BitVec.ofNat 32 (i 2).val
  let n : IVec S256x128 32 := iota .tc S256x128 32 [1] iota_S256x128_d1_w32
  let s := k0_pay46 sel (Scalar.ofBits .f32 0x00000000#32) (k0_pay45 (F := F))
  let K : Vec F S256x128 .bf16 := View.ld X (Rect.unit (k0_off3 i k) S256x128.size (k0_off3_inb i k))
  let W : Vec F S256x128 .bf16 := View.ld Y (Rect.unit (k0_off3 i k) S256x128.size (k0_off3_inb i k))
  (k0_pay3 i a w q n s (k0_pay47 w) 0#32 1#32 k acc.1 K,
   k0_pay6 i a w q n s (k0_pay47 w) 0#32 1#32 k acc.1 acc.2.1 K,
   k0_pay53 W (k0_pay7 i a w q n s (k0_pay47 w) 0#32 1#32 k acc.1 acc.2.2 K)
     (k0_pay8 i a w q n s (k0_pay47 w) 0#32 1#32 k acc.1 K))

/-- The state of the loop before trip `k`. -/
def stV (i : grid0.Coords) (w : Elt F .f32) (q : Vec F S256x128 .bf16) (sel : IVec S256x128 1)
    (X Y : Vec F S4096x128 .bf16) (init : FVec F S256x1 .f32 × FVec F S256x1 .f32 × FVec F S256x128 .f32) :
    ℕ → FVec F S256x1 .f32 × FVec F S256x1 .f32 × FVec F S256x128 .f32
  | 0 => init
  | k + 1 => if h : k < (k0_t1_loop i).trips then tripV i w q sel X Y ⟨k, h⟩ (stV i w q sel X Y init k)
      else stV i w q sel X Y init k

/-- The loop's state at its entry: the query block against its own block. -/
def initV (i : grid0.Coords) (w : Elt F .f32) (q : Vec F S256x128 .bf16)
    (X Y : Vec F S4096x128 .bf16) : FVec F S256x1 .f32 × FVec F S256x1 .f32 × FVec F S256x128 .f32 :=
  let K : Vec F S256x128 .bf16 := View.ld X (Rect.unit (k0_off2 i) S256x128.size (k0_off2_inb i))
  let W : Vec F S256x128 .bf16 := View.ld Y (Rect.unit (k0_off2 i) S256x128.size (k0_off2_inb i))
  (k0_pay49 w q K, k0_pay51 w q K, k0_pay52 w q K W)

/-- The slope of the head at a grid point. -/
def slopeV (i : grid0.Coords) (x : Vec F S8 .f32) : Elt F .f32 :=
  View.ld x (Rect.unit (k0_off1 i) S1.size (k0_off1_inb i)) (Shape.Idx.first (numel1_S1 ▸ Nat.one_pos))

/-- The block a grid point writes, from the slopes, its query block, the keys and values of its
    head, and the two parts of the block means of the keys. -/
def outV (i : grid0.Coords) (x : Vec F S8 .f32) (q : Vec F S256x128 .bf16) (X Y : Vec F S4096x128 .bf16)
    (hi lo : Vec F S128x128 .bf16) : FVec F S256x128 .bf16 :=
  let st := stV i (slopeV i x) q (selV i q hi lo) X Y (initV i (slopeV i x) q X Y) (k0_t1_loop i).trips
  k0_pay55 st.2.1 st.2.2

/-- The printed loop's state is `stV`'s. -/
theorem st_eq (c : Dev nD) (i : grid0.Coords) (arg3 : Memref sig .tc .smem S8 .f32) (harg3 : arg3.IsWhole) (arg4 : Memref sig .tc .vmem S256x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S256x128 .bf16) (harg7 : arg7.IsWhole) (arg8 : Memref sig .tc .vmem S128x128 .bf16) (harg8 : arg8.IsWhole) (arg9 : Memref sig .tc .vmem S128x128 .bf16) (harg9 : arg9.IsWhole)
    (w : Elt F .f32) (q : Vec F S256x128 .bf16) (sel : IVec S256x128 1) (X Y : Vec F S4096x128 .bf16)
    (init : FVec F S256x1 .f32 × FVec F S256x1 .f32 × FVec F S256x128 .f32) (n : ℕ) :
    st_k0_t1 (F := F) Variants.none c none i arg3 harg3 arg4 harg4 arg5 harg5 arg6 harg6 arg7 harg7 arg8 harg8 arg9 harg9 (BitVec.ofNat 32 (i 2).val) w q
      (iota .tc S256x128 32 [1] iota_S256x128_d1_w32) sel (Scalar.ofBits .f32 0x00000000#32) (k0_pay45 (F := F))
      (harg5.unread X) (harg6.unread Y) init n = stV i w q sel X Y init n := by
  induction n with
  | zero => rfl
  | succ k ih =>
    by_cases h : k < (k0_t1_loop i).trips
    · have := st_k0_t1_succ (F := F) Variants.none c none i arg3 harg3 arg4 harg4 arg5 harg5 arg6 harg6 arg7 harg7 arg8 harg8 arg9 harg9 (BitVec.ofNat 32 (i 2).val) w q
        (iota .tc S256x128 32 [1] iota_S256x128_d1_w32) sel (Scalar.ofBits .f32 0x00000000#32) (k0_pay45 (F := F))
        (harg5.unread X) (harg6.unread Y) init ⟨k, h⟩
      refine this.trans ?_
      simp only [ih]
      rw [stV, dif_pos h]
      unfold tripR_k0_t1 trip_k0_t1
      dsimp only
      sl_unfold_words
      simp only [View.readAt_eq_ld, harg5.read_unread, harg6.read_unread]
      rfl
    · rw [stV, dif_neg h, ← ih, st_k0_t1.eq_2]
      unfold st_k0_t1Step
      exact dif_neg h

/-- The remainder loop takes no trip. -/
theorem t2_trips (i : grid0.Coords) : (k0_t2_loop i).trips = 0 := Nat.le_zero.1 (k0_t2_abs i).2.1

/-- What a grid point after a head's first leaves in its output block. -/
theorem out_B (c : Dev nD) (i : grid0.Coords) (arg3 : Memref sig .tc .smem S8 .f32) (harg3 : arg3.IsWhole) (arg4 : Memref sig .tc .vmem S256x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S256x128 .bf16) (harg7 : arg7.IsWhole) (arg8 : Memref sig .tc .vmem S128x128 .bf16) (harg8 : arg8.IsWhole) (arg9 : Memref sig .tc .vmem S128x128 .bf16) (harg9 : arg9.IsWhole) (hc0 : ¬cond0_0 i)
    (x0 : Vec F S8 .f32) (x1 : Vec F S256x128 .bf16) (x2 : Vec F S4096x128 .bf16) (x3 : Vec F S4096x128 .bf16) (xs0 : Vec F S128x128 .bf16) (xs1 : Vec F S128x128 .bf16) :
    out0_B_4 c i arg3 harg3 arg4 harg4 arg5 harg5 arg6 harg6 arg7 harg7 arg8 harg8 arg9 harg9 hc0 x0 x1 x2 x3 xs0 xs1 = outV i x0 x1 x2 x3 xs0 xs1 := by
  have h275 : kernelRun0_B.sl.v275 (F := F) c i arg4 harg4 arg8 harg8 arg9 harg9 x1 xs0 xs1 = selV i x1 xs0 xs1 := by
    sl_unfold_words
    simp only [View.readAt_eq_ld, harg4.read_unread, harg8.read_unread, harg9.read_unread]
    rw [View.ld_unit_zero (by decide), View.ld_unit_zero (by decide), View.ld_unit_zero (by decide)]
    rfl
  unfold out0_B_4
  rw [View.read_writes_eq_canon _ _ _ (cover0_B_4 c i arg3 harg3 arg4 harg4 arg5 harg5 arg6 harg6 arg7 harg7 arg8 harg8 arg9 harg9 hc0 x0 x1 x2 x3 xs0 xs1)]
  unfold kernelRun0_B; dsimp only
  rw [View.canon_unit_zero (by decide)]
  unfold kernelRun0_B.sl.r_2
  rw [h275]
  have e0 : Scf.trips (k0_t2_loop i).lb (k0_t2_loop i).ub (k0_t2_loop i).st = 0 := t2_trips i
  rw [e0]
  simp only [st_k0_t2_zero]
  unfold kernelRun0_B.sl.r kernelRun0_B.sl.r_1
  simp only [View.readAt_eq_ld, harg3.read_unread, harg4.read_unread, harg5.read_unread, harg6.read_unread]
  rw [View.ld_unit_zero (by decide)]
  have e1 := st_eq (F := F) c i arg3 harg3 arg4 harg4 arg5 harg5 arg6 harg6 arg7 harg7 arg8 harg8 arg9 harg9 (slopeV i x0) x1 (selV i x1 xs0 xs1) x2 x3 (initV i (slopeV i x0) x1 x2 x3) (k0_t1_loop i).trips
  unfold outV
  have e2 : kernelRun0_B.sl.v13 = iota .tc S256x128 32 [1] iota_S256x128_d1_w32 := by sl_unfold_words; rfl
  have e3 : kernelRun0_B.sl.cst_8 = (Scalar.ofBits .f32 0x00000000#32 : F .f32) := by sl_unfold_words; rfl
  have e4 : kernelRun0_B.sl.v27 = (k0_pay45 (F := F)) := by sl_unfold_words; rfl
  rw [e2, e3, e4]
  rw [← e1]
  rfl

/-- The high part of the block means of the keys, in the first sixteen rows; zero below. -/
def hiV (X : Vec F S4096x128 .bf16) : Vec F S128x128 .bf16 :=
  fun j => if h : (j 0).val < 16 then k0_pay21 X (ix2 ⟨(j 0).val, h⟩ (j 1)) else k0_pay19 j

/-- The low part of the block means of the keys, in the first sixteen rows; zero below. -/
def loV (X : Vec F S4096x128 .bf16) : Vec F S128x128 .bf16 :=
  fun j => if h : (j 0).val < 16 then k0_pay22 X (ix2 ⟨(j 0).val, h⟩ (j 1)) else k0_pay20 j

/-- Sixteen rows written over a whole block. -/
theorem canon_head (w : Vec F S16x128 .bf16) (z : Vec F S128x128 .bf16) (h1 h2) :
    View.canon (Val := Elt F) (s := S128x128) (e := .bf16) [⟨Rect.unit ![0, 0] ![16, 128] h1, w⟩, ⟨Rect.unit ![0, 0] ![128, 128] h2, z⟩]
      = fun j => if h : (j 0).val < 16 then w (ix2 ⟨(j 0).val, h⟩ (j 1)) else z j := by
  funext j
  split
  · next h =>
    have e := View.canon_cons_emb (Val := Elt F) (e := .bf16) (Rect.unit (s := S128x128) ![0, 0] ![16, 128] h1) w
      [⟨Rect.unit ![0, 0] ![128, 128] h2, z⟩] (ix2 ⟨(j 0).val, h⟩ (j 1))
    have hj : (Rect.unit (s := S128x128) ![0, 0] ![16, 128] h1).emb (ix2 ⟨(j 0).val, h⟩ (j 1)) = j := by
      funext a; apply Fin.ext
      fin_cases a
      · simp [Rect.emb, Rect.unit]
      · simp [Rect.emb, Rect.unit]
    rw [hj] at e
    exact e
  · next h =>
    rw [View.canon_cons_of_not_mem]
    · rw [View.canon_unit_zero (S := S128x128) (by decide)]
    · intro hm
      have h3 := ((Rect.mem_set_unit (inb := h1)).mp hm 0).2
      simp at h3
      exact h h3

/-- After a head's first grid point the first kept block holds the high part of the means. -/
theorem sout_A0 (c : Dev nD) (i : grid0.Coords) (arg3 : Memref sig .tc .smem S8 .f32) (harg3 : arg3.IsWhole) (arg4 : Memref sig .tc .vmem S256x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S256x128 .bf16) (harg7 : arg7.IsWhole) (arg8 : Memref sig .tc .vmem S128x128 .bf16) (harg8 : arg8.IsWhole) (arg9 : Memref sig .tc .vmem S128x128 .bf16) (harg9 : arg9.IsWhole) (hc0 : cond0_0 i)
    (x0 : Vec F S8 .f32) (x1 : Vec F S256x128 .bf16) (x2 : Vec F S4096x128 .bf16) (x3 : Vec F S4096x128 .bf16) :
    sout0_A_0 c i arg3 harg3 arg4 harg4 arg5 harg5 arg6 harg6 arg7 harg7 arg8 harg8 arg9 harg9 hc0 x0 x1 x2 x3 = hiV x2 := by
  unfold sout0_A_0
  rw [View.read_writes_eq_canon _ _ _ (scover0_A_0 c i arg3 harg3 arg4 harg4 arg5 harg5 arg6 harg6 arg7 harg7 arg8 harg8 arg9 harg9 hc0 x0 x1 x2 x3)]
  unfold kernelRun0_A; dsimp only
  sl_unfold_words
  simp only [View.readAt_eq_ld, harg5.read_unread]
  rw [canon_head]
  rw [View.ld_unit_zero (by decide)]
  rfl

/-- After a head's first grid point the second kept block holds the low part of the means. -/
theorem sout_A1 (c : Dev nD) (i : grid0.Coords) (arg3 : Memref sig .tc .smem S8 .f32) (harg3 : arg3.IsWhole) (arg4 : Memref sig .tc .vmem S256x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S256x128 .bf16) (harg7 : arg7.IsWhole) (arg8 : Memref sig .tc .vmem S128x128 .bf16) (harg8 : arg8.IsWhole) (arg9 : Memref sig .tc .vmem S128x128 .bf16) (harg9 : arg9.IsWhole) (hc0 : cond0_0 i)
    (x0 : Vec F S8 .f32) (x1 : Vec F S256x128 .bf16) (x2 : Vec F S4096x128 .bf16) (x3 : Vec F S4096x128 .bf16) :
    sout0_A_1 c i arg3 harg3 arg4 harg4 arg5 harg5 arg6 harg6 arg7 harg7 arg8 harg8 arg9 harg9 hc0 x0 x1 x2 x3 = loV x2 := by
  unfold sout0_A_1
  rw [View.read_writes_eq_canon _ _ _ (scover0_A_1 c i arg3 harg3 arg4 harg4 arg5 harg5 arg6 harg6 arg7 harg7 arg8 harg8 arg9 harg9 hc0 x0 x1 x2 x3)]
  unfold kernelRun0_A; dsimp only
  sl_unfold_words
  simp only [View.readAt_eq_ld, harg5.read_unread]
  rw [canon_head]
  rw [View.ld_unit_zero (by decide)]
  rfl

/-- The loop over past blocks takes as many trips as the query block's number. -/
theorem trips_eq (i : grid0.Coords) : (k0_t1_loop i).trips = (i 2).val := by
  have : ∀ n : Fin 16, Scf.trips 0#32 (Scalar.addi 0#32 (Scalar.muli (Scalar.divsi (Scalar.subi (BitVec.ofNat 32 n.val) 0#32) 1#32) 1#32)) 1#32 = n.val := by decide +kernel
  exact this (i 2)

/-- The means are computed at the grid points of query block zero. -/
theorem cond_iff (i : grid0.Coords) : cond0_0 i ↔ (i 2).val = 0 := by
  have : ∀ n : Fin 16, (Scalar.cmpi .ne (Scalar.extui (Scalar.cmpi .eq (BitVec.ofNat 32 n.val) 0#32)) 0#32) = 1#1 ↔ n.val = 0 := by decide +kernel
  exact this (i 2)

/-- What a head's first grid point leaves in its output block. -/
theorem out_A (c : Dev nD) (i : grid0.Coords) (arg3 : Memref sig .tc .smem S8 .f32) (harg3 : arg3.IsWhole) (arg4 : Memref sig .tc .vmem S256x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S256x128 .bf16) (harg7 : arg7.IsWhole) (arg8 : Memref sig .tc .vmem S128x128 .bf16) (harg8 : arg8.IsWhole) (arg9 : Memref sig .tc .vmem S128x128 .bf16) (harg9 : arg9.IsWhole) (hc0 : cond0_0 i)
    (x0 : Vec F S8 .f32) (x1 : Vec F S256x128 .bf16) (x2 : Vec F S4096x128 .bf16) (x3 : Vec F S4096x128 .bf16) :
    out0_A_4 c i arg3 harg3 arg4 harg4 arg5 harg5 arg6 harg6 arg7 harg7 arg8 harg8 arg9 harg9 hc0 x0 x1 x2 x3 = outV i x0 x1 x2 x3 (hiV x2) (loV x2) := by
  unfold out0_A_4
  rw [View.read_writes_eq_canon _ _ _ (cover0_A_4 c i arg3 harg3 arg4 harg4 arg5 harg5 arg6 harg6 arg7 harg7 arg8 harg8 arg9 harg9 hc0 x0 x1 x2 x3)]
  unfold kernelRun0_A; dsimp only
  rw [View.canon_unit_zero (by decide)]
  unfold kernelRun0_A.sl.r_2
  have e0 : Scf.trips (k0_t2_loop i).lb (k0_t2_loop i).ub (k0_t2_loop i).st = 0 := t2_trips i
  have e5 : Scf.trips (k0_t1_loop i).lb (k0_t1_loop i).ub (k0_t1_loop i).st = 0 := by
    have := trips_eq i
    rw [(cond_iff i).mp hc0] at this
    exact this
  rw [e0, e5]
  simp only [st_k0_t2_zero, st_k0_t1_zero]
  unfold kernelRun0_A.sl.r kernelRun0_A.sl.r_1
  simp only [View.readAt_eq_ld, harg3.read_unread, harg4.read_unread, harg5.read_unread, harg6.read_unread]
  rw [View.ld_unit_zero (by decide)]
  unfold outV
  have e6 : (k0_t1_loop i).trips = 0 := e5
  rw [e6]
  rfl

end Cert.KernelIdeal.Body
end
-- ==== Proof.Math.lean ====
module

public import Idealize.ShloMosaic.PureOps.Ideal.Laws
public import Idealize.ShloMosaic.Lib.IdealHost

@[expose] public section

noncomputable section

namespace Cert.Soft

open Idealize.ShloMosaic

/-- A finite sum of reals, read as extended reals, is the sum of the readings. -/
theorem coe_sum {ι : Type} (s : Finset ι) (f : ι → ℝ) : ∑ x ∈ s, (f x : EReal) = ((∑ x ∈ s, f x : ℝ) : EReal) := by
  classical
  induction s using Finset.induction_on with
  | empty => simp
  | insert a s ha ih => rw [Finset.sum_insert ha, Finset.sum_insert ha, ih, EReal.coe_add]

/-- A maximum over entries below the top is below the top. -/
theorem fold_max_ne_top {ι : Type} (s : Finset ι) (f : ι → EReal) (hf : ∀ x, f x ≠ ⊤) : Finset.fold max ⊥ f s ≠ ⊤ := by
  refine ne_of_lt ((Finset.fold_max_lt _).2 ⟨bot_lt_top, fun x _ => lt_top_iff_ne_top.2 (hf x)⟩)

/-- A maximum is at least each of its entries. -/
theorem le_fold {ι : Type} (s : Finset ι) (f : ι → EReal) (x : ι) (hx : x ∈ s) : f x ≤ Finset.fold max ⊥ f s :=
  (Finset.le_fold_max _).2 (Or.inr ⟨x, hx, le_rfl⟩)

/-- A maximum of entries below the top, one of them real, is real. -/
theorem fold_max_real {ι : Type} (s : Finset ι) (f : ι → EReal) (hf : ∀ x, f x ≠ ⊤) (x : ι) (hx : x ∈ s) (hb : f x ≠ ⊥) :
    ∃ M : ℝ, Finset.fold max ⊥ f s = (M : EReal) := by
  have h1 := fold_max_ne_top s f hf
  have h2 : Finset.fold max ⊥ f s ≠ ⊥ := fun h => hb (le_bot_iff.1 (h ▸ le_fold s f x hx))
  exact ⟨_, (EReal.coe_toReal h1 h2).symm⟩

/-- The larger of a real and an entry below the top is real. -/
theorem max_real (m : ℝ) (x : EReal) (hx : x ≠ ⊤) : ∃ M : ℝ, max (m : EReal) x = (M : EReal) := by
  have h1 : max (m : EReal) x ≠ ⊤ := by
    rw [← lt_top_iff_ne_top, max_lt_iff]; exact ⟨EReal.coe_lt_top m, lt_top_iff_ne_top.2 hx⟩
  have h2 : max (m : EReal) x ≠ ⊥ := fun h => EReal.coe_ne_bot m (le_bot_iff.1 (h ▸ le_max_left _ _))
  exact ⟨_, (EReal.coe_toReal h1 h2).symm⟩

/-- A masked logit: the real where the key is attended, minus infinity elsewhere. -/
def masked (P : Prop) [Decidable P] (x : ℝ) : EReal := if P then (x : EReal) else ⊥

/-- The weight of a key: the exponential of its logit where it is attended, nothing elsewhere. -/
def wt (P : Prop) [Decidable P] (x : ℝ) : ℝ := if P then Real.exp x else 0

theorem masked_ne_top (P : Prop) [Decidable P] (x : ℝ) : masked P x ≠ ⊤ := by
  unfold masked; split
  · exact EReal.coe_ne_top x
  · exact bot_ne_top

theorem wt_nonneg (P : Prop) [Decidable P] (x : ℝ) : 0 ≤ wt P x := by
  unfold wt; split
  · exact (Real.exp_pos x).le
  · exact le_rfl

theorem exp_masked_sub (P : Prop) [Decidable P] (x M : ℝ) :
    Ideal.exp (masked P x - (M : EReal)) = ((Real.exp (-M) * wt P x : ℝ) : EReal) := by
  unfold masked wt; split
  · rw [← EReal.coe_sub, Ideal.exp_coe, ← Real.exp_add]; congr 2; ring
  · simp

theorem exp_masked_sub' (P : Prop) [Decidable P] (x M c : ℝ) :
    Ideal.exp (masked P x - ((M : EReal) - (c : EReal))) = ((Real.exp (-M) * wt P (x + c) : ℝ) : EReal) := by
  rw [← EReal.coe_sub, exp_masked_sub]; unfold wt; congr 1; split
  · rw [← Real.exp_add, ← Real.exp_add]; congr 1; ring
  · simp

/-- The sum of the shifted exponentials of a block. -/
theorem sum_exp {ι : Type} [Fintype ι] (P : ι → Prop) [DecidablePred P] (x : ι → ℝ) (M : ℝ) :
    ∑ c, Ideal.exp (masked (P c) (x c) - (M : EReal)) = ((Real.exp (-M) * ∑ c, wt (P c) (x c) : ℝ) : EReal) := by
  simp only [exp_masked_sub, coe_sum, Finset.mul_sum]

/-- The weighted sum of a block's values. -/
theorem sum_exp_mul {ι : Type} [Fintype ι] (P : ι → Prop) [DecidablePred P] (x v : ι → ℝ) (M : ℝ) :
    ∑ c, Ideal.exp (masked (P c) (x c) - (M : EReal)) * (v c : EReal)
      = ((Real.exp (-M) * ∑ c, wt (P c) (x c) * v c : ℝ) : EReal) := by
  simp only [exp_masked_sub, ← EReal.coe_mul, coe_sum, Finset.mul_sum, mul_assoc]

theorem sum_exp' {ι : Type} [Fintype ι] (P : ι → Prop) [DecidablePred P] (x : ι → ℝ) (M c : ℝ) :
    ∑ i, Ideal.exp (masked (P i) (x i) - ((M : EReal) - (c : EReal)))
      = ((Real.exp (-M) * ∑ i, wt (P i) (x i + c) : ℝ) : EReal) := by
  simp only [exp_masked_sub', coe_sum, Finset.mul_sum]

theorem sum_exp_mul' {ι : Type} [Fintype ι] (P : ι → Prop) [DecidablePred P] (x v : ι → ℝ) (M c : ℝ) :
    ∑ i, Ideal.exp (masked (P i) (x i) - ((M : EReal) - (c : EReal))) * (v i : EReal)
      = ((Real.exp (-M) * ∑ i, wt (P i) (x i + c) * v i : ℝ) : EReal) := by
  simp only [exp_masked_sub', ← EReal.coe_mul, coe_sum, Finset.mul_sum, mul_assoc]

/-- One step of the running sum: the old sum rescaled to the new maximum, plus the new block's. -/
theorem rescale (m M D E : ℝ) :
    Ideal.exp ((m : EReal) - (M : EReal)) * ((Real.exp (-m) * D : ℝ) : EReal) + ((Real.exp (-M) * E : ℝ) : EReal)
      = ((Real.exp (-M) * (D + E) : ℝ) : EReal) := by
  rw [← EReal.coe_sub, Ideal.exp_coe, ← EReal.coe_mul, ← EReal.coe_add]
  congr 1
  have : Real.exp (m - M) * Real.exp (-m) = Real.exp (-M) := by rw [← Real.exp_add]; congr 1; ring
  rw [mul_add, ← mul_assoc, this]

/-- The quotient of the two running sums does not see the maximum they are scaled by. -/
theorem quotient (M N D : ℝ) (hD : 0 < D) :
    Ideal.div ((Real.exp (-M) * N : ℝ) : EReal) ((Real.exp (-M) * D : ℝ) : EReal) = ((N / D : ℝ) : EReal) := by
  have he := Real.exp_pos (-M)
  rw [Ideal.div_coe (mul_pos he hD).ne', ← EReal.coe_mul]
  congr 1; field_simp

/-- The real a constant's bit pattern stands for, when it is finite. -/
theorem ofBits_real (n : BitVec 32) (h : Ideal.ofBits .f32 n ≠ ⊤) (h' : Ideal.ofBits .f32 n ≠ ⊥) :
    Ideal.ofBits .f32 n = ((Ideal.ofBits .f32 n).toReal : EReal) := (EReal.coe_toReal h h').symm

theorem ofBits_neg_inf : Ideal.ofBits .f32 4286578688#32 = ⊥ := by
  simp [Ideal.ofBits, Ideal.ieee]

/-- The scale of the logits. -/
def sc : ℝ := (Ideal.ofBits .f32 1035273459#32).toReal

theorem ofBits_sc : Ideal.ofBits .f32 1035273459#32 = (sc : EReal) := by
  have h : ∃ x : ℝ, Ideal.ofBits .f32 1035273459#32 = (x : EReal) := by
    simp only [Ideal.ofBits, Ideal.ieee]
    norm_num
    exact ⟨_, rfl⟩
  obtain ⟨x, hx⟩ := h
  rw [sc, hx, EReal.toReal_coe]

theorem ofBits_half : Ideal.ofBits .f32 1056964608#32 = ((1 / 2 : ℝ) : EReal) := by
  simp [Ideal.ofBits, Ideal.ieee, -EReal.coe_mul]; norm_num

/-- The reciprocal of the block's length. -/
theorem ofBits_inv256 : Ideal.ofBits .f32 998244352#32 = ((1 / 256 : ℝ) : EReal) := by
  simp [Ideal.ofBits, Ideal.ieee, -EReal.coe_mul]; norm_num

theorem ofBits_256 : Ideal.ofBits .f32 1132462080#32 = ((256 : ℝ) : EReal) := by
  simp [Ideal.ofBits, Ideal.ieee, -EReal.coe_mul]; norm_num

end Cert.Soft
-- ==== Proof.Sel.lean ====
module

public import proofs.«01_k».proof.Proof.Body
public import proofs.«01_k».proof.Proof.Math
public import Idealize.ShloMosaic.Lib.Pointwise
public import Idealize.ShloMosaic.Lib.IdealHost
public import Idealize.ShloMosaic.PureOps.Ideal.Laws

@[expose] public section

set_option maxRecDepth 16384

noncomputable section

namespace Cert.Soft

open Idealize.ShloMosaic

theorem toInt_small (a : ℕ) (h : a < 2147483648) : (BitVec.ofNat 32 a).toInt = (a : ℤ) := by
  rw [BitVec.toInt_eq_toNat_of_lt] <;> simp only [BitVec.toNat_ofNat] <;> omega

theorem sgt_nat (a b : ℕ) (ha : a < 2147483648) (hb : b < 2147483648) :
    IntOp.cmpi .sgt (BitVec.ofNat 32 a) (BitVec.ofNat 32 b) = BitVec.ofBool (decide (b < a)) := by
  simp only [IntOp.cmpi, BitVec.slt_eq_decide, toInt_small _ ha, toInt_small _ hb, Nat.cast_lt]

theorem slt_nat (a b : ℕ) (ha : a < 2147483648) (hb : b < 2147483648) :
    IntOp.cmpi .slt (BitVec.ofNat 32 a) (BitVec.ofNat 32 b) = BitVec.ofBool (decide (a < b)) := by
  simp only [IntOp.cmpi, BitVec.slt_eq_decide, toInt_small _ ha, toInt_small _ hb, Nat.cast_lt]

theorem sle_nat (a b : ℕ) (ha : a < 2147483648) (hb : b < 2147483648) :
    IntOp.cmpi .sle (BitVec.ofNat 32 a) (BitVec.ofNat 32 b) = BitVec.ofBool (decide (a ≤ b)) := by
  simp only [IntOp.cmpi, BitVec.sle_eq_decide, toInt_small _ ha, toInt_small _ hb, Nat.cast_le]

theorem eq_nat (a b : ℕ) (ha : a < 2147483648) (hb : b < 2147483648) :
    IntOp.cmpi .eq (BitVec.ofNat 32 a) (BitVec.ofNat 32 b) = BitVec.ofBool (decide (a = b)) := by
  have : (BitVec.ofNat 32 a = BitVec.ofNat 32 b) ↔ a = b := by
    constructor
    · intro h; have := congrArg BitVec.toNat h; simp only [BitVec.toNat_ofNat] at this; omega
    · rintro rfl; rfl
  simp only [IntOp.cmpi]; congr 1
  rw [Bool.eq_iff_iff]; simp only [beq_iff_eq, decide_eq_true_eq, this]

theorem select_ofBool {α : Type} (P : Prop) [Decidable P] (a b : α) :
    Scalar.select (BitVec.ofBool (decide P)) a b = if P then a else b := by
  by_cases h : P <;> simp [Scalar.select, h]

theorem andi_ofBool (P Q : Prop) [Decidable P] [Decidable Q] :
    IntOp.andi (BitVec.ofBool (decide P)) (BitVec.ofBool (decide Q)) = BitVec.ofBool (decide (P ∧ Q)) := by
  by_cases h : P <;> by_cases h' : Q <;> simp [IntOp.andi, h, h']

theorem ori_ofBool (P Q : Prop) [Decidable P] [Decidable Q] :
    IntOp.ori (BitVec.ofBool (decide P)) (BitVec.ofBool (decide Q)) = BitVec.ofBool (decide (P ∨ Q)) := by
  by_cases h : P <;> by_cases h' : Q <;> simp [IntOp.ori, h, h']

/-- Block `j` comes before block `n` in the order of the gates: a larger gate, or the same gate and a
    smaller position. -/
def Ahead {α : Type} [LinearOrder α] (g : ℕ → α) (j n : ℕ) : Prop := g n < g j ∨ (g j = g n ∧ j < n)

instance {α : Type} [LinearOrder α] (g : ℕ → α) (j n : ℕ) : Decidable (Ahead g j n) := by unfold Ahead; infer_instance

/-- How many past blocks come before block `n`. -/
def rank {α : Type} [LinearOrder α] (g : ℕ → α) (b n : ℕ) : ℕ := ((Finset.range b).filter fun j => Ahead g j n).card

/-- The kernel's bit for one candidate block, as a number. -/
theorem term_eq (a b : EReal) (l n j : ℕ) (hl : l < 2147483648) (hn : n < 2147483648) (hj : j < 2147483648) :
    Scalar.select (IntOp.andi (IntOp.ori (BitVec.ofBool (decide (a < b)))
      (IntOp.andi (BitVec.ofBool (decide (b = a))) (IntOp.cmpi .sgt (BitVec.ofNat 32 l) (BitVec.ofNat 32 j))))
      (Scalar.cmpi .sgt (BitVec.ofNat 32 n) (BitVec.ofNat 32 j))) (1 : EReal) 0
    = if (a < b ∨ (b = a ∧ j < l)) ∧ j < n then 1 else 0 := by
  rw [Scalar.cmpi, sgt_nat _ _ hl hj, sgt_nat _ _ hn hj, andi_ofBool, ori_ofBool, andi_ofBool, select_ofBool]

/-- The sum of the sixteen bits is the rank. -/
theorem sum_terms (g : ℕ → EReal) (n l : ℕ) (hn : n ≤ 16) :
    ∑ j ∈ Finset.range 16, (if (g l < g j ∨ (g j = g l ∧ j < l)) ∧ j < n then (1 : EReal) else 0) = ((rank g n l : ℝ) : EReal) := by
  have h : rank g n l = ∑ j ∈ Finset.range 16, if (g l < g j ∨ (g j = g l ∧ j < l)) ∧ j < n then 1 else 0 := by
    rw [rank, Finset.card_filter, ← Finset.sum_subset (Finset.range_subset_range.2 hn)]
    · refine Finset.sum_congr rfl fun j hj => ?_
      have := Finset.mem_range.1 hj
      unfold Ahead
      simp only [this, and_true]
    · intro j _ hj
      have : ¬j < n := fun h => hj (Finset.mem_range.2 h)
      simp only [this, and_false, if_false]
  rw [h, Nat.cast_sum, ← coe_sum]
  refine Finset.sum_congr rfl fun j _ => ?_
  split <;> simp

theorem ofBits_three : Ideal.ofBits .f32 1077936128#32 = ((3 : ℝ) : EReal) := by
  simp [Ideal.ofBits, Ideal.ieee, -EReal.coe_mul]; norm_num

end Cert.Soft

namespace Cert.KernelIdeal.Body

open Idealize.ShloMosaic Idealize.ShloMosaic.TcCoe Idealize.SL.Sem Cert.KernelIdeal Cert.KernelIdeal.Gen Cert.Soft

/-- The selection's bit at a query row and a lane: the lane is a past block among the first three. -/
theorem selV_apply (i : grid0.Coords) (q : Vec Ideal S256x128 .bf16) (hi lo : Vec Ideal S128x128 .bf16) (r : Fin 256) (l : Fin 128) :
    selV (F := Ideal) i q hi lo (ix2 r l)
      = BitVec.ofBool (decide (l.val < (i 2).val ∧ rank (fun j => k0_pay23 (F := Ideal) q hi lo (ix2 r (Fin.ofNat 128 j))) (i 2).val l.val < 3)) := by
  have hq : (i 2).val < 16 := (i 2).isLt
  generalize hg : (fun j => k0_pay23 (F := Ideal) q hi lo (ix2 r (Fin.ofNat 128 j))) = G
  have hl : k0_pay23 (F := Ideal) q hi lo (ix2 r l) = G l.val := by
    rw [← hg]; simp
  have hj : ∀ j : ℕ, k0_pay23 (F := Ideal) q hi lo (ix2 r (Fin.ofNat 128 j)) = G j := fun j => by rw [← hg]
  unfold selV; dsimp only
  pointwise [k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
  have e0 := hj 0; have e1 := hj 1; have e2 := hj 2; have e3 := hj 3; have e4 := hj 4; have e5 := hj 5
  have e6 := hj 6; have e7 := hj 7; have e8 := hj 8; have e9 := hj 9; have e10 := hj 10; have e11 := hj 11
  have e12 := hj 12; have e13 := hj 13; have e14 := hj 14; have e15 := hj 15
  change k0_pay23 (F := Ideal) q hi lo (ix2 r 0) = _ at e0
  change k0_pay23 (F := Ideal) q hi lo (ix2 r 1) = _ at e1
  change k0_pay23 (F := Ideal) q hi lo (ix2 r 2) = _ at e2
  change k0_pay23 (F := Ideal) q hi lo (ix2 r 3) = _ at e3
  change k0_pay23 (F := Ideal) q hi lo (ix2 r 4) = _ at e4
  change k0_pay23 (F := Ideal) q hi lo (ix2 r 5) = _ at e5
  change k0_pay23 (F := Ideal) q hi lo (ix2 r 6) = _ at e6
  change k0_pay23 (F := Ideal) q hi lo (ix2 r 7) = _ at e7
  change k0_pay23 (F := Ideal) q hi lo (ix2 r 8) = _ at e8
  change k0_pay23 (F := Ideal) q hi lo (ix2 r 9) = _ at e9
  change k0_pay23 (F := Ideal) q hi lo (ix2 r 10) = _ at e10
  change k0_pay23 (F := Ideal) q hi lo (ix2 r 11) = _ at e11
  change k0_pay23 (F := Ideal) q hi lo (ix2 r 12) = _ at e12
  change k0_pay23 (F := Ideal) q hi lo (ix2 r 13) = _ at e13
  change k0_pay23 (F := Ideal) q hi lo (ix2 r 14) = _ at e14
  change k0_pay23 (F := Ideal) q hi lo (ix2 r 15) = _ at e15
  simp only [e0, e1, e2, e3, e4, e5, e6, e7, e8, e9, e10, e11, e12, e13, e14, e15, hl]
  have hl' : l.val < 2147483648 := by omega
  have hq' : (i 2).val < 2147483648 := by omega
  have T : ∀ (j : ℕ) (hj : j < 2147483648), _ := fun j hj => term_eq (G l.val) (G j) l.val (i 2).val j hl' hq' hj
  have hs := sum_terms G (i 2).val l.val (by omega)
  simp only [Finset.sum_range_succ, Finset.sum_range_zero, zero_add] at hs
  rw [T 0 (by decide), T 1 (by decide), T 2 (by decide), T 3 (by decide), T 4 (by decide), T 5 (by decide), T 6 (by decide), T 7 (by decide), T 8 (by decide), T 9 (by decide), T 10 (by decide), T 11 (by decide), T 12 (by decide), T 13 (by decide), T 14 (by decide), T 15 (by decide), hs, slt_nat _ _ hl' hq', andi_ofBool, ofBits_three]
  congr 2
  rw [EReal.coe_lt_coe_iff]
  norm_cast

end Cert.KernelIdeal.Body
-- ==== Proof.Spec.lean ====
module

public import proofs.«01_k».proof.Proof.Sel

@[expose] public section

noncomputable section

namespace Cert.Soft

open Idealize.ShloMosaic

/-- The mean of the keys of block `n`. -/
def keyMean (K : ℕ → Fin 128 → ℝ) (n : ℕ) (d : Fin 128) : ℝ := (∑ x : Fin 256, K (n * 256 + x.val) d) * (1 / 256)

/-- A query's gate for block `n`: its scaled product with the mean of the block's keys. -/
def gate (Q : Fin 128 → ℝ) (K : ℕ → Fin 128 → ℝ) (n : ℕ) : ℝ := (∑ d, Q d * keyMean K n d) * sc

/-- A query in block `b` attends to the whole of block `n`: a past block, among the first three in
    the order of the gates of the past blocks. -/
def Picked (Q : Fin 128 → ℝ) (K : ℕ → Fin 128 → ℝ) (b n : ℕ) : Prop := n < b ∧ rank (gate Q K) b n < 3

instance (Q : Fin 128 → ℝ) (K : ℕ → Fin 128 → ℝ) (b n : ℕ) : Decidable (Picked Q K b n) := by unfold Picked; infer_instance

/-- The logit of key `c` of block `n` for the query in row `r` of block `b`: the scaled product, less
    the slope times the distance. -/
def logit (Q : Fin 128 → ℝ) (K : ℕ → Fin 128 → ℝ) (w : ℝ) (b r n c : ℕ) : ℝ :=
  (∑ d, Q d * K (n * 256 + c) d) * sc - w * (((b : ℝ) * 256 + r) - ((n : ℝ) * 256 + c))

/-- The weight of key `c` of the query's own block. -/
def ownW (Q : Fin 128 → ℝ) (K : ℕ → Fin 128 → ℝ) (w : ℝ) (b r : ℕ) (c : Fin 256) : ℝ := wt (c.val ≤ r) (logit Q K w b r b c)

/-- The weight of key `c` of block `n`. -/
def pastW (Q : Fin 128 → ℝ) (K : ℕ → Fin 128 → ℝ) (w : ℝ) (b r n : ℕ) (c : Fin 256) : ℝ := wt (Picked Q K b n) (logit Q K w b r n c)

/-- The sum of the weights over the query's own block and its first `k` past blocks. -/
def den (Q : Fin 128 → ℝ) (K : ℕ → Fin 128 → ℝ) (w : ℝ) (b r k : ℕ) : ℝ :=
  ∑ c, ownW Q K w b r c + ∑ n ∈ Finset.range k, ∑ c, pastW Q K w b r n c

/-- The sum of the weighted values. -/
def num (Q : Fin 128 → ℝ) (K V : ℕ → Fin 128 → ℝ) (w : ℝ) (b r : ℕ) (d : Fin 128) (k : ℕ) : ℝ :=
  ∑ c : Fin 256, ownW Q K w b r c * V (b * 256 + c.val) d
    + ∑ n ∈ Finset.range k, ∑ c : Fin 256, pastW Q K w b r n c * V (n * 256 + c.val) d

/-- The attention of one query, at one coordinate of the values. -/
def attn (Q : Fin 128 → ℝ) (K V : ℕ → Fin 128 → ℝ) (w : ℝ) (b r : ℕ) (d : Fin 128) : ℝ :=
  num Q K V w b r d b / den Q K w b r b

theorem den_pos (Q : Fin 128 → ℝ) (K : ℕ → Fin 128 → ℝ) (w : ℝ) (b : ℕ) (r : Fin 256) (k : ℕ) : 0 < den Q K w b r k := by
  refine add_pos_of_pos_of_nonneg ?_ (Finset.sum_nonneg fun n _ => Finset.sum_nonneg fun c _ => wt_nonneg _ _)
  refine Finset.sum_pos' (fun c _ => wt_nonneg _ _) ⟨r, Finset.mem_univ _, ?_⟩
  unfold ownW wt; rw [if_pos le_rfl]; exact Real.exp_pos _

/-- The rank reads only the gates of the past blocks and of the block itself. -/
theorem rank_coe (G : ℕ → EReal) (g : ℕ → ℝ) (b n : ℕ) (hn : n < b) (h : ∀ j < b, G j = (g j : EReal)) : rank G b n = rank g b n := by
  unfold rank
  congr 1
  refine Finset.filter_congr fun j hj => ?_
  unfold Ahead
  rw [h n hn, h j (Finset.mem_range.1 hj), EReal.coe_lt_coe_iff, EReal.coe_eq_coe_iff]

end Cert.Soft
-- ==== Proof.RefHeads.lean ====
module

public import proofs.«01_k».proof.Proof.Gen.ReferenceIdeal.Read
public import proofs.«01_k».proof.Proof.Spec
public import Idealize.ShloMosaic.Lib.Pointwise

@[expose] public section

set_option maxRecDepth 16384

noncomputable section

namespace Cert.Ref

open Cert.ReferenceIdeal Cert.ReferenceIdeal.Gen Cert.ReferenceIdeal.Read Idealize.ShloMosaic Idealize.ShloMosaic.TcCoe
open Cert.Soft

/-- The argument, every entry of it a real number. -/
def Reals (x0 : (⟨S16384x5632, .bf16⟩ : BufTy).Contents (Elt Ideal)) (U : ℕ → ℕ → ℝ) : Prop :=
  ∀ (a : Fin 16384) (c : Fin 5632), x0 (ix2 a c) = (U a.val c.val : EReal)

/-- The query at one position of one head. -/
def Qh (U : ℕ → ℕ → ℝ) (b h s : ℕ) (d : Fin 128) : ℝ := U (b * 4096 + s) (1536 + h * 128 + d.val)
/-- The keys of one head. -/
def Kh (U : ℕ → ℕ → ℝ) (b h n : ℕ) (d : Fin 128) : ℝ := U (b * 4096 + n) (2560 + h * 128 + d.val)
/-- The values of one head. -/
def Vh (U : ℕ → ℕ → ℝ) (b h n : ℕ) (d : Fin 128) : ℝ := U (b * 4096 + n) (3584 + h * 128 + d.val)

variable {x0 : (⟨S16384x5632, .bf16⟩ : BufTy).Contents (Elt Ideal)} {U : ℕ → ℕ → ℝ}

theorem read_at (hx : Reals x0 U) (i : S16384x5632.Idx) : x0 i = (U (i 0).val (i 1).val : EReal) := by
  rw [← hx (i 0) (i 1)]; congr 1; exact eq_ix2 i

theorem q_at (hx : Reals x0 U) (b : Fin 4) (h : Fin 8) (s : Fin 4096) (d : Fin 128) :
    val_main_v6 (F := Ideal) x0 (ix4 b h s d) = (Qh U b.val h.val s.val d : EReal) := by
  rw [val_main_v6_apply, val_main_v5_apply, val_main_v2_apply, val_main_v1_apply, val_main_v0_apply, Ideal.extf_def, read_at hx]
  have := b.isLt; have := h.isLt; have := s.isLt; have := d.isLt
  unfold Qh
  congr 2 <;> simp <;> omega

theorem k_at (hx : Reals x0 U) (b : Fin 4) (h : Fin 8) (s : Fin 4096) (d : Fin 128) :
    val_main_v10 (F := Ideal) x0 (ix4 b h s d) = (Kh U b.val h.val s.val d : EReal) := by
  rw [val_main_v10_apply, val_main_v9_apply, val_main_v3_apply, val_main_v1_apply, val_main_v0_apply, Ideal.extf_def, read_at hx]
  have := b.isLt; have := h.isLt; have := s.isLt; have := d.isLt
  unfold Kh
  congr 2 <;> simp <;> omega

theorem v_at (hx : Reals x0 U) (b : Fin 4) (h : Fin 8) (s : Fin 4096) (d : Fin 128) :
    val_main_v12 (F := Ideal) x0 (ix4 b h s d) = (Vh U b.val h.val s.val d : EReal) := by
  rw [val_main_v12_apply, val_main_v11_apply, val_main_v4_apply, val_main_v1_apply, val_main_v0_apply, Ideal.extf_def, read_at hx]
  have := b.isLt; have := h.isLt; have := s.isLt; have := d.isLt
  unfold Vh
  congr 2 <;> simp <;> omega

/-- The scaled queries. -/
theorem qs_at (hx : Reals x0 U) (b : Fin 4) (h : Fin 8) (s : Fin 4096) (d : Fin 128) :
    val_main_v8 (F := Ideal) x0 (ix4 b h s d) = ((Qh U b.val h.val s.val d * sc : ℝ) : EReal) := by
  rw [val_main_v8_apply, q_at hx, val_main_v7_apply, val_main_cst_apply, Ideal.mulf_def, EReal.coe_mul, ← ofBits_sc]; rfl

/-- The keys, by blocks. -/
theorem kb_at (hx : Reals x0 U) (b : Fin 4) (h : Fin 8) (n : Fin 16) (c : Fin 256) (d : Fin 128) :
    val_main_v13 (F := Ideal) x0 (ix5 b h n c d) = (Kh U b.val h.val (n.val * 256 + c.val) d : EReal) := by
  have := b.isLt; have := h.isLt; have := n.isLt; have := c.isLt; have := d.isLt
  rw [val_main_v13_apply, show idx_main_v13 (ix5 b h n c d) = ix4 b h ⟨n.val * 256 + c.val, by omega⟩ d from ?_, k_at hx]
  funext a; fin_cases a <;> apply Fin.ext <;> simp <;> omega

/-- The values, by blocks. -/
theorem vb_at (hx : Reals x0 U) (b : Fin 4) (h : Fin 8) (n : Fin 16) (c : Fin 256) (d : Fin 128) :
    val_main_v14 (F := Ideal) x0 (ix5 b h n c d) = (Vh U b.val h.val (n.val * 256 + c.val) d : EReal) := by
  have := b.isLt; have := h.isLt; have := n.isLt; have := c.isLt; have := d.isLt
  rw [val_main_v14_apply, show idx_main_v14 (ix5 b h n c d) = ix4 b h ⟨n.val * 256 + c.val, by omega⟩ d from ?_, v_at hx]
  funext a; fin_cases a <;> apply Fin.ext <;> simp <;> omega

/-- The scaled queries, by blocks. -/
theorem qb_at (hx : Reals x0 U) (b : Fin 4) (h : Fin 8) (n : Fin 16) (c : Fin 256) (d : Fin 128) :
    val_main_v79 (F := Ideal) x0 (ix5 b h n c d) = ((Qh U b.val h.val (n.val * 256 + c.val) d * sc : ℝ) : EReal) := by
  have := b.isLt; have := h.isLt; have := n.isLt; have := c.isLt; have := d.isLt
  rw [val_main_v79_apply, show idx_main_v79 (ix5 b h n c d) = ix4 b h ⟨n.val * 256 + c.val, by omega⟩ d from ?_, qs_at hx]
  funext a; fin_cases a <;> apply Fin.ext <;> simp <;> omega

/-- The mean key of a block. -/
theorem mean_at (hx : Reals x0 U) (b : Fin 4) (h : Fin 8) (n : Fin 16) (d : Fin 128) :
    val_main_v17 (F := Ideal) x0 (ix4 b h n d) = (keyMean (Kh U b.val h.val) n.val d : EReal) := by
  rw [val_main_v17_apply, val_main_v15_apply, val_main_v16_apply, val_main_cst_1_apply]
  have e : ∀ k : Fin 256, idx_main_v15 (ix4 b h n d) k = ix5 b h n k d := by
    intro k; funext a; fin_cases a <;> rfl
  simp only [e, kb_at hx, coe_sum, val_main_cst_0_apply]
  unfold keyMean
  rw [show (FloatOps.ofBits (F := Ideal) .f32 0x00000000#32 : EReal) = 0 by exact Ideal.ofBits_zero _, zero_add,
    show (FloatOps.ofBits (F := Ideal) .f32 0x43800000#32 : EReal) = ((256 : ℝ) : EReal) from ofBits_256]
  rw [Ideal.hostDivf_def, Ideal.div_coe (by norm_num), ← EReal.coe_mul]

/-- The gate of a block, before the mask. -/
theorem gate_at (hx : Reals x0 U) (b : Fin 4) (h : Fin 8) (s : Fin 4096) (n : Fin 16) :
    val_main_v20 (F := Ideal) x0 (ix4 b h s n) = (gate (Qh U b.val h.val s.val) (Kh U b.val h.val) n.val : EReal) := by
  rw [val_main_v20_apply]
  have e : ∀ k : Fin 128, lidx_main_v20 (ix4 b h s n) k = ix4 b h s k := by
    intro k; funext a; fin_cases a <;> rfl
  have e' : ∀ k : Fin 128, ridx_main_v20 (ix4 b h s n) k = ix4 b h n k := by
    intro k; funext a; fin_cases a <;> rfl
  simp only [e, e', qs_at hx, mean_at hx, ← EReal.coe_mul, coe_sum]
  unfold gate
  rw [Finset.sum_mul]
  congr 1
  exact Finset.sum_congr rfl fun d _ => by ring

end Cert.Ref
-- ==== Proof.Rank.lean ====
module

public import proofs.«01_k».proof.Proof.Sel
public import Idealize.ShloMosaic.Lib.SortPrefix

@[expose] public section

noncomputable section

namespace Cert.Soft

open Idealize.ShloMosaic

/-- Two sorts agree if their orders agree on the pairs that the sort compares: a later entry with an
    earlier one. -/
theorem stableSort_agree {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr _ _ _ _ fun b hb => h.1 b ((perm_stableSort R' l).mem_iff.1 hb)

/-- The order of a list of gates: the larger first. -/
def keyB {n : ℕ} (g : Fin n → EReal) (k k' : Fin n) : Bool := decide (g k' < g k)

/-- The same order, with the position to break a tie. -/
def tieB {n : ℕ} (g : Fin n → EReal) (k k' : Fin n) : Bool := decide (g k' < g k) || (decide (g k = g k') && decide (k < k'))

theorem sortedFrom_key {n : ℕ} (g : Fin n → EReal) : sortedFrom (keyB g) = sortedFrom (tieB g) := by
  have h : sortPositions n (keyB g) = sortPositions n (tieB g) := by
    refine stableSort_agree _ _ _ ((List.pairwise_lt_finRange n).imp fun {a b} hab => ?_)
    simp [keyB, tieB, hab.le]
  funext k
  unfold sortedFrom
  rw [List.get_of_eq h]
  rfl

theorem tieB_total {n : ℕ} (g : Fin n → EReal) : StrictTotalBefore (tieB g) := by
  have h := StrictTotalBefore.of_key_then_position (fun a b : EReal => decide (b < a)) g (fun a => by simp)
    (fun a b c h h' => by simp only [decide_eq_true_eq] at h h' ⊢; exact h'.trans h)
    (fun a b => by
      simp only [decide_eq_true_eq]
      rcases lt_trichotomy a b with h | h | h
      · exact Or.inr (Or.inr h)
      · exact Or.inr (Or.inl h)
      · exact Or.inl h)
  refine cast (congrArg _ ?_) h
  funext k k'
  unfold tieB
  congr

/-- As many entries come before the one that the sort puts at `k` as there are positions before `k`. -/
theorem card_before {n : ℕ} (B : Fin n → Fin n → Bool) (hB : StrictTotalBefore B) (k : Fin n) :
    (Finset.univ.filter fun j => B j (sortedFrom B k) = true).card = k.val := by
  have hinv : ∀ i j : Fin n, i < j → B (sortedFrom B j) (sortedFrom B i) = false :=
    sortedFrom_noInversion B B (fun a b h => hB.asymm a b h) (fun _ _ h => h) hB.negTrans
  have e : (Finset.univ.filter fun j => B j (sortedFrom B k) = true) = (Finset.Iio k).image (sortedFrom B) := by
    ext j
    obtain ⟨i, rfl⟩ := sortedFrom_surjective B j
    simp only [Finset.mem_filter, Finset.mem_univ, true_and, Finset.mem_image, Finset.mem_Iio]
    constructor
    · intro h
      refine ⟨i, ?_, rfl⟩
      rcases lt_trichotomy i k with h' | h' | h'
      · exact h'
      · rw [h', hB.irrefl] at h; cases h
      · rw [hinv k i h'] at h; cases h
    · rintro ⟨i', h', e⟩
      rw [← e]
      rcases hB.total (sortedFrom B i') (sortedFrom B k) (fun e' => h'.ne (sortedFrom_injective B e')) with t | t
      · exact t
      · rw [hinv i' k h'] at t; cases t
  rw [e, Finset.card_image_of_injective _ (sortedFrom_injective B), Fin.card_Iio]

/-- The gates of the past blocks, the others masked. -/
def maskedGates (g : ℕ → ℝ) (b : ℕ) (n : Fin 16) : EReal := if n.val < b then (g n.val : EReal) else ⊥

theorem card_past (g : ℕ → ℝ) (b : ℕ) (hb : b ≤ 16) (n : Fin 16) (hn : n.val < b) :
    (Finset.univ.filter fun j => tieB (maskedGates g b) j n = true).card = rank g b n.val := by
  unfold rank
  rw [← Finset.card_map Fin.valEmbedding]
  refine congrArg Finset.card (Finset.ext fun j => ?_)
  rw [Finset.mem_filter, Finset.mem_map]
  simp only [ Finset.mem_filter, Finset.mem_univ, true_and, Fin.valEmbedding_apply, Finset.mem_range, tieB,
    Bool.or_eq_true, Bool.and_eq_true, decide_eq_true_eq, maskedGates, if_pos hn, Ahead]
  constructor
  · rintro ⟨a, h, rfl⟩
    by_cases ha : a.val < b
    · simp only [if_pos ha, EReal.coe_lt_coe_iff, EReal.coe_eq_coe_iff] at h
      exact ⟨ha, h⟩
    · simp [if_neg ha] at h
  · rintro ⟨hj, h⟩
    refine ⟨⟨j, by omega⟩, ?_, rfl⟩
    simp only [if_pos hj, EReal.coe_lt_coe_iff, EReal.coe_eq_coe_iff]
    exact h

theorem card_rest (g : ℕ → ℝ) (b : ℕ) (hb : b ≤ 16) (n : Fin 16) (hn : ¬ n.val < b) :
    b ≤ (Finset.univ.filter fun j => tieB (maskedGates g b) j n = true).card := by
  rw [← Finset.card_map Fin.valEmbedding]
  conv_lhs => rw [← Finset.card_range b]
  refine Finset.card_le_card fun j hj => ?_
  rw [Finset.mem_range] at hj
  simp only [Finset.mem_map, Finset.mem_filter, Finset.mem_univ, true_and, Fin.valEmbedding_apply]
  refine ⟨⟨j, by omega⟩, ?_, rfl⟩
  simp [tieB, maskedGates, hj, hn]

theorem rank_lt {α : Type} [LinearOrder α] (g : ℕ → α) (b n : ℕ) (hn : n < b) : rank g b n < b := by
  unfold rank
  conv_rhs => rw [← Finset.card_range b]
  refine Finset.card_lt_card (Finset.filter_ssubset.2 ⟨n, Finset.mem_range.2 hn, ?_⟩)
  simp [Ahead]

/-- The block that the sort of the gates puts at `k`. -/
def place (g : ℕ → ℝ) (b : ℕ) (k : Fin 16) : Fin 16 := sortedFrom (tieB (maskedGates g b)) k

theorem place_lt (g : ℕ → ℝ) (b : ℕ) (hb : b ≤ 16) (k : Fin 16) : (place g b k).val < b ↔ k.val < b := by
  have h := card_before _ (tieB_total (maskedGates g b)) k
  change (Finset.univ.filter fun j => tieB (maskedGates g b) j (place g b k) = true).card = k.val at h
  constructor
  · intro hp
    rw [card_past g b hb _ hp] at h
    exact h ▸ rank_lt g b _ hp
  · intro hk
    by_contra hp
    have := card_rest g b hb _ hp
    omega

theorem place_rank (g : ℕ → ℝ) (b : ℕ) (hb : b ≤ 16) (k : Fin 16) (hk : k.val < b) : rank g b (place g b k).val = k.val := by
  have h := card_before _ (tieB_total (maskedGates g b)) k
  change (Finset.univ.filter fun j => tieB (maskedGates g b) j (place g b k) = true).card = k.val at h
  rw [← h, card_past g b hb _ ((place_lt g b hb k).2 hk)]

/-- A sum over the three places first in the order of the gates, as far as there are past blocks, is
    the sum over the picked blocks. -/
theorem top_sum (g : ℕ → ℝ) (b : ℕ) (hb : b ≤ 16) (f : ℕ → ℝ) :
    ∑ j : Fin 3, (if j.val < b then f (place g b (j.castLE (by decide))).val else 0)
      = ∑ n ∈ Finset.range b, if rank g b n < 3 then f n else 0 := by
  have e1 : ∑ n ∈ Finset.range b, (if rank g b n < 3 then f n else 0)
      = ∑ n : Fin 16, if n.val < b ∧ rank g b n.val < 3 then f n.val else 0 := by
    rw [Fin.sum_univ_eq_sum_range (fun n => if n < b ∧ rank g b n < 3 then f n else 0) 16]
    rw [← Finset.sum_subset (Finset.range_subset_range.2 hb)]
    · refine Finset.sum_congr rfl fun n hn => ?_
      simp [Finset.mem_range.1 hn]
    · intro n _ hn
      rw [Finset.mem_range] at hn
      simp [hn]
  have e2 : ∑ n : Fin 16, (if n.val < b ∧ rank g b n.val < 3 then f n.val else 0)
      = ∑ k : Fin 16, if k.val < b ∧ k.val < 3 then f (place g b k).val else 0 := by
    refine (Fintype.sum_bijective (place g b) ⟨sortedFrom_injective _, sortedFrom_surjective _⟩ _ _ fun k => ?_).symm
    by_cases hk : k.val < b
    · simp only [place_lt g b hb k, hk, place_rank g b hb k hk, true_and]
    · simp [place_lt g b hb k, hk]
  have e3 : ∑ k : Fin 16, (if k.val < b ∧ k.val < 3 then f (place g b k).val else 0)
      = ∑ j : Fin 3, if j.val < b then f (place g b (j.castLE (by decide))).val else 0 := by
    have : ∀ k : Fin 16, (if k.val < b ∧ k.val < 3 then f (place g b k).val else 0)
        = ∑ j : Fin 3, if j.castLE (by decide) = k then (if j.val < b then f (place g b (j.castLE (by decide))).val else 0) else 0 := by
      intro k
      by_cases hk : k.val < 3
      · rw [Finset.sum_eq_single (⟨k.val, hk⟩ : Fin 3)]
        · rw [if_pos (Fin.ext rfl : Fin.castLE (by decide) (⟨k.val, hk⟩ : Fin 3) = k)]
          simp only [hk, and_true]
          rfl
        · intro j _ hj
          rw [if_neg fun h : Fin.castLE (by decide) j = k => hj (Fin.ext (by have := congrArg Fin.val h; exact this))]
        · intro h; exact absurd (Finset.mem_univ _) h
      · rw [Finset.sum_eq_zero]
        · simp [hk]
        · intro j _
          rw [if_neg fun h => hk (by rw [← h]; exact j.isLt)]
    rw [Finset.sum_congr rfl fun k _ => this k, Finset.sum_comm]
    refine Finset.sum_congr rfl fun j _ => ?_
    rw [Finset.sum_ite_eq]
    simp
  rw [e1, e2, e3]

end Cert.Soft
-- ==== Proof.RefMask.lean ====
module

public import proofs.«01_k».proof.Proof.RefHeads
public import proofs.«01_k».proof.Proof.Rank

@[expose] public section

set_option maxRecDepth 16384

noncomputable section

namespace Cert.Ref

open Cert.ReferenceIdeal Cert.ReferenceIdeal.Gen Cert.ReferenceIdeal.Read Idealize.ShloMosaic Idealize.ShloMosaic.TcCoe
open Cert.Soft

/-- The division of a position by the length of a block, on words, rounded down. -/
theorem words : ∀ s : Fin 4096, Scalar.select
    (IntOp.andi
      (IntOp.cmpi CmpIPredicate.ne (signi (val_main_v18 (F := Ideal)) (ix1 s))
        (signi (val_main_call0_v0 (F := Ideal)) (idx_main_call0_v5 (ix1 s))))
      (IntOp.cmpi CmpIPredicate.ne
        (IntOp.remsi ArithUnit.host (val_main_v18 (F := Ideal) (ix1 s)) (val_main_call0_v0 (F := Ideal) (idx_main_call0_v7 (ix1 s)))) 0#32))
    (IntOp.subi (IntOp.divsi ArithUnit.host (val_main_v18 (F := Ideal) (ix1 s)) (val_main_call0_v0 (F := Ideal) (idx_main_call0_v1 (ix1 s))))
      1#32)
    (IntOp.divsi ArithUnit.host (val_main_v18 (F := Ideal) (ix1 s)) (val_main_call0_v0 (F := Ideal) (idx_main_call0_v1 (ix1 s))))
      = BitVec.ofNat 32 (s.val / 256) := by
  decide +kernel

/-- The block of a position, as the words of the program compute it. -/
theorem qblk_at (s : Fin 4096) : val_main_v19 (F := Ideal) (ix1 s) = BitVec.ofNat 32 (s.val / 256) := by
  rw [val_main_v19_apply, val_main_call0_v11_apply, val_main_call0_v6_apply, val_main_call0_v10_apply, val_main_call0_v13_apply,
    val_main_call0_v8_apply, val_main_call0_v2_apply, val_main_call0_v5_apply, val_main_call0_v9_apply, val_main_call0_v12_apply,
    val_main_call0_v1_apply, val_main_call0_v7_apply, val_main_call0_c_apply, val_main_call0_c_0_apply]
  unfold val_main_call0_v3 val_main_call0_v4
  exact words s

theorem past_at (s : Fin 4096) (n : Fin 16) : val_main_v26 (F := Ideal) (ix2 s n) = BitVec.ofBool (decide (n.val < s.val / 256)) := by
  rw [val_main_v26_apply, val_main_v24_apply, val_main_v25_apply, val_main_v22_apply, val_main_v23_apply,
    show idx_main_v23 (idx_main_v25 (ix2 s n)) = ix1 s from funext fun a => by fin_cases a; rfl, qblk_at, val_main_v21_apply]
  exact slt_nat _ _ (by have := n.isLt; simp; omega) (by have := s.isLt; omega)

theorem valid_at (s : Fin 4096) (j : Fin 3) : val_main_v65 (F := Ideal) (ix2 s j) = BitVec.ofBool (decide (j.val < s.val / 256)) := by
  rw [val_main_v65_apply, val_main_v63_apply, val_main_v64_apply, val_main_v61_apply, val_main_v62_apply,
    show idx_main_v62 (idx_main_v64 (ix2 s j)) = ix1 s from funext fun a => by fin_cases a; rfl, qblk_at, val_main_v60_apply]
  exact slt_nat _ _ (by have := j.isLt; simp; omega) (by have := s.isLt; omega)

/-- The masked gates. -/
theorem gates_at {x0 : (⟨S16384x5632, .bf16⟩ : BufTy).Contents (Elt Ideal)} {U : ℕ → ℕ → ℝ} (hx : Reals x0 U)
    (b : Fin 4) (h : Fin 8) (s : Fin 4096) (n : Fin 16) :
    val_main_v27 (F := Ideal) x0 (ix4 b h s n)
      = maskedGates (gate (Qh U b.val h.val s.val) (Kh U b.val h.val)) (s.val / 256) n := by
  rw [val_main_v27_apply, val_main_call1_v1_apply, val_main_call1_v2_apply, val_main_call1_v0_apply, val_main_cst_2_apply,
    show idx_main_call1_v1 (ix4 b h s n) = ix2 s n from funext fun a => by fin_cases a <;> rfl, past_at, select_ofBool, gate_at hx]
  unfold maskedGates
  congr 1

end Cert.Ref
-- ==== Proof.RefTopk.lean ====
module

public import proofs.«01_k».proof.Proof.RefMask
public import Idealize.ShloMosaic.Lib.ValueIdxRank6

@[expose] public section

set_option maxRecDepth 16384

noncomputable section

namespace Cert.Ref

open Cert.ReferenceIdeal Cert.ReferenceIdeal.Gen Cert.ReferenceIdeal.Read Idealize.ShloMosaic Idealize.ShloMosaic.TcCoe
open Cert.Soft

variable {x0 : (⟨S16384x5632, .bf16⟩ : BufTy).Contents (Elt Ideal)} {U : ℕ → ℕ → ℝ}

theorem along_last (b : Fin 4) (h : Fin 8) (s : Fin 4096) (hd : 3 < S4x8x4096x16.rank) (k l : Fin 16) :
    Shape.Idx.along (s := S4x8x4096x16) (ix4 b h s k) ⟨3, hd⟩ l = ix4 b h s l := by
  funext a; fin_cases a <;> rfl

theorem iota_along {t : Shape} (a : Fin t.rank) (I : t.Idx) (l : Fin (t.size a)) :
    iotaInDim t 32 a (I.along a l) = BitVec.ofNat 32 l.val := by
  simp [iotaInDim, Shape.Idx.along]

/-- The order in which the program sorts the gates of one query. -/
def order (hd : 3 < S4x8x4096x16.rank) (x : FVec Ideal S4x8x4096x16 .f32) (I : S4x8x4096x16.Idx) (k k' : Fin 16) : Bool :=
  FloatOps.cmpfTotal (F := Ideal) (φ := .f32) CmpDirection.gt (x (Shape.Idx.along (s := S4x8x4096x16) I ⟨3, hd⟩ k))
    (x (Shape.Idx.along (s := S4x8x4096x16) I ⟨3, hd⟩ k')) == 1#1

theorem order_eq (hd : 3 < S4x8x4096x16.rank) (x : FVec Ideal S4x8x4096x16 .f32) (b : Fin 4) (h : Fin 8) (s : Fin 4096) (j : Fin 16) :
    order hd x (ix4 b h s j) = keyB fun n : Fin 16 => x (ix4 b h s n) := by
  funext k k'
  unfold order
  rw [along_last, along_last, Ideal.cmpfTotal_def]
  unfold keyB
  by_cases hlt : x (ix4 b h s k') < x (ix4 b h s k) <;> simp [Ideal.cmp, CmpDirection.ordered, hlt]

theorem sorted_index (x : FVec Ideal S4x8x4096x16 .f32) (b : Fin 4) (h : Fin 8) (s : Fin 4096) (j : Fin 3) :
    (Host.topK S4x8x4096x3 3 (FloatOps.cmpfTotal (F := Ideal) .gt) x sliceFits_S4x8x4096x16_S4x8x4096x3).2 (ix4 b h s j)
      = BitVec.ofNat 32 (sortedFrom (keyB fun n : Fin 16 => x (ix4 b h s n)) (j.castLE (by decide))).val := by
  unfold Host.topK Host.sort2
  have hd : (3 : ℕ) < S4x8x4096x16.rank := by decide
  simp only [dif_pos hd]
  have hc : ∀ j : Fin 3, j.val < 16 := fun j => by omega
  rw [extractStridedSlice_apply (fun _ => 0) _ sliceFits_S4x8x4096x16_S4x8x4096x3 (ix4 b h s j) (ix4 b h s ⟨j.val, hc j⟩)
    (fun a => by fin_cases a <;> simp)]
  rw [iota_along]
  refine congrArg (BitVec.ofNat 32) ?_
  change (sortedFrom (order hd x (ix4 b h s ⟨j.val, hc j⟩)) (⟨j.val, hc j⟩ : Fin 16)).val = _
  rw [order_eq]
  rfl

/-- The block that the program picks at place `j`. -/
def pick (U : ℕ → ℕ → ℝ) (b : Fin 4) (h : Fin 8) (s : Fin 4096) (j : Fin 3) : Fin 16 :=
  place (gate (Qh U b.val h.val s.val) (Kh U b.val h.val)) (s.val / 256) (j.castLE (by decide))

theorem index_at (hx : Reals x0 U) (b : Fin 4) (h : Fin 8) (s : Fin 4096) (j : Fin 3) :
    val_main_indices (F := Ideal) x0 (ix4 b h s j) = BitVec.ofNat 32 (pick U b h s j).val := by
  unfold val_main_indices
  rw [sorted_index]
  simp only [gates_at hx]
  rw [sortedFrom_key]
  rfl

theorem word_small : ∀ n : Fin 16, IntOp.cmpi CmpIPredicate.slt (BitVec.ofNat 32 n.val) 0#32 = 0#1 := by decide

/-- The word that the first gather reads. -/
theorem wordK_at (hx : Reals x0 U) (b : Fin 4) (h : Fin 8) (s : Fin 4096) (j : Fin 3) :
    val_main_v43 (F := Ideal) x0 (ix5 b h s j 0) = BitVec.ofNat 32 (pick U b h s j).val := by
  rw [val_main_v43_apply, show idx_main_v43 (ix5 b h s j 0) = ix4 b h s j from funext fun a => by fin_cases a <;> rfl,
    val_main_v42_apply, val_main_v39_apply, val_main_v38_apply, val_main_c_7_apply, index_at hx, word_small]
  rfl

/-- The word that the second gather reads. -/
theorem wordV_at (hx : Reals x0 U) (b : Fin 4) (h : Fin 8) (s : Fin 4096) (j : Fin 3) :
    val_main_v50 (F := Ideal) x0 (ix5 b h s j 0) = BitVec.ofNat 32 (pick U b h s j).val := by
  rw [val_main_v50_apply, show idx_main_v50 (ix5 b h s j 0) = ix4 b h s j from funext fun a => by fin_cases a <;> rfl,
    val_main_v49_apply, val_main_v46_apply, val_main_v45_apply, val_main_c_9_apply, index_at hx, word_small]
  rfl

/-- What a gather of whole blocks reads, its words given. -/
theorem gather_read (x : FVec Ideal S4x8x16x256x128 .f32) (idx : IVec S4x8x4096x3x1 32) (b : Fin 4) (h : Fin 8) (s : Fin 4096)
    (j : Fin 3) (c : Fin 256) (d : Fin 128) (n : Fin 16) (hn : idx (ix5 b h s j 0) = BitVec.ofNat 32 n.val) :
    Host.gather gather_S4x8x16x256x128_S4x8x4096x3x1_S4x8x4096x3x256x128_45_2_01_01_2_4_111256128 x idx (ValueIdx.ix6 b h s j c d)
      = x (ix5 b h n c d) := by
  unfold Host.gather
  refine congrArg x (funext fun a => Fin.ext ?_)
  have hw : (BitVec.ofNat 32 n.val).toInt.toNat = n.val := by rw [toInt_small _ (by omega)]; rfl
  fin_cases a
  · exact (rfl : 0 + b.val + 0 = _).symm.trans (by simp)
  · exact (rfl : 0 + h.val + 0 = _).symm.trans (by simp)
  · have e : GatherDims.start gather_S4x8x16x256x128_S4x8x4096x3x1_S4x8x4096x3x256x128_45_2_01_01_2_4_111256128 (ValueIdx.ix6 b h s j c d) idx (2 : Fin 5)
        = min (idx (ix5 b h s j 0)).toInt.toNat 15 := by
      unfold GatherDims.start
      rw [dif_pos (by decide)]
      refine congrArg (fun i => min (idx i).toInt.toNat 15) (funext fun a => Fin.ext ?_)
      fin_cases a <;> rfl
    change GatherDims.start gather_S4x8x16x256x128_S4x8x4096x3x1_S4x8x4096x3x256x128_45_2_01_01_2_4_111256128 (ValueIdx.ix6 b h s j c d) idx (2 : Fin 5) + 0 + 0 = n.val
    rw [e, hn, hw]
    omega
  · exact (rfl : 0 + 0 + c.val = _).symm.trans (by simp)
  · exact (rfl : 0 + 0 + d.val = _).symm.trans (by simp)

/-- The keys of a picked block. -/
theorem ks_at (hx : Reals x0 U) (b : Fin 4) (h : Fin 8) (s : Fin 4096) (j : Fin 3) (c : Fin 256) (d : Fin 128) :
    val_main_v44 (F := Ideal) x0 (ValueIdx.ix6 b h s j c d) = (Kh U b.val h.val ((pick U b h s j).val * 256 + c.val) d : EReal) := by
  unfold val_main_v44
  rw [gather_read _ _ b h s j c d _ (wordK_at hx b h s j), kb_at hx]

/-- The values of a picked block. -/
theorem vs_at (hx : Reals x0 U) (b : Fin 4) (h : Fin 8) (s : Fin 4096) (j : Fin 3) (c : Fin 256) (d : Fin 128) :
    val_main_v51 (F := Ideal) x0 (ValueIdx.ix6 b h s j c d) = (Vh U b.val h.val ((pick U b h s j).val * 256 + c.val) d : EReal) := by
  unfold val_main_v51
  rw [gather_read _ _ b h s j c d _ (wordV_at hx b h s j), vb_at hx]

end Cert.Ref
-- ==== Proof.RefLogit.lean ====
module

public import proofs.«01_k».proof.Proof.RefTopk

@[expose] public section

set_option maxRecDepth 16384

noncomputable section

namespace Cert.Ref

open Cert.ReferenceIdeal Cert.ReferenceIdeal.Gen Cert.ReferenceIdeal.Read Idealize.ShloMosaic Idealize.ShloMosaic.TcCoe
open Cert.Soft

variable {x0 : (⟨S16384x5632, .bf16⟩ : BufTy).Contents (Elt Ideal)} {U : ℕ → ℕ → ℝ}

/-- The slopes are real. -/
def Slopes (w : Fin 8 → ℝ) : Prop := ∀ h : Fin 8, val_main_v37 (F := Ideal) (ix1 h) = (w h : EReal)

theorem far_word (s n c : ℕ) (hs : s < 4096) (hn : n < 16) (hc : c < 256) :
    ((IntOp.subi (BitVec.ofNat 32 s) (IntOp.addi (IntOp.muli (BitVec.ofNat 32 n) 256#32) (BitVec.ofNat 32 c))).toInt : ℝ)
      = (s : ℝ) - ((n : ℝ) * 256 + c) := by
  have e : IntOp.addi (IntOp.muli (BitVec.ofNat 32 n) 256#32) (BitVec.ofNat 32 c) = BitVec.ofNat 32 (n * 256 + c) := by
    unfold IntOp.addi IntOp.muli
    apply BitVec.eq_of_toNat_eq
    simp only [BitVec.toNat_add, BitVec.toNat_mul, BitVec.toNat_ofNat]
    omega
  have : (IntOp.subi (BitVec.ofNat 32 s) (BitVec.ofNat 32 (n * 256 + c))).toInt = (s : ℤ) - ((n * 256 + c : ℕ) : ℤ) := by
    unfold IntOp.subi
    rw [BitVec.toInt_sub, toInt_small _ (by omega), toInt_small _ (by omega), Int.bmod_def]
    omega
  rw [e, this]; push_cast; rfl

theorem near_word (r c : ℕ) (hr : r < 256) (hc : c < 256) :
    ((IntOp.subi (BitVec.ofNat 32 r) (BitVec.ofNat 32 c)).toInt : ℝ) = (r : ℝ) - c := by
  have : (IntOp.subi (BitVec.ofNat 32 r) (BitVec.ofNat 32 c)).toInt = (r : ℤ) - c := by
    unfold IntOp.subi
    rw [BitVec.toInt_sub, toInt_small _ (by omega), toInt_small _ (by omega), Int.bmod_def]
    omega
  rw [this]; push_cast; rfl

theorem scaled_sum (q k : Fin 128 → ℝ) :
    ∑ d : Fin 128, ((q d * sc : ℝ) : EReal) * (k d : EReal) = (((∑ d, q d * k d) * sc : ℝ) : EReal) := by
  simp only [← EReal.coe_mul, coe_sum]
  rw [Finset.sum_mul]
  congr 1
  exact Finset.sum_congr rfl fun d _ => by ring

/-- The logits of a picked block. -/
theorem sel_at (hx : Reals x0 U) {w : Fin 8 → ℝ} (hw : Slopes w) (b : Fin 4) (h : Fin 8) (s : Fin 4096) (j : Fin 3) (c : Fin 256) :
    val_main_v78 (F := Ideal) x0 (ix5 b h s j c)
      = masked (j.val < s.val / 256)
          (logit (Qh U b.val h.val s.val) (Kh U b.val h.val) (w h) (s.val / 256) (s.val % 256) (pick U b h s j).val c.val) := by
  have e1 : ∀ d : Fin 128, lidx_main_v66 (ix5 b h s j c) d = ix4 b h s d := by intro d; funext a; fin_cases a <;> rfl
  have e2 : ∀ d : Fin 128, ridx_main_v66 (ix5 b h s j c) d = ValueIdx.ix6 b h s j c d := by intro d; funext a; fin_cases a <;> rfl
  rw [val_main_v78_apply, val_main_call2_v1_apply, val_main_call2_v2_apply, val_main_call2_v0_apply, val_main_cst_12_apply,
    val_main_v77_apply, show idx_main_v77 (idx_main_call2_v1 (ix5 b h s j c)) = ix2 s j from funext fun a => by fin_cases a <;> rfl,
    valid_at, select_ofBool]
  unfold masked
  refine if_congr Iff.rfl ?_ ofBits_neg_inf
  rw [val_main_v76_apply, val_main_v66_apply, val_main_v75_apply, val_main_v74_apply, val_main_v73_apply, val_main_v67_apply,
    show idx_main_v67 (idx_main_v73 (idx_main_v74 (ix5 b h s j c))) = ix1 h from funext fun a => by fin_cases a; rfl, hw,
    val_main_v72_apply, val_main_v71_apply, val_main_v70_apply, val_main_v69_apply, val_main_v68_apply, val_main_v18_apply,
    val_main_v59_apply, val_main_v57_apply, val_main_v54_apply, val_main_v52_apply, val_main_v53_apply, val_main_c_11_apply,
    val_main_v58_apply, val_main_v56_apply, val_main_v55_apply,
    show idx_main_v52 (idx_main_v57 (ix5 b h s j c)) = ix4 b h s j from funext fun a => by fin_cases a <;> rfl, index_at hx]
  simp only [e1, e2, qs_at hx, ks_at hx, scaled_sum]
  rw [Ideal.subf_def, Ideal.mulf_def]
  change _ - (w h : EReal) * (((IntOp.subi (BitVec.ofNat 32 s.val) (IntOp.addi (IntOp.muli (BitVec.ofNat 32 (pick U b h s j).val) 256#32)
    (BitVec.ofNat 32 c.val))).toInt : ℝ) : EReal) = _
  rw [far_word _ _ _ s.isLt (pick U b h s j).isLt c.isLt, ← EReal.coe_mul, ← EReal.coe_sub]
  unfold logit
  have : (s.val : ℝ) = ((s.val / 256 : ℕ) : ℝ) * 256 + ((s.val % 256 : ℕ) : ℝ) := by
    rw [show (256 : ℝ) = ((256 : ℕ) : ℝ) by norm_num, ← Nat.cast_mul, ← Nat.cast_add]
    congr 1; omega
  rw [this]

/-- The logits of a query's own block. -/
theorem own_at (hx : Reals x0 U) {w : Fin 8 → ℝ} (hw : Slopes w) (b : Fin 4) (h : Fin 8) (n : Fin 16) (r c : Fin 256) :
    val_main_v101 (F := Ideal) x0 (ix5 b h n r c)
      = masked (c.val ≤ r.val)
          (logit (Qh U b.val h.val (n.val * 256 + r.val)) (Kh U b.val h.val) (w h) n.val r.val n.val c.val) := by
  have e1 : ∀ d : Fin 128, lidx_main_v81 (ix5 b h n r c) d = ix5 b h n r d := by intro d; funext a; fin_cases a <;> rfl
  have e2 : ∀ d : Fin 128, ridx_main_v81 (ix5 b h n r c) d = ix5 b h n c d := by intro d; funext a; fin_cases a <;> rfl
  rw [val_main_v101_apply, val_main_call3_v1_apply, val_main_call3_v2_apply, val_main_call3_v0_apply, val_main_cst_13_apply,
    val_main_v100_apply, val_main_v98_apply, val_main_v96_apply, val_main_v99_apply, val_main_v97_apply, val_main_v80_apply, val_main_v80_apply]
  change Scalar.select (IntOp.cmpi .sle (BitVec.ofNat 32 c.val) (BitVec.ofNat 32 r.val)) _ _ = _
  rw [sle_nat _ _ (by have := c.isLt; omega) (by have := r.isLt; omega), select_ofBool]
  unfold masked
  refine if_congr Iff.rfl ?_ ofBits_neg_inf
  rw [val_main_v95_apply, val_main_v81_apply, val_main_v94_apply, val_main_v93_apply, val_main_v92_apply, val_main_v90_apply,
    val_main_v82_apply, val_main_v91_apply, val_main_v89_apply, val_main_v88_apply, val_main_v87_apply, val_main_v85_apply,
    val_main_v83_apply, val_main_v86_apply, val_main_v84_apply, val_main_v80_apply, val_main_v80_apply,
    show idx_main_v82 (idx_main_v90 (idx_main_v93 (idx_main_v94 (ix5 b h n r c)))) = ix1 h from funext fun a => by fin_cases a; rfl, hw]
  simp only [e1, e2, qb_at hx, kb_at hx, scaled_sum]
  rw [Ideal.subf_def, Ideal.mulf_def]
  change _ - (w h : EReal) * (((IntOp.subi (BitVec.ofNat 32 r.val) (BitVec.ofNat 32 c.val)).toInt : ℝ) : EReal) = _
  rw [near_word _ _ r.isLt c.isLt, ← EReal.coe_mul, ← EReal.coe_sub]
  unfold logit
  congr 2; ring

/-- The logits of one query, over the picked blocks and then its own block. -/
theorem logits_left (x0 : (⟨S16384x5632, .bf16⟩ : BufTy).Contents (Elt Ideal)) (b : Fin 4) (h : Fin 8) (s : Fin 4096) (j : Fin 3) (c : Fin 256) (hk : j.val * 256 + c.val < 1024) :
    val_main_v104 (F := Ideal) x0 (ix4 b h s ⟨j.val * 256 + c.val, hk⟩) = val_main_v78 (F := Ideal) x0 (ix5 b h s j c) := by
  have := b.isLt; have := h.isLt; have := s.isLt; have := j.isLt; have := c.isLt
  unfold val_main_v104
  refine (concatenate_pair_apply_left (t := S4x8x4096x1024) (s₁ := S4x8x4096x768) (s₂ := S4x8x4096x256) (3 : Fin 4) _ _
    concatenates_S4x8x4096x768_S4x8x4096x256_S4x8x4096x1024_d3 _ rfl (ix4 b h s ⟨j.val * 256 + c.val, by omega⟩)
    (fun a => by fin_cases a <;> rfl)).trans ?_
  rw [val_main_v102_apply]
  refine congrArg _ (funext fun a => Fin.ext ?_)
  fin_cases a <;> simp <;> omega

theorem logits_right (x0 : (⟨S16384x5632, .bf16⟩ : BufTy).Contents (Elt Ideal)) (b : Fin 4) (h : Fin 8) (s : Fin 4096) (c : Fin 256) (hk : 768 + c.val < 1024) :
    val_main_v104 (F := Ideal) x0 (ix4 b h s ⟨768 + c.val, hk⟩)
      = val_main_v101 (F := Ideal) x0 (ix5 b h ⟨s.val / 256, by omega⟩ ⟨s.val % 256, by omega⟩ c) := by
  have := b.isLt; have := h.isLt; have := s.isLt; have := c.isLt
  unfold val_main_v104
  refine (concatenate_pair_apply_right (t := S4x8x4096x1024) (s₁ := S4x8x4096x768) (s₂ := S4x8x4096x256) (3 : Fin 4) _ _
    concatenates_S4x8x4096x768_S4x8x4096x256_S4x8x4096x1024_d3 _ rfl rfl (ix4 b h s c)
    (fun a ha => by fin_cases a <;> first | rfl | exact absurd rfl ha) (by show c.val + 768 = 768 + c.val; omega)).trans ?_
  rw [val_main_v103_apply]
  refine congrArg _ (funext fun a => Fin.ext ?_)
  fin_cases a <;> simp <;> omega

end Cert.Ref
-- ==== Proof.RefSoft.lean ====
module

public import proofs.«01_k».proof.Proof.RefLogit
public import Idealize.ShloMosaic.Lib.TwoAxisContraction

@[expose] public section

set_option maxRecDepth 16384

noncomputable section

namespace Cert.Ref

open Cert.ReferenceIdeal Cert.ReferenceIdeal.Gen Cert.ReferenceIdeal.Read Idealize.ShloMosaic Idealize.ShloMosaic.TcCoe
open Cert.Soft

variable {x0 : (⟨S16384x5632, .bf16⟩ : BufTy).Contents (Elt Ideal)} {U : ℕ → ℕ → ℝ}

/-- A sum over a row of logits: the picked blocks, and then the query's own block. -/
theorem sum_row {M : Type} [AddCommMonoid M] (f : Fin 1024 → M) :
    ∑ k, f k = ∑ j : Fin 3, ∑ c : Fin 256, f ⟨j.val * 256 + c.val, by omega⟩ + ∑ c : Fin 256, f ⟨768 + c.val, by omega⟩ := by
  rw [show (∑ k, f k) = ∑ k : Fin (768 + 256), f k from rfl, Fin.sum_univ_add]
  congr 1
  rw [← Fintype.sum_prod_type', ← Equiv.sum_comp (finProdFinEquiv (m := 3) (n := 256)) (fun i : Fin (3 * 256) => f (Fin.castAdd 256 i))]
  refine Finset.sum_congr rfl fun p _ => congrArg f (Fin.ext ?_)
  simp [finProdFinEquiv]
  omega

/-- A position of the row is in a picked block or in the own block. -/
theorem row_cases (k : Fin 1024) : (∃ (j : Fin 3) (c : Fin 256), k = ⟨j.val * 256 + c.val, by omega⟩) ∨ ∃ c : Fin 256, k = ⟨768 + c.val, by omega⟩ := by
  by_cases h : k.val < 768
  · exact Or.inl ⟨⟨k.val / 256, by omega⟩, ⟨k.val % 256, by omega⟩, Fin.ext (by simp; omega)⟩
  · exact Or.inr ⟨⟨k.val - 768, by omega⟩, Fin.ext (by simp; omega)⟩

/-- The logit of a key of a picked block, for one query. -/
def selL (U : ℕ → ℕ → ℝ) (w : Fin 8 → ℝ) (b : Fin 4) (h : Fin 8) (s : Fin 4096) (j : Fin 3) (c : Fin 256) : ℝ :=
  logit (Qh U b.val h.val s.val) (Kh U b.val h.val) (w h) (s.val / 256) (s.val % 256) (pick U b h s j).val c.val

/-- The logit of a key of the own block, for one query. -/
def ownL (U : ℕ → ℕ → ℝ) (w : Fin 8 → ℝ) (b : Fin 4) (h : Fin 8) (s : Fin 4096) (c : Fin 256) : ℝ :=
  logit (Qh U b.val h.val s.val) (Kh U b.val h.val) (w h) (s.val / 256) (s.val % 256) (s.val / 256) c.val

theorem row_sel (hx : Reals x0 U) {w : Fin 8 → ℝ} (hw : Slopes w) (b : Fin 4) (h : Fin 8) (s : Fin 4096) (j : Fin 3) (c : Fin 256) (hk : j.val * 256 + c.val < 1024) :
    val_main_v104 (F := Ideal) x0 (ix4 b h s ⟨j.val * 256 + c.val, hk⟩) = masked (j.val < s.val / 256) (selL U w b h s j c) := by
  rw [logits_left, sel_at hx hw]; rfl

theorem row_own (hx : Reals x0 U) {w : Fin 8 → ℝ} (hw : Slopes w) (b : Fin 4) (h : Fin 8) (s : Fin 4096) (c : Fin 256) (hk : 768 + c.val < 1024) :
    val_main_v104 (F := Ideal) x0 (ix4 b h s ⟨768 + c.val, hk⟩) = masked (c.val ≤ s.val % 256) (ownL U w b h s c) := by
  rw [logits_right, own_at hx hw]
  unfold ownL
  dsimp only
  rw [show s.val / 256 * 256 + s.val % 256 = s.val by omega]

theorem max_at (hx : Reals x0 U) {w : Fin 8 → ℝ} (hw : Slopes w) (b : Fin 4) (h : Fin 8) (s : Fin 4096) :
    ∃ M : ℝ, val_main_v107 (F := Ideal) x0 (ix3 b h s) = (M : EReal) := by
  have e : val_main_v105 (F := Ideal) x0 (ix3 b h s) = Finset.fold max ⊥ (fun k : Fin 1024 => val_main_v104 (F := Ideal) x0 (ix4 b h s k)) Finset.univ := by
    unfold val_main_v105 val_main_cst_14
    generalize val_main_v104 (F := Ideal) x0 = y
    pointwise [ofBits_neg_inf]
  obtain ⟨M, hM⟩ := fold_max_real Finset.univ (fun k : Fin 1024 => val_main_v104 (F := Ideal) x0 (ix4 b h s k))
    (fun k => by
      rcases row_cases k with ⟨j, c, rfl⟩ | ⟨c, rfl⟩
      · rw [row_sel hx hw]; exact masked_ne_top _ _
      · rw [row_own hx hw]; exact masked_ne_top _ _)
    ⟨768 + s.val % 256, by omega⟩ (Finset.mem_univ _)
    (by
      have := row_own hx hw b h s ⟨s.val % 256, by omega⟩ (by simp; omega)
      dsimp only at this ⊢
      rw [this]; unfold masked; rw [if_pos le_rfl]; exact EReal.coe_ne_bot _)
  refine ⟨M, ?_⟩
  rw [val_main_v107_apply, e, hM, val_main_v106_apply, val_main_cst_15_apply, Ideal.maximumf_def]
  exact max_eq_right (by rw [show (FloatOps.ofBits (F := Ideal) .f32 0xFF800000#32 : EReal) = ⊥ from ofBits_neg_inf]; exact bot_le)

/-- The weights of the picked blocks sum to those of the past blocks that the kernel attends to. -/
theorem sum_sel (w : Fin 8 → ℝ) (b : Fin 4) (h : Fin 8) (s : Fin 4096) (f : ℕ → Fin 256 → ℝ) :
    ∑ j : Fin 3, ∑ c : Fin 256, wt (j.val < s.val / 256) (selL U w b h s j c) * f (pick U b h s j).val c
      = ∑ n ∈ Finset.range (s.val / 256), ∑ c : Fin 256,
          pastW (Qh U b.val h.val s.val) (Kh U b.val h.val) (w h) (s.val / 256) (s.val % 256) n c * f n c := by
  have := top_sum (gate (Qh U b.val h.val s.val) (Kh U b.val h.val)) (s.val / 256) (by omega) (fun n => ∑ c : Fin 256,
    Real.exp (logit (Qh U b.val h.val s.val) (Kh U b.val h.val) (w h) (s.val / 256) (s.val % 256) n c.val) * f n c)
  refine Eq.trans (Finset.sum_congr rfl fun j _ => ?_) (this.trans (Finset.sum_congr rfl fun n hn => ?_))
  · unfold wt
    by_cases hj : j.val < s.val / 256
    · simp only [if_pos hj]; rfl
    · simp [if_neg hj]
  · unfold pastW wt Picked
    rw [Finset.mem_range] at hn
    by_cases hr : rank (gate (Qh U b.val h.val s.val) (Kh U b.val h.val)) (s.val / 256) n < 3
    · simp [hr, hn]
    · simp [hr]

/-- The denominator. -/
def denR (U : ℕ → ℕ → ℝ) (w : Fin 8 → ℝ) (b : Fin 4) (h : Fin 8) (s : Fin 4096) : ℝ :=
  den (Qh U b.val h.val s.val) (Kh U b.val h.val) (w h) (s.val / 256) (s.val % 256) (s.val / 256)

theorem denR_pos (w : Fin 8 → ℝ) (b : Fin 4) (h : Fin 8) (s : Fin 4096) : 0 < denR U w b h s :=
  den_pos _ _ _ _ ⟨s.val % 256, by omega⟩ _

/-- The quotients of the softmax. -/
theorem soft_at (hx : Reals x0 U) {w : Fin 8 → ℝ} (hw : Slopes w) (b : Fin 4) (h : Fin 8) (s : Fin 4096) :
    (∀ (j : Fin 3) (c : Fin 256) (hk : j.val * 256 + c.val < 1024), val_main_v115 (F := Ideal) x0 (ix4 b h s ⟨j.val * 256 + c.val, hk⟩)
      = ((wt (j.val < s.val / 256) (selL U w b h s j c) / denR U w b h s : ℝ) : EReal))
    ∧ ∀ (c : Fin 256) (hk : 768 + c.val < 1024), val_main_v115 (F := Ideal) x0 (ix4 b h s ⟨768 + c.val, hk⟩)
      = ((wt (c.val ≤ s.val % 256) (ownL U w b h s c) / denR U w b h s : ℝ) : EReal) := by
  obtain ⟨M, hM⟩ := max_at hx hw b h s
  have hsub : ∀ k : Fin 1024, val_main_v111 (F := Ideal) x0 (ix4 b h s k) = Ideal.exp (val_main_v104 (F := Ideal) x0 (ix4 b h s k) - (M : EReal)) := by
    intro k
    rw [val_main_v111_apply, val_main_v110_apply, val_main_v109_apply, val_main_v108_apply,
      show idx_main_v108 (idx_main_v109 (ix4 b h s k)) = ix3 b h s from funext fun a => by fin_cases a <;> rfl, hM]
    rfl
  have hsel : ∀ (j : Fin 3) (c : Fin 256) (hk : j.val * 256 + c.val < 1024), val_main_v111 (F := Ideal) x0 (ix4 b h s ⟨j.val * 256 + c.val, hk⟩)
      = ((Real.exp (-M) * wt (j.val < s.val / 256) (selL U w b h s j c) : ℝ) : EReal) := by
    intro j c hk; rw [hsub, row_sel hx hw, exp_masked_sub]
  have hown : ∀ (c : Fin 256) (hk : 768 + c.val < 1024), val_main_v111 (F := Ideal) x0 (ix4 b h s ⟨768 + c.val, hk⟩)
      = ((Real.exp (-M) * wt (c.val ≤ s.val % 256) (ownL U w b h s c) : ℝ) : EReal) := by
    intro c hk; rw [hsub, row_own hx hw, exp_masked_sub]
  have hden : ∀ k : Fin 1024, val_main_v114 (F := Ideal) x0 (ix4 b h s k) = ((Real.exp (-M) * denR U w b h s : ℝ) : EReal) := by
    intro k
    rw [val_main_v114_apply, val_main_v113_apply, show idx_main_v113 (idx_main_v114 (ix4 b h s k)) = ix3 b h s from funext fun a => by fin_cases a <;> rfl,
      val_main_v112_apply, val_main_cst_16_apply, show (FloatOps.ofBits (F := Ideal) .f32 0x00000000#32 : EReal) = 0 by exact Ideal.ofBits_zero _, zero_add]
    have e : ∀ k : Fin 1024, idx_main_v112 (ix3 b h s) k = ix4 b h s k := by intro k; funext a; fin_cases a <;> rfl
    simp only [e]
    rw [sum_row]
    simp only [hsel, hown, coe_sum, ← EReal.coe_add, ← Finset.mul_sum, ← mul_add]
    have := sum_sel (U := U) w b h s (fun _ _ => 1)
    simp only [mul_one] at this
    rw [this, add_comm]
    rfl
  refine ⟨fun j c hk => ?_, fun c hk => ?_⟩
  · rw [val_main_v115_apply, hsel, hden, Ideal.hostDivf_def, quotient _ _ _ (denR_pos w b h s)]
  · rw [val_main_v115_apply, hown, hden, Ideal.hostDivf_def, quotient _ _ _ (denR_pos w b h s)]

end Cert.Ref
-- ==== Proof.RefOut.lean ====
module

public import proofs.«01_k».proof.Proof.RefSoft

@[expose] public section

set_option maxRecDepth 16384

noncomputable section

namespace Cert.Ref

open Cert.ReferenceIdeal Cert.ReferenceIdeal.Gen Cert.ReferenceIdeal.Read Idealize.ShloMosaic Idealize.ShloMosaic.TcCoe
open Cert.Soft

variable {x0 : (⟨S16384x5632, .bf16⟩ : BufTy).Contents (Elt Ideal)} {U : ℕ → ℕ → ℝ}

/-- The product of the weights and the picked values, which sums over the picks and the keys. -/
abbrev pickDot : DotDims S4x8x4096x3x256 S4x8x4096x3x256x128 S4x8x4096x128 :=
  dot_S4x8x4096x3x256_S4x8x4096x3x256x128_S4x8x4096x128_34_34_n_5_012_012

/-- The weight's index, in a term of the product. -/
theorem pick_lhs (i : S4x8x4096x128.Idx) (q : pickDot.contr.Idx) :
    (pickDot.lhsIdx i q 0).val = (i 0).val ∧ (pickDot.lhsIdx i q 1).val = (i 1).val ∧ (pickDot.lhsIdx i q 2).val = (i 2).val
      ∧ (pickDot.lhsIdx i q 3).val = (q ⟨0, by decide⟩).val ∧ (pickDot.lhsIdx i q 4).val = (q ⟨1, by decide⟩).val := by
  unfold DotDims.lhsIdx
  refine ⟨?_, ?_, ?_, ?_, ?_⟩
  · rw [dif_pos (show (0 : Fin S4x8x4096x3x256.rank) ∈ pickDot.lhsBatch by decide)]; rfl
  · rw [dif_pos (show (1 : Fin S4x8x4096x3x256.rank) ∈ pickDot.lhsBatch by decide)]; rfl
  · rw [dif_pos (show (2 : Fin S4x8x4096x3x256.rank) ∈ pickDot.lhsBatch by decide)]; rfl
  · rw [dif_neg (show ¬ (3 : Fin S4x8x4096x3x256.rank) ∈ pickDot.lhsBatch by decide), dif_neg (show ¬ (3 : Fin S4x8x4096x3x256.rank) ∈ pickDot.lhsNonContracting by decide)]; rfl
  · rw [dif_neg (show ¬ (4 : Fin S4x8x4096x3x256.rank) ∈ pickDot.lhsBatch by decide), dif_neg (show ¬ (4 : Fin S4x8x4096x3x256.rank) ∈ pickDot.lhsNonContracting by decide)]; rfl

/-- The value's index, in a term of the product. -/
theorem pick_rhs (i : S4x8x4096x128.Idx) (q : pickDot.contr.Idx) :
    (pickDot.rhsIdx i q 0).val = (i 0).val ∧ (pickDot.rhsIdx i q 1).val = (i 1).val ∧ (pickDot.rhsIdx i q 2).val = (i 2).val
      ∧ (pickDot.rhsIdx i q 3).val = (q ⟨0, by decide⟩).val ∧ (pickDot.rhsIdx i q 4).val = (q ⟨1, by decide⟩).val
      ∧ (pickDot.rhsIdx i q 5).val = (i 3).val := by
  unfold DotDims.rhsIdx
  refine ⟨?_, ?_, ?_, ?_, ?_, ?_⟩
  · rw [dif_pos (show (0 : Fin S4x8x4096x3x256x128.rank) ∈ pickDot.rhsBatch by decide)]; rfl
  · rw [dif_pos (show (1 : Fin S4x8x4096x3x256x128.rank) ∈ pickDot.rhsBatch by decide)]; rfl
  · rw [dif_pos (show (2 : Fin S4x8x4096x3x256x128.rank) ∈ pickDot.rhsBatch by decide)]; rfl
  · rw [dif_neg (show ¬ (3 : Fin S4x8x4096x3x256x128.rank) ∈ pickDot.rhsBatch by decide), dif_neg (show ¬ (3 : Fin S4x8x4096x3x256x128.rank) ∈ pickDot.rhsNonContracting by decide)]; rfl
  · rw [dif_neg (show ¬ (4 : Fin S4x8x4096x3x256x128.rank) ∈ pickDot.rhsBatch by decide), dif_neg (show ¬ (4 : Fin S4x8x4096x3x256x128.rank) ∈ pickDot.rhsNonContracting by decide)]; rfl
  · rw [dif_neg (show ¬ (5 : Fin S4x8x4096x3x256x128.rank) ∈ pickDot.rhsBatch by decide), dif_pos (show (5 : Fin S4x8x4096x3x256x128.rank) ∈ pickDot.rhsNonContracting by decide)]; rfl

/-- That product, entry by entry. -/
theorem pick_dot (A : (⟨S4x8x4096x3x256, .f32⟩ : BufTy).Contents (Elt Ideal)) (B : (⟨S4x8x4096x3x256x128, .f32⟩ : BufTy).Contents (Elt Ideal))
    (b : Fin 4) (h : Fin 8) (s : Fin 4096) (d : Fin 128) :
    (Host.dotGeneral (φ₁ := .f32) (φ₂ := .f32) (F := Ideal) pickDot none A B : (⟨S4x8x4096x128, .f32⟩ : BufTy).Contents (Elt Ideal)) (ix4 b h s d)
      = ∑ j : Fin 3, ∑ c : Fin 256, (A (ix5 b h s j c) * B (ValueIdx.ix6 b h s j c d) : EReal) := by
  simp only [Host.dotGeneral]
  rw [Ideal.dotGeneral_apply, ValueIdx.sum_contr2 pickDot 3 256 rfl rfl rfl]
  refine Finset.sum_congr rfl fun j _ => Finset.sum_congr rfl fun c _ => ?_
  have h0 := ValueIdx.contrEquiv2_symm_val0 pickDot 3 256 rfl rfl rfl (j, c)
  have h1 := ValueIdx.contrEquiv2_symm_val1 pickDot 3 256 rfl rfl rfl (j, c)
  generalize (ValueIdx.contrEquiv2 pickDot 3 256 rfl rfl rfl).symm (j, c) = q at h0 h1 ⊢
  obtain ⟨l0, l1, l2, l3, l4⟩ := pick_lhs (ix4 b h s d) q
  obtain ⟨r0, r1, r2, r3, r4, r5⟩ := pick_rhs (ix4 b h s d) q
  have el : pickDot.lhsIdx (ix4 b h s d) q = ix5 b h s j c := funext fun a => Fin.ext (by
    match a with
    | ⟨0, _⟩ => exact l0
    | ⟨1, _⟩ => exact l1
    | ⟨2, _⟩ => exact l2
    | ⟨3, _⟩ => exact l3.trans h0
    | ⟨4, _⟩ => exact l4.trans h1)
  have er : pickDot.rhsIdx (ix4 b h s d) q = ValueIdx.ix6 b h s j c d := funext fun a => Fin.ext (by
    match a with
    | ⟨0, _⟩ => exact r0
    | ⟨1, _⟩ => exact r1
    | ⟨2, _⟩ => exact r2
    | ⟨3, _⟩ => exact r3.trans h0
    | ⟨4, _⟩ => exact r4.trans h1
    | ⟨5, _⟩ => exact r5)
  rw [el, er]

/-- The part of the output that comes from the picked blocks. -/
theorem past_out (hx : Reals x0 U) {w : Fin 8 → ℝ} (hw : Slopes w) (b : Fin 4) (h : Fin 8) (s : Fin 4096) (d : Fin 128) :
    val_main_v120 (F := Ideal) x0 (ix4 b h s d)
      = (((∑ n ∈ Finset.range (s.val / 256), ∑ c : Fin 256, pastW (Qh U b.val h.val s.val) (Kh U b.val h.val) (w h) (s.val / 256) (s.val % 256) n c
          * Vh U b.val h.val (n * 256 + c.val) d) / denR U w b h s : ℝ) : EReal) := by
  have hp : ∀ (j : Fin 3) (c : Fin 256), val_main_v117 (F := Ideal) x0 (ix5 b h s j c)
      = ((wt (j.val < s.val / 256) (selL U w b h s j c) / denR U w b h s : ℝ) : EReal) := by
    intro j c
    have := b.isLt; have := h.isLt; have := s.isLt; have := j.isLt; have := c.isLt
    rw [val_main_v117_apply, val_main_v116_apply, ← (soft_at hx hw b h s).1 j c (by omega)]
    refine congrArg _ (funext fun a => Fin.ext ?_)
    fin_cases a <;> simp <;> omega
  rw [← sum_sel w b h s (fun n c => Vh U b.val h.val (n * 256 + c.val) d)]
  unfold val_main_v120
  rw [pick_dot]
  simp only [hp, vs_at hx, ← EReal.coe_mul, coe_sum]
  simp only [Finset.sum_div, div_mul_eq_mul_div]

/-- The part of the output that comes from the query's own block. -/
theorem own_out (hx : Reals x0 U) {w : Fin 8 → ℝ} (hw : Slopes w) (b : Fin 4) (h : Fin 8) (s : Fin 4096) (d : Fin 128) :
    val_main_v122 (F := Ideal) x0 (ix4 b h s d)
      = (((∑ c : Fin 256, ownW (Qh U b.val h.val s.val) (Kh U b.val h.val) (w h) (s.val / 256) (s.val % 256) c
          * Vh U b.val h.val (s.val / 256 * 256 + c.val) d) / denR U w b h s : ℝ) : EReal) := by
  have hp : ∀ c : Fin 256, val_main_v119 (F := Ideal) x0 (ix5 b h ⟨s.val / 256, by omega⟩ ⟨s.val % 256, by omega⟩ c)
      = ((wt (c.val ≤ s.val % 256) (ownL U w b h s c) / denR U w b h s : ℝ) : EReal) := by
    intro c
    have := b.isLt; have := h.isLt; have := s.isLt; have := c.isLt
    rw [val_main_v119_apply, val_main_v118_apply, ← (soft_at hx hw b h s).2 c (by omega)]
    refine congrArg _ (funext fun a => Fin.ext ?_)
    fin_cases a <;> simp <;> omega
  have e : idx_main_v122 (ix4 b h s d) = ix5 b h ⟨s.val / 256, by omega⟩ ⟨s.val % 256, by omega⟩ d := by
    have := b.isLt; have := h.isLt; have := s.isLt; have := d.isLt
    funext a; fin_cases a <;> apply Fin.ext <;> simp <;> omega
  rw [val_main_v122_apply, e, val_main_v121_apply]
  have el : ∀ c : Fin 256, lidx_main_v121 (ix5 b h ⟨s.val / 256, by omega⟩ ⟨s.val % 256, by omega⟩ d) c = ix5 b h ⟨s.val / 256, by omega⟩ ⟨s.val % 256, by omega⟩ c := by
    intro c; funext a; fin_cases a <;> rfl
  have er : ∀ c : Fin 256, ridx_main_v121 (ix5 b h ⟨s.val / 256, by omega⟩ ⟨s.val % 256, by omega⟩ d) c = ix5 b h ⟨s.val / 256, by omega⟩ c d := by
    intro c; funext a; fin_cases a <;> rfl
  simp only [el, er, hp, vb_at hx, ← EReal.coe_mul, coe_sum, Finset.sum_div, div_mul_eq_mul_div]
  rfl

/-- The reference's result: the attention of each query. -/
theorem out_at (hx : Reals x0 U) {w : Fin 8 → ℝ} (hw : Slopes w) (b : Fin 4) (h : Fin 8) (s : Fin 4096) (d : Fin 128)
    (ha : b.val * 4096 + s.val < 16384) (he : h.val * 128 + d.val < 1024) :
    val_main_v126 (F := Ideal) x0 (ix2 ⟨b.val * 4096 + s.val, ha⟩ ⟨h.val * 128 + d.val, he⟩)
      = (attn (Qh U b.val h.val s.val) (Kh U b.val h.val) (Vh U b.val h.val) (w h) (s.val / 256) (s.val % 256) d : EReal) := by
  have e : idx_main_v124 (idx_main_v125 (ix2 ⟨b.val * 4096 + s.val, ha⟩ ⟨h.val * 128 + d.val, he⟩)) = ix4 b h s d := by
    have := b.isLt; have := h.isLt; have := s.isLt; have := d.isLt
    funext a; fin_cases a <;> apply Fin.ext <;> simp <;> omega
  rw [val_main_v126_apply, val_main_v125_apply, val_main_v124_apply, e, val_main_v123_apply, past_out hx hw, own_out hx hw, Ideal.addf_def,
    ← EReal.coe_add, ← add_div, add_comm]
  rfl

end Cert.Ref
-- ==== Proof.Finite.lean ====
module

public import proofs.«01_k».proof.Proof.RefOut
public import proofs.«01_k».proof.Proof.Gen.Pre_finite

@[expose] public section

set_option maxRecDepth 16384

noncomputable section

namespace Cert.Ref

open Cert.ReferenceIdeal Cert.ReferenceIdeal.Gen Cert.ReferenceIdeal.Read Idealize.ShloMosaic Idealize.ShloMosaic.TcCoe
open Cert.Soft

theorem ofBits_pos_inf : Ideal.ofBits .f32 0x7F800000#32 = ⊤ := by
  simp [Ideal.ofBits, Ideal.ieee]

/-- A number whose size is less than infinity is a real. -/
theorem real_of_abs_lt (x : EReal) (h : Ideal.cmp .olt (max x (-x)) (Ideal.ofBits .f32 0x7F800000#32) = 1#1) : x = ((x.toReal : ℝ) : EReal) := by
  rw [ofBits_pos_inf] at h
  have h' : max x (-x) < ⊤ := by
    by_contra hn
    simp [Ideal.cmp, hn] at h
  rw [max_lt_iff] at h'
  refine (EReal.coe_toReal h'.1.ne fun hb => ?_).symm
  rw [hb] at h'
  exact absurd h'.2 (by simp)

/-- The precondition says that the argument's entries are reals. -/
theorem reals_of_finite (x0 : (⟨S16384x5632, .bf16⟩ : BufTy).Contents (Elt Ideal))
    (h : Cert.Pre_finite.fn (F := Ideal) x0 = fun _ => 1#1) :
    ∃ U : ℕ → ℕ → ℝ, Reals x0 U := by
  refine ⟨fun a c => if h : a < 16384 ∧ c < 5632 then EReal.toReal (x0 (ix2 ⟨a, h.1⟩ ⟨c, h.2⟩)) else 0, fun a c => ?_⟩
  dsimp only
  rw [dif_pos ⟨a.isLt, c.isLt⟩]
  exact real_of_abs_lt _ (congrFun h (ix2 a c))

theorem real_of_ofBits {n : BitVec 32} (h : ∃ x : ℝ, Ideal.ofBits .f32 n = (x : EReal)) : Ideal.ofBits .f32 n = ((Ideal.ofBits .f32 n).toReal : EReal) := by
  obtain ⟨x, hx⟩ := h
  rw [hx, EReal.toReal_coe]

/-- The slopes are reals. -/
theorem slopes_real : ∃ w : Fin 8 → ℝ, Slopes w := by
  have h1 : Ideal.ofBits .f32 0x3F800000#32 = ((1 : ℝ) : EReal) := by
    simp [Ideal.ofBits, Ideal.ieee, -EReal.coe_mul]; norm_num
  have h8 : Ideal.ofBits .f32 0x41000000#32 = ((8 : ℝ) : EReal) := by
    simp [Ideal.ofBits, Ideal.ieee, -EReal.coe_mul]; norm_num
  have hm : Ideal.ofBits .f32 0xC1000000#32 = ((-8 : ℝ) : EReal) := by
    simp [Ideal.ofBits, Ideal.ieee, -EReal.coe_mul]; norm_num
  have hl : ∃ l : ℝ, Ideal.ofBits .f32 0x3F317218#32 = (l : EReal) := by
    simp only [Ideal.ofBits, Ideal.ieee]
    exact ⟨_, rfl⟩
  obtain ⟨l, hl⟩ := hl
  refine ⟨fun h => Real.exp (l * (-8 * (1 + ((BitVec.ofNat 32 h.val).toInt : ℝ)) / 8)), fun h => ?_⟩
  rw [val_main_v37_apply, val_main_v36_apply, val_main_v35_apply, val_main_v34_apply, val_main_v33_apply, val_main_v32_apply, val_main_v31_apply, val_main_v30_apply, val_main_v29_apply]
  change Ideal.exp (Ideal.ofBits .f32 0x3F317218#32 * Ideal.div (Ideal.ofBits .f32 0xC1000000#32 * (Ideal.ofBits .f32 0x3F800000#32 + (((BitVec.ofNat 32 h.val).toInt : ℝ) : EReal))) (Ideal.ofBits .f32 0x41000000#32)) = _
  rw [h1, h8, hm, hl, ← EReal.coe_add, ← EReal.coe_mul, Ideal.div_coe (by norm_num), ← EReal.coe_mul, ← EReal.coe_mul, Ideal.exp_coe]
  simp only [mul_one_div]

end Cert.Ref
-- ==== Proof.State.lean ====
module

public import proofs.«01_k».proof.Proof.Spec

@[expose] public section

set_option maxRecDepth 16384

noncomputable section

namespace Cert.KernelIdeal.Body

open Idealize.ShloMosaic Idealize.ShloMosaic.TcCoe Idealize.SL.Sem Cert.KernelIdeal Cert.KernelIdeal.Gen Cert.Soft

/-- The mask's value is minus infinity. -/
theorem mask_eq : Named.named (F := Ideal) (φ := .f32) κ "mask" 4048155338#32 = ⊥ :=
  IdealRules.named_const.ideal_named_scalar _ _ _ _ rfl

theorem hi_apply (X : Vec Ideal S4096x128 .bf16) (K : ℕ → Fin 128 → ℝ) (hX : ∀ a d, X (ix2 a d) = (K a.val d : EReal)) (n d : Fin 128) (hn : n.val < 16) :
    hiV X (ix2 n d) = (keyMean K n d : EReal) := by
  unfold hiV
  rw [dif_pos (show (ix2 n d 0).val < 16 from hn)]
  change k0_pay21 X (ix2 ⟨n.val, hn⟩ d) = _
  pointwise [k0_pay21, k0_pay18, k0_pay17]
  simp only [hX, coe_sum, ofBits_inv256, ← EReal.coe_mul]
  rfl

theorem lo_apply (X : Vec Ideal S4096x128 .bf16) (K : ℕ → Fin 128 → ℝ) (hX : ∀ a d, X (ix2 a d) = (K a.val d : EReal)) (n d : Fin 128) (hn : n.val < 16) :
    loV X (ix2 n d) = 0 := by
  unfold loV
  rw [dif_pos (show (ix2 n d 0).val < 16 from hn)]
  change k0_pay22 X (ix2 ⟨n.val, hn⟩ d) = _
  pointwise [k0_pay22, k0_pay18, k0_pay17]
  simp only [hX, coe_sum, ofBits_inv256, ← EReal.coe_mul, ← EReal.coe_sub]
  simp

/-- The kernel's gate is the gate. -/
theorem gate_apply (q : Vec Ideal S256x128 .bf16) (X : Vec Ideal S4096x128 .bf16) (Q : Fin 128 → ℝ) (K : ℕ → Fin 128 → ℝ) (r : Fin 256)
    (hq : ∀ d, q (ix2 r d) = (Q d : EReal)) (hX : ∀ a d, X (ix2 a d) = (K a.val d : EReal)) (n : Fin 128) (hn : n.val < 16) :
    k0_pay23 (F := Ideal) q (hiV X) (loV X) (ix2 r n) = (gate Q K n : EReal) := by
  pointwise [k0_pay23]
  simp only [hi_apply X K hX _ _ hn, lo_apply X K hX _ _ hn, hq, mul_zero, Finset.sum_const_zero, add_zero, ← EReal.coe_mul, coe_sum, ofBits_sc]
  rfl

/-- The kernel selects the picked blocks. -/
theorem sel_apply (i : grid0.Coords) (q : Vec Ideal S256x128 .bf16) (X : Vec Ideal S4096x128 .bf16) (Q : Fin 128 → ℝ) (K : ℕ → Fin 128 → ℝ) (r : Fin 256)
    (hq : ∀ d, q (ix2 r d) = (Q d : EReal)) (hX : ∀ a d, X (ix2 a d) = (K a.val d : EReal)) (n : Fin 128) :
    selV (F := Ideal) i q (hiV X) (loV X) (ix2 r n) = BitVec.ofBool (decide (Picked Q K (i 2).val n.val)) := by
  have h16 : (i 2).val < 16 := (i 2).isLt
  rw [selV_apply]; congr 1; rw [Bool.eq_iff_iff, decide_eq_true_iff, decide_eq_true_iff]
  unfold Picked
  refine and_congr_right fun hn => ?_
  rw [rank_coe _ (gate Q K) _ _ hn]
  intro j hj
  have hv : (Fin.ofNat 128 j).val = j := Nat.mod_eq_of_lt (by omega)
  rw [gate_apply q X Q K r hq hX _ (by omega), hv]

theorem sub_word (c r : ℕ) (hc : c < 256) (hr : r < 256) :
    ((IntOp.subi (BitVec.ofNat 32 c) (BitVec.ofNat 32 r)).toInt : ℝ) = (c : ℝ) - r := by
  have : (IntOp.subi (BitVec.ofNat 32 c) (BitVec.ofNat 32 r)).toInt = (c : ℤ) - r := by
    unfold IntOp.subi
    rw [BitVec.toInt_sub, toInt_small _ (by omega), toInt_small _ (by omega), Int.bmod_def]
    omega
  rw [this]; push_cast; rfl

theorem dist_word : ∀ a b : Fin 16, (Scalar.muli (Scalar.subi (BitVec.ofNat 32 a.val) (Scf.iv 0#32 1#32 b.val)) 256#32).toInt = ((a.val : ℤ) - b.val) * 256 := by
  decide +kernel

theorem pay47_apply (w : ℝ) (r c : Fin 256) : k0_pay47 (F := Ideal) (w : EReal) (ix2 r c) = ((((c.val : ℝ) - r.val) * w : ℝ) : EReal) := by
  pointwise [k0_pay47]
  change (((IntOp.subi (BitVec.ofNat 32 c.val) (BitVec.ofNat 32 r.val)).toInt : ℝ) : EReal) * (w : EReal) = _
  rw [sub_word _ _ c.isLt r.isLt, ← EReal.coe_mul]

theorem pay1_apply (i : grid0.Coords) (w : ℝ) (k : Fin (k0_t1_loop i).trips) :
    k0_pay1 (F := Ideal) i (BitVec.ofNat 32 (i 2).val) (w : EReal) 0#32 1#32 k = ((-(w * (((i 2).val - k.val : ℝ) * 256)) : ℝ) : EReal) := by
  have hk : k.val < (i 2).val := lt_of_lt_of_eq k.isLt (trips_eq i)
  have h16 : (i 2).val < 16 := (i 2).isLt
  pointwise [k0_pay1]
  have := dist_word (i 2) ⟨k.val, by omega⟩
  dsimp only at this
  rw [this, ← EReal.coe_zero, ← EReal.coe_sub, ← EReal.coe_mul]
  congr 1; push_cast; ring

section Own

variable (q K W : Vec Ideal S256x128 .bf16) (Q : Fin 128 → ℝ) (Kk Vv : ℕ → Fin 128 → ℝ) (r : Fin 256) (w : ℝ) (b : ℕ)
  (hq : ∀ d, q (ix2 r d) = (Q d : EReal))

/-- The logit before the distance between blocks is taken off. -/
def near (Q : Fin 128 → ℝ) (Kk : ℕ → Fin 128 → ℝ) (w : ℝ) (r n c : ℕ) : ℝ :=
  (∑ d, Q d * Kk (n * 256 + c) d) * sc + ((c : ℝ) - r) * w

theorem near_own (c : ℕ) : near Q Kk w r b c = logit Q Kk w b r b c := by unfold near logit; ring

theorem near_past (n c : ℕ) : near Q Kk w r n c + (-(w * (((b : ℝ) - n) * 256))) = logit Q Kk w b r n c := by
  unfold near logit; ring

include hq

theorem pay48_apply (hK : ∀ c d, K (ix2 c d) = (Kk (b * 256 + c.val) d : EReal)) (c : Fin 256) :
    k0_pay48 (F := Ideal) (w : EReal) q K (ix2 r c) = masked (c.val ≤ r.val) (logit Q Kk w b r b c) := by
  pointwise [k0_pay48]
  rw [sle_nat _ _ (by omega) (by omega), select_ofBool, mask_eq, pay47_apply, ofBits_sc]
  simp only [hq, hK, ← EReal.coe_mul, coe_sum, ← EReal.coe_add]
  rw [← near_own]; rfl

theorem own_state (hK : ∀ c d, K (ix2 c d) = (Kk (b * 256 + c.val) d : EReal)) (hW : ∀ c d, W (ix2 c d) = (Vv (b * 256 + c.val) d : EReal)) (d : Fin 128) :
    ∃ M : ℝ, k0_pay49 (F := Ideal) (w : EReal) q K (ix2 r 0) = (M : EReal)
      ∧ k0_pay51 (F := Ideal) (w : EReal) q K (ix2 r 0) = ((Real.exp (-M) * den Q Kk w b r 0 : ℝ) : EReal)
      ∧ k0_pay52 (F := Ideal) (w : EReal) q K W (ix2 r d) = ((Real.exp (-M) * num Q Kk Vv w b r d 0 : ℝ) : EReal) := by
  have h48 := pay48_apply q K Q Kk r w b hq hK
  have h49 : k0_pay49 (F := Ideal) (w : EReal) q K (ix2 r 0) = Finset.fold max ⊥ (fun c : Fin 256 => masked (c.val ≤ r.val) (logit Q Kk w b r b c)) Finset.univ := by
    simp only [← h48]
    pointwise [k0_pay49, k0_pay48]
    rw [ofBits_neg_inf]
  obtain ⟨M, hM⟩ := fold_max_real Finset.univ (fun c : Fin 256 => masked (c.val ≤ r.val) (logit Q Kk w b r b c)) (fun c => masked_ne_top _ _) r (Finset.mem_univ _)
    (by unfold masked; rw [if_pos le_rfl]; exact EReal.coe_ne_bot _)
  rw [hM] at h49
  refine ⟨M, h49, ?_, ?_⟩
  · pointwise [k0_pay51, k0_pay50]
    simp only [h48, h49]
    rw [sum_exp]
    simp only [den, Finset.range_zero, Finset.sum_empty, add_zero]; rfl
  · pointwise [k0_pay52, k0_pay50]
    simp only [h48, h49, hW]
    rw [sum_exp_mul]
    simp only [num, Finset.range_zero, Finset.sum_empty, add_zero]; rfl

end Own

section Past

variable (i : grid0.Coords) (q K W : Vec Ideal S256x128 .bf16) (sel : IVec S256x128 1) (Q : Fin 128 → ℝ) (Kk Vv : ℕ → Fin 128 → ℝ) (r : Fin 256) (w : ℝ)
  (k : Fin (k0_t1_loop i).trips)
  (hq : ∀ d, q (ix2 r d) = (Q d : EReal))
  (hsel : ∀ n : Fin 128, sel (ix2 r n) = BitVec.ofBool (decide (Picked Q Kk (i 2).val n.val)))

include hq hsel

theorem pay2_apply (hK : ∀ c d, K (ix2 c d) = (Kk (k.val * 256 + c.val) d : EReal)) (c : Fin 256) :
    k0_pay2 (F := Ideal) i q (iota .tc S256x128 32 [1] iota_S256x128_d1_w32) (k0_pay46 sel (Scalar.ofBits .f32 0x00000000#32) (k0_pay45 (F := Ideal))) (k0_pay47 (w : EReal)) 0#32 1#32 k K (ix2 r c)
      = masked (Picked Q Kk (i 2).val k.val) (near Q Kk w r k c) := by
  have hk : k.val < (i 2).val := lt_of_lt_of_eq k.isLt (trips_eq i)
  have h16 : (i 2).val < 16 := (i 2).isLt
  have hiv : Scf.iv 0#32 1#32 k.val = BitVec.ofNat 32 k.val := by simp [Scf.iv]
  have hsum : (∑ x : Fin 128, Scalar.select (IntOp.cmpi CmpIPredicate.eq (BitVec.ofNat 32 x.val) (BitVec.ofNat 32 k.val))
      (Scalar.select (sel (ix2 r x)) (1 : EReal) 0) 0) = if Picked Q Kk (i 2).val k.val then 1 else 0 := by
    rw [Finset.sum_eq_single (⟨k.val, by omega⟩ : Fin 128)]
    · rw [eq_nat _ _ (by dsimp only; omega) (by omega), select_ofBool, if_pos rfl, hsel, select_ofBool]
    · intro x _ hx
      rw [eq_nat _ _ (by omega) (by omega), select_ofBool, if_neg]
      exact fun h => hx (Fin.ext h)
    · exact fun h => absurd (Finset.mem_univ _) h
  have h47 := pay47_apply w r c
  pointwise [k0_pay2, k0_pay46, k0_pay45]
  rw [hiv, hsum, mask_eq, h47, ofBits_sc, ofBits_half]
  simp only [hq, hK, ← EReal.coe_mul, coe_sum, ← EReal.coe_add]
  by_cases hP : Picked Q Kk (i 2).val k.val
  · have : ((1 / 2 : ℝ) : EReal) < 1 := by
      rw [← EReal.coe_one, EReal.coe_lt_coe_iff]; norm_num
    simp only [hP, if_true, this, masked]; rfl
  · have : ¬((1 / 2 : ℝ) : EReal) < 0 := by
      rw [← EReal.coe_zero, EReal.coe_lt_coe_iff]; norm_num
    simp only [hP, if_false, this, masked]

theorem past_state (hK : ∀ c d, K (ix2 c d) = (Kk (k.val * 256 + c.val) d : EReal)) (hW : ∀ c d, W (ix2 c d) = (Vv (k.val * 256 + c.val) d : EReal)) (d : Fin 128)
    (acc : FVec Ideal S256x1 .f32 × FVec Ideal S256x1 .f32 × FVec Ideal S256x128 .f32) (m : ℝ)
    (h0 : acc.1 (ix2 r 0) = (m : EReal)) (h1 : acc.2.1 (ix2 r 0) = ((Real.exp (-m) * den Q Kk w (i 2).val r k.val : ℝ) : EReal))
    (h2 : acc.2.2 (ix2 r d) = ((Real.exp (-m) * num Q Kk Vv w (i 2).val r d k.val : ℝ) : EReal)) :
    let a : BitVec 32 := BitVec.ofNat 32 (i 2).val
    let n : IVec S256x128 32 := iota .tc S256x128 32 [1] iota_S256x128_d1_w32
    let s := k0_pay46 sel (Scalar.ofBits .f32 0x00000000#32) (k0_pay45 (F := Ideal))
    ∃ M : ℝ, k0_pay3 (F := Ideal) i a (w : EReal) q n s (k0_pay47 (w : EReal)) 0#32 1#32 k acc.1 K (ix2 r 0) = (M : EReal)
      ∧ k0_pay6 (F := Ideal) i a (w : EReal) q n s (k0_pay47 (w : EReal)) 0#32 1#32 k acc.1 acc.2.1 K (ix2 r 0) = ((Real.exp (-M) * den Q Kk w (i 2).val r (k.val + 1) : ℝ) : EReal)
      ∧ k0_pay53 (F := Ideal) W (k0_pay7 i a (w : EReal) q n s (k0_pay47 (w : EReal)) 0#32 1#32 k acc.1 acc.2.2 K)
          (k0_pay8 i a (w : EReal) q n s (k0_pay47 (w : EReal)) 0#32 1#32 k acc.1 K) (ix2 r d) = ((Real.exp (-M) * num Q Kk Vv w (i 2).val r d (k.val + 1) : ℝ) : EReal) := by
  intro a n s
  have hp2 := pay2_apply i q K sel Q Kk r w k hq hsel hK
  have hp1 := pay1_apply i w k
  have hP3 : k0_pay3 (F := Ideal) i a (w : EReal) q n s (k0_pay47 (w : EReal)) 0#32 1#32 k acc.1 K (ix2 r 0)
      = max (m : EReal) (Finset.fold max ⊥ (fun c : Fin 256 => masked (Picked Q Kk (i 2).val k.val) (near Q Kk w r k c)) Finset.univ + ((-(w * (((i 2).val - k.val : ℝ) * 256)) : ℝ) : EReal)) := by
    pointwise [k0_pay3]
    rw [h0, ofBits_neg_inf, hp1]
    simp only [n, s, hp2]
  obtain ⟨M, hM⟩ := max_real m (Finset.fold max ⊥ (fun c : Fin 256 => masked (Picked Q Kk (i 2).val k.val) (near Q Kk w r k c)) Finset.univ + ((-(w * (((i 2).val - k.val : ℝ) * 256)) : ℝ) : EReal))
    (by
      have := fold_max_ne_top Finset.univ (fun c : Fin 256 => masked (Picked Q Kk (i 2).val k.val) (near Q Kk w r k c)) (fun c => masked_ne_top _ _)
      exact EReal.add_ne_top this (EReal.coe_ne_top _))
  rw [hM] at hP3
  have hp4 : ∀ c : Fin 256, k0_pay4 (F := Ideal) i a (w : EReal) q n s (k0_pay47 (w : EReal)) 0#32 1#32 k acc.1 K (ix2 r c)
      = Ideal.exp (masked (Picked Q Kk (i 2).val k.val) (near Q Kk w r k c) - ((M : EReal) - ((-(w * (((i 2).val - k.val : ℝ) * 256)) : ℝ) : EReal))) := by
    intro c
    pointwise [k0_pay4]
    rw [hP3, hp1]
    simp only [n, s, hp2]
  refine ⟨M, hP3, ?_, ?_⟩
  · pointwise [k0_pay6, k0_pay5]
    simp only [hp4, h0, h1, hP3]
    rw [sum_exp', rescale, den, den, Finset.sum_range_succ, add_assoc]
    simp only [near_past]; rfl
  · pointwise [k0_pay53, k0_pay7, k0_pay5, k0_pay8]
    simp only [hp4, h0, h2, hP3, hW]
    rw [sum_exp_mul', rescale, num, num, Finset.sum_range_succ, add_assoc]
    simp only [near_past]; rfl

end Past

/-- Rows of a block of keys or values read from the whole array. -/
theorem rows_read (X : Vec Ideal S4096x128 .bf16) (Kk : ℕ → Fin 128 → ℝ) (hX : ∀ a d, X (ix2 a d) = (Kk a.val d : EReal))
    (off : Fin 2 → ℕ) (n : ℕ) (h : off = ![256 * n, 0]) (inb : ∀ a, off a + S256x128.size a ≤ S4096x128.size a) (c : Fin 256) (d : Fin 128) :
    View.ld X (Rect.unit (s := S4096x128) off S256x128.size inb) (ix2 c d) = (Kk (n * 256 + c.val) d : EReal) := by
  subst h
  have hb := inb 0
  change 256 * n + 256 ≤ 4096 at hb
  rw [View.ld_unit_apply_of X _ _ inb (ix2 c d) (ix2 ⟨n * 256 + c.val, by omega⟩ d), hX]
  intro a; fin_cases a
  · show n * 256 + c.val = 256 * n + c.val; omega
  · show d.val = 0 + d.val; omega

/-- The loop's state before trip `k`, at one query and one coordinate of the values. -/
theorem stV_apply (i : grid0.Coords) (q : Vec Ideal S256x128 .bf16) (X Y : Vec Ideal S4096x128 .bf16) (Q : Fin 128 → ℝ) (Kk Vv : ℕ → Fin 128 → ℝ) (r : Fin 256) (w : ℝ)
    (hq : ∀ d, q (ix2 r d) = (Q d : EReal)) (hX : ∀ a d, X (ix2 a d) = (Kk a.val d : EReal)) (hY : ∀ a d, Y (ix2 a d) = (Vv a.val d : EReal)) (d : Fin 128) (k : ℕ)
    (hk : k ≤ (i 2).val) :
    ∃ M : ℝ, (stV i (w : EReal) q (selV (F := Ideal) i q (hiV X) (loV X)) X Y (initV i (w : EReal) q X Y) k).1 (ix2 r 0) = (M : EReal)
      ∧ (stV i (w : EReal) q (selV (F := Ideal) i q (hiV X) (loV X)) X Y (initV i (w : EReal) q X Y) k).2.1 (ix2 r 0) = ((Real.exp (-M) * den Q Kk w (i 2).val r k : ℝ) : EReal)
      ∧ (stV i (w : EReal) q (selV (F := Ideal) i q (hiV X) (loV X)) X Y (initV i (w : EReal) q X Y) k).2.2 (ix2 r d) = ((Real.exp (-M) * num Q Kk Vv w (i 2).val r d k : ℝ) : EReal) := by
  induction k with
  | zero =>
    have hK := rows_read X Kk hX (k0_off2 i) (i 2).val (k0_off2_eq i) (k0_off2_inb i)
    have hW := rows_read Y Vv hY (k0_off2 i) (i 2).val (k0_off2_eq i) (k0_off2_inb i)
    have h := own_state q (View.ld X (Rect.unit (k0_off2 i) S256x128.size (k0_off2_inb i))) (View.ld Y (Rect.unit (k0_off2 i) S256x128.size (k0_off2_inb i))) Q Kk Vv r w (i 2).val hq hK hW d
    rw [stV]; unfold initV; dsimp only
    exact h
  | succ k ih =>
    obtain ⟨m, h0, h1, h2⟩ := ih (by omega)
    have hlt : k < (k0_t1_loop i).trips := by rw [trips_eq]; omega
    rw [stV, dif_pos hlt]
    have hK := rows_read X Kk hX (k0_off3 i ⟨k, hlt⟩) k (k0_off3_eq i ⟨k, hlt⟩) (k0_off3_inb i ⟨k, hlt⟩)
    have hW := rows_read Y Vv hY (k0_off3 i ⟨k, hlt⟩) k (k0_off3_eq i ⟨k, hlt⟩) (k0_off3_inb i ⟨k, hlt⟩)
    have h := past_state i q (View.ld X (Rect.unit (k0_off3 i ⟨k, hlt⟩) S256x128.size (k0_off3_inb i ⟨k, hlt⟩))) (View.ld Y (Rect.unit (k0_off3 i ⟨k, hlt⟩) S256x128.size (k0_off3_inb i ⟨k, hlt⟩)))
      (selV (F := Ideal) i q (hiV X) (loV X)) Q Kk Vv r w ⟨k, hlt⟩ hq (sel_apply i q X Q Kk r hq hX) hK hW d _ m h0 h1 h2
    unfold tripV; dsimp only
    exact h

/-- What a grid point writes is the attention of its queries. -/
theorem outV_apply (i : grid0.Coords) (x : Vec Ideal S8 .f32) (q : Vec Ideal S256x128 .bf16) (X Y : Vec Ideal S4096x128 .bf16) (Q : Fin 128 → ℝ) (Kk Vv : ℕ → Fin 128 → ℝ) (r : Fin 256) (w : ℝ)
    (hw : slopeV (F := Ideal) i x = (w : EReal))
    (hq : ∀ d, q (ix2 r d) = (Q d : EReal)) (hX : ∀ a d, X (ix2 a d) = (Kk a.val d : EReal)) (hY : ∀ a d, Y (ix2 a d) = (Vv a.val d : EReal)) (d : Fin 128) :
    outV (F := Ideal) i x q X Y (hiV X) (loV X) (ix2 r d) = (attn Q Kk Vv w (i 2).val r d : EReal) := by
  obtain ⟨M, -, h1, h2⟩ := stV_apply i q X Y Q Kk Vv r w hq hX hY d (i 2).val le_rfl
  unfold outV; dsimp only
  rw [trips_eq, hw]
  pointwise [k0_pay55]
  rw [h1, h2, quotient _ _ _ (den_pos _ _ _ _ _ _)]
  rfl

end Cert.KernelIdeal.Body
-- ==== Proof.Point.lean ====
module

public import proofs.«01_k».proof.Proof.Body
public import proofs.«01_k».proof.Proof.Gen.KernelIdeal.Value
public import Idealize.ShloMosaic.Lib.Pipeline.ValueKit

@[expose] public section

set_option maxRecDepth 16384

noncomputable section

namespace Cert.KernelIdeal.Body

open Idealize.ShloMosaic Idealize.ShloMosaic.TcCoe Idealize.SL.Sem Cert.KernelIdeal Cert.KernelIdeal.Gen
open Idealize.ShloMosaic.Pipeline (Dat)

variable {F : FTy → Type} [FloatOps F] [Named F]
variable (m : (ℓ : Loc nD τ sig) → Buf (Elt F) ℓ)

/-- The coordinates of a grid point. -/
theorem coords_eq (t : Fin cfg0.N) : (grid0.coords t 0).val = t.val / 128 % 4 ∧ (grid0.coords t 1).val = t.val / 16 % 8
    ∧ (grid0.coords t 2).val = t.val % 16 := by
  have e0 : (grid0.coords t 0).val = t.val / 128 % 4 := Pipeline.Grid.coords_val t 0 (by decide) rfl
  have e1 : (grid0.coords t 1).val = t.val / 16 % 8 := Pipeline.Grid.coords_val t 1 (by decide) rfl
  have e2 : (grid0.coords t 2).val = t.val / 1 % 16 := Pipeline.Grid.coords_val t 2 (by decide) rfl
  exact ⟨e0, e1, by rw [e2, Nat.div_one]⟩

/-- The blocks each window takes at a grid point. -/
theorem idx : ∀ t : Fin cfg0.N, win0_0.index t = ![0]
    ∧ win0_1.index t = ![t.val / 128 * 16 + t.val % 16, 12 + t.val / 16 % 8]
    ∧ win0_2.index t = ![t.val / 128, 20 + t.val / 16 % 8]
    ∧ win0_3.index t = ![t.val / 128, 28 + t.val / 16 % 8]
    ∧ win0_4.index t = ![t.val / 128 * 16 + t.val % 16, t.val / 16 % 8] :=
  (by decide +kernel : ∀ t : Fin grid0.N, _)

/-- A grid point's queries, read from the argument. -/
theorem q_read (c : Dev nD) (t : Fin cfg0.N) (r : Fin 256) (d : Fin 128) (a : Fin 16384) (b : Fin 5632)
    (ha : a.val = (t.val / 128 * 16 + t.val % 16) * 256 + r.val) (hb : b.val = (12 + t.val / 16 % 8) * 128 + d.val) :
    (iblk m c 1 t : Vec F S256x128 .bf16) (ix2 r d) = m ((c : Thread nD τ).loc main_arg0) (ix2 a b) := by
  blk_ext! [iblk, V, idx t]

/-- A grid point's keys, read from the argument. -/
theorem k_read (c : Dev nD) (t : Fin cfg0.N) (r : Fin 4096) (d : Fin 128) (a : Fin 16384) (b : Fin 5632)
    (ha : a.val = (t.val / 128) * 4096 + r.val) (hb : b.val = (20 + t.val / 16 % 8) * 128 + d.val) :
    (iblk m c 2 t : Vec F S4096x128 .bf16) (ix2 r d) = m ((c : Thread nD τ).loc main_arg0) (ix2 a b) := by
  blk_ext! [iblk, V, idx t]

/-- A grid point's values, read from the argument. -/
theorem v_read (c : Dev nD) (t : Fin cfg0.N) (r : Fin 4096) (d : Fin 128) (a : Fin 16384) (b : Fin 5632)
    (ha : a.val = (t.val / 128) * 4096 + r.val) (hb : b.val = (28 + t.val / 16 % 8) * 128 + d.val) :
    (iblk m c 3 t : Vec F S4096x128 .bf16) (ix2 r d) = m ((c : Thread nD τ).loc main_arg0) (ix2 a b) := by
  blk_ext! [iblk, V, idx t]

/-- The keys a grid point sees are those of the point before, except at a head's first point. -/
theorem keys_step (c : Dev nD) (n : ℕ) (h : n + 1 < cfg0.N) (h0 : ¬ (n + 1) % 16 = 0) :
    (iblk m c 2 ⟨n + 1, h⟩ : Vec F S4096x128 .bf16) = iblk m c 2 ⟨n, Nat.lt_of_succ_lt h⟩ := by
  have hN : n + 1 < 512 := h
  have e1 : (n + 1) / 128 = n / 128 := by omega
  have e2 : (n + 1) / 16 % 8 = n / 16 % 8 := by omega
  funext j
  obtain ⟨r, d, rfl⟩ : ∃ (r : Fin 4096) (d : Fin 128), j = ix2 r d := ⟨j 0, j 1, by funext a; fin_cases a <;> rfl⟩
  rw [k_read m c ⟨n + 1, h⟩ r d ⟨n / 128 * 4096 + r.val, by omega⟩ ⟨(20 + n / 16 % 8) * 128 + d.val, by omega⟩
      (by show _ = (n + 1) / 128 * 4096 + r.val; rw [e1]) (by show _ = (20 + (n + 1) / 16 % 8) * 128 + d.val; rw [e2])]
  exact (k_read m c ⟨n, Nat.lt_of_succ_lt h⟩ r d ⟨n / 128 * 4096 + r.val, by omega⟩ ⟨(20 + n / 16 % 8) * 128 + d.val, by omega⟩ rfl rfl).symm

/-- What the two kept blocks hold after a grid point: the two parts of the block means of its head's keys. -/
theorem scratch_eq (c : Dev nD) : ∀ (n : ℕ) (h : n < cfg0.N),
    (outsAt0 m c n h).2.1 = hiV (iblk m c 2 ⟨n, h⟩) ∧ (outsAt0 m c n h).2.2 = loV (iblk m c 2 ⟨n, h⟩)
  | n, h => by
    by_cases h0 : n % 16 = 0
    · have e := outsAt0_A m c ⟨n, h⟩ h0
      dsimp only at e
      rw [e]
      dsimp only
      exact ⟨sout_A0 _ _ _ _ _ _ _ _ _ _ _ _ _ _ _ _ _ _ _ _ _, sout_A1 _ _ _ _ _ _ _ _ _ _ _ _ _ _ _ _ _ _ _ _ _⟩
    · have e := outsAt0_B m c ⟨n, h⟩ h0
      dsimp only at e
      rw [e]
      obtain ⟨k, rfl⟩ : ∃ k, n = k + 1 := ⟨n - 1, by omega⟩
      have ih := scratch_eq c k (Nat.lt_of_succ_lt h)
      rw [keys_step m c k h h0]
      exact ih

/-- What a grid point leaves in its output block. -/
theorem after_eq (c : Dev nD) (t : Fin cfg0.N) :
    (outsAt0 m c t.val t.isLt).1 = outV (grid0.coords t) (iblk m c 0 t) (iblk m c 1 t) (iblk m c 2 t) (iblk m c 3 t)
      (hiV (iblk m c 2 t)) (loV (iblk m c 2 t)) := by
  by_cases h0 : t.val % 16 = 0
  · rw [outsAt0_A m c t h0]
    dsimp only
    exact out_A _ _ _ _ _ _ _ _ _ _ _ _ _ _ _ _ _ _ _ _ _
  · rw [outsAt0_B m c t h0]
    obtain ⟨n, h⟩ := t
    dsimp only at h0 ⊢
    obtain ⟨k, rfl⟩ : ∃ k, n = k + 1 := ⟨n - 1, by omega⟩
    have ih := scratch_eq m c k (Nat.lt_of_succ_lt h)
    have e := out_B c (grid0.coords ⟨k + 1, h⟩) (ms0_0 ⟨k + 1, h⟩) (hs0_0 ⟨k + 1, h⟩) (ms0_1 ⟨k + 1, h⟩) (hs0_1 ⟨k + 1, h⟩) (ms0_2 ⟨k + 1, h⟩) (hs0_2 ⟨k + 1, h⟩) (ms0_3 ⟨k + 1, h⟩) (hs0_3 ⟨k + 1, h⟩) (ms0_4 ⟨k + 1, h⟩) (hs0_4 ⟨k + 1, h⟩) scM0_0 (Memref.isWhole_whole _) scM0_1 (Memref.isWhole_whole _) (fun h' => h0 ((hcond0_0 ⟨k + 1, h⟩).mp h')) (iblk m c 0 ⟨k + 1, h⟩) (iblk m c 1 ⟨k + 1, h⟩) (iblk m c 2 ⟨k + 1, h⟩) (iblk m c 3 ⟨k + 1, h⟩) (outsAt0 m c k (Nat.lt_of_succ_lt h)).2.1 (outsAt0 m c k (Nat.lt_of_succ_lt h)).2.2
    rw [ih.1, ih.2, ← keys_step m c k h h0] at e
    refine Eq.trans ?_ e
    rw [keys_step m c k h h0, ← ih.1, ← ih.2]
    rfl

end Cert.KernelIdeal.Body
-- ==== Proof.Whole.lean ====
module

public import proofs.«01_k».proof.Proof.Finite
public import proofs.«01_k».proof.Proof.State
public import proofs.«01_k».proof.Proof.Point
public import Idealize.ShloMosaic.Lib.Claim

@[expose] public section

set_option maxRecDepth 16384

noncomputable section

namespace Cert.KernelIdeal.Body

open Idealize.ShloMosaic Idealize.ShloMosaic.TcCoe Idealize.SL.Sem Cert.KernelIdeal Cert.KernelIdeal.Gen
open Idealize.ShloMosaic.Pipeline (Dat)
open Cert.Soft

variable (m : (ℓ : Loc nD τ sig) → Buf (Elt Ideal) ℓ)

/-- Where the kernel reads its slope. -/
theorem off_head (i : grid0.Coords) : k0_off1 i 0 = (i 1).val := by
  have h : (i 1).val < 8 := (i 1).isLt
  unfold k0_off1
  dsimp only
  simp only [Matrix.cons_val_zero]
  unfold Scalar.indexCast
  rw [BitVec.toNat_ofNat]
  omega

/-- The slope of a grid point's head is the reference's. -/
theorem slope_read (c : Dev nD) (t : Fin cfg0.N) (h : Fin 8) (ht : h.val = t.val / 16 % 8) :
    slopeV (F := Ideal) (grid0.coords t) (iblk m c 0 t) = Cert.ReferenceIdeal.Read.val_main_v37 (F := Ideal) (ix1 h) := by
  unfold slopeV
  blk_simp [iblk, idx t]
  entry_read
  rw [View.ld_apply, View.read_apply]
  refine congrArg (Cert.ReferenceIdeal.Read.val_main_v37 (F := Ideal)) (funext fun a => Fin.ext ?_)
  have e : ((Rect.unit (s := S8) (k0_off1 (grid0.coords t)) S1.size (k0_off1_inb (grid0.coords t))).idx (Shape.Idx.first (numel1_S1 ▸ Nat.one_pos)) 0).val = h.val := by
    rw [Rect.idx_unit_val, off_head, (coords_eq t).2.1, ht]
    rfl
  generalize (Rect.unit (s := S8) (k0_off1 (grid0.coords t)) S1.size (k0_off1_inb (grid0.coords t))).idx (Shape.Idx.first (numel1_S1 ▸ Nat.one_pos)) = j at e ⊢
  fin_cases a
  blk_simp [idx t]
  exact e

/-- The array the kernel leaves is the reference's result. -/
theorem final (c : Dev nD) (hfin : Cert.Pre_finite.fn (F := Ideal) (m ((c : Thread nD τ).loc main_arg0)) = fun _ => 1#1) :
    (dats m 0 c).arrAt 4 cfg0.N = Cert.ReferenceIdeal.Read.val_main_v126 (F := Ideal) (m ((c : Thread nD τ).loc main_arg0)) := by
  obtain ⟨U, hx⟩ := Cert.Ref.reals_of_finite _ hfin
  obtain ⟨w, hw⟩ := Cert.Ref.slopes_real
  refine (dats m 0 c).arrAt_eq_of_covers 4 _ (by decide +kernel) fun t hf y => ?_
  obtain ⟨r, d, rfl⟩ : ∃ (r : Fin 256) (d : Fin 128), y = ix2 r d := ⟨y 0, y 1, by funext a; fin_cases a <;> rfl⟩
  obtain ⟨n, hn⟩ := t
  have hn' : n < 512 := hn
  have := r.isLt
  have := d.isLt
  have hi := (coords_eq ⟨n, hn⟩).2.2
  dsimp only at hi
  have e : ((cfg0.win 4).blk ⟨n, hn⟩).view.emb (ix2 r d) = (ix2 (⟨n / 128 * 4096 + (n % 16 * 256 + r.val), by omega⟩ : Fin 16384) (⟨n / 16 % 8 * 128 + d.val, by omega⟩ : Fin 1024) : S16384x1024.Idx) := by
    funext a
    apply Fin.ext
    blk_simp [idx ⟨n, hn⟩]
    fin_cases a <;> simp <;> omega
  rw [e, Cert.Ref.out_at hx hw ⟨n / 128, by omega⟩ ⟨n / 16 % 8, by omega⟩ ⟨n % 16 * 256 + r.val, by omega⟩ d]
  blk_simp
  rw [after0_4, after_eq]
  refine (outV_apply (grid0.coords ⟨n, hn⟩) (iblk m c 0 ⟨n, hn⟩) (iblk m c 1 ⟨n, hn⟩) (iblk m c 2 ⟨n, hn⟩) (iblk m c 3 ⟨n, hn⟩)
    (Cert.Ref.Qh U (n / 128) (n / 16 % 8) (n % 16 * 256 + r.val)) (Cert.Ref.Kh U (n / 128) (n / 16 % 8)) (Cert.Ref.Vh U (n / 128) (n / 16 % 8)) r (w ⟨n / 16 % 8, by omega⟩) ?_ ?_ ?_ ?_ d).trans ?_
  · exact (slope_read m c ⟨n, hn⟩ ⟨n / 16 % 8, by omega⟩ rfl).trans (hw _)
  · intro d'
    have := d'.isLt
    rw [q_read m c ⟨n, hn⟩ r d' ⟨n / 128 * 4096 + (n % 16 * 256 + r.val), by omega⟩ ⟨1536 + n / 16 % 8 * 128 + d'.val, by omega⟩ (by simp; omega) (by simp; omega)]
    exact hx _ _
  · intro a d'
    have := d'.isLt; have := a.isLt
    rw [k_read m c ⟨n, hn⟩ a d' ⟨n / 128 * 4096 + a.val, by omega⟩ ⟨2560 + n / 16 % 8 * 128 + d'.val, by omega⟩ (by simp) (by simp; omega)]
    exact hx _ _
  · intro a d'
    have := d'.isLt; have := a.isLt
    rw [v_read m c ⟨n, hn⟩ a d' ⟨n / 128 * 4096 + a.val, by omega⟩ ⟨3584 + n / 16 % 8 * 128 + d'.val, by omega⟩ (by simp) (by simp; omega)]
    exact hx _ _
  · rw [hi, show (n % 16 * 256 + r.val) / 256 = n % 16 by omega, show (n % 16 * 256 + r.val) % 256 = r.val by omega]

end Cert.KernelIdeal.Body
-- ==== Proof.Norm.lean ====
module

public import Idealize.ShloMosaic.PureOps.Ideal.Laws
public import Idealize.ShloMosaic.Lib.IdealHost

@[expose] public section

noncomputable section

namespace Cert.Norm

open Idealize.ShloMosaic

/-- An entry of a row divided by the root of its mean square and scaled by the gain. -/
def normed (x g : Fin 2048 → EReal) (k : Fin 2048) : EReal :=
  x k * Ideal.rsqrt (Ideal.div (∑ j, x j * x j) (Ideal.ofBits .f32 0x45000000#32) + Ideal.ofBits .f32 0x358637BD#32) * g k

/-- The rows that agree entry by entry have the same normed entries. -/
theorem normed_congr {x y g h : Fin 2048 → EReal} (hx : ∀ j, x j = y j) (hg : ∀ j, g j = h j) : normed x g = normed y h := by
  rw [funext hx, funext hg]

/-- Three rows laid end to end. -/
def joined (a : Fin 512 → EReal) (b : Fin 1024 → EReal) (c : Fin 512 → EReal) (k : Fin 2048) : EReal :=
  if h : k.val < 512 then a ⟨k.val, h⟩ else if h' : k.val < 1536 then b ⟨k.val - 512, by omega⟩ else c ⟨k.val - 1536, by omega⟩

/-- A sum over the three rows one after another is the sum over the rows laid end to end. -/
theorem sum_joined (x : EReal) (a : Fin 512 → EReal) (b : Fin 1024 → EReal) (c : Fin 512 → EReal) (w : Fin 2048 → EReal) :
    x + ∑ k : Fin 512, a k * w ⟨k.val, by omega⟩ + ∑ k : Fin 1024, b k * w ⟨512 + k.val, by omega⟩ + ∑ k : Fin 512, c k * w ⟨1536 + k.val, by omega⟩
      = x + ∑ k : Fin 2048, joined a b c k * w k := by
  have e := Fin.sum_univ_add (a := 1536) (b := 512) fun k : Fin 2048 => joined a b c k * w k
  have e' := Fin.sum_univ_add (a := 512) (b := 1024) fun k : Fin 1536 => joined a b c (Fin.castAdd 512 k) * w (Fin.castAdd 512 k)
  have h1 : ∀ k : Fin 512, joined a b c (Fin.castAdd 512 (Fin.castAdd 1024 k)) = a k := fun k => by
    unfold joined
    rw [dif_pos (show (Fin.castAdd 512 (Fin.castAdd 1024 k)).val < 512 from k.isLt)]
    rfl
  have h2 : ∀ k : Fin 1024, joined a b c (Fin.castAdd 512 (Fin.natAdd 512 k)) = b k := fun k => by
    unfold joined
    rw [dif_neg (show ¬(Fin.castAdd 512 (Fin.natAdd 512 k)).val < 512 by simp), dif_pos (show (Fin.castAdd 512 (Fin.natAdd 512 k)).val < 1536 by simp; omega)]
    exact congrArg b (Fin.ext (by simp))
  have h3 : ∀ k : Fin 512, joined a b c (Fin.natAdd 1536 k) = c k := fun k => by
    unfold joined
    rw [dif_neg (show ¬(Fin.natAdd 1536 k).val < 512 by simp; omega), dif_neg (show ¬(Fin.natAdd 1536 k).val < 1536 by simp)]
    exact congrArg c (Fin.ext (by simp))
  refine Eq.trans ?_ (congrArg (x + ·) e).symm
  rw [e', add_assoc, add_assoc, add_assoc]
  simp only [h1, h2, h3]
  rfl

end Cert.Norm
-- ==== Proof.InBody.lean ====
module

public import proofs.«01_k».proof.Proof.Gen.InProjIdeal.Frame
public import proofs.«01_k».proof.Proof.Norm
public import Idealize.ShloMosaic.Lib.Pointwise
public import Idealize.ShloMosaic.Lib.IdealHost
public import Idealize.ShloMosaic.PureOps.Ideal.Laws

@[expose] public section

set_option maxRecDepth 16384

noncomputable section

namespace Cert.InProjIdeal.Body

open Idealize.ShloMosaic Idealize.ShloMosaic.TcCoe Idealize.SL.Sem Cert.InProjIdeal Cert.InProjIdeal.Gen Cert.Norm

variable {F : FTy → Type} [FloatOps F]

/-- At a row block's first grid point the kept block receives the normed rows. -/
theorem sout_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x512 .bf16) (harg5 : arg5.IsWhole) (arg6 : Memref sig .tc .vmem S1024x2048 .bf16) (harg6 : arg6.IsWhole) (hc0 : cond0_0 i)
    (x0 : Vec F S1024x2048 .f32) (x1 : Vec F S1x2048 .f32) (x2 : Vec F S2048x512 .bf16) :
    sout0_A_0 c i arg2 harg2 arg3 harg3 arg4 harg4 arg5 harg5 arg6 harg6 hc0 x0 x1 x2 = k0_pay1 x0 x1 := by
  unfold sout0_A_0
  rw [View.read_writes_eq_canon _ _ _ (scover0_A_0 c i arg2 harg2 arg3 harg3 arg4 harg4 arg5 harg5 arg6 harg6 hc0 x0 x1 x2)]
  unfold kernelRun0_A; dsimp only
  sl_unfold_words
  simp only [View.readAt_eq_ld, harg2.read_unread, harg3.read_unread]
  rw [View.canon_unit_zero (by decide), View.ld_unit_zero (by decide), View.ld_unit_zero (by decide)]

/-- What a row block's first grid point leaves in its output block. -/
theorem out_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x512 .bf16) (harg5 : arg5.IsWhole) (arg6 : Memref sig .tc .vmem S1024x2048 .bf16) (harg6 : arg6.IsWhole) (hc0 : cond0_0 i)
    (x0 : Vec F S1024x2048 .f32) (x1 : Vec F S1x2048 .f32) (x2 : Vec F S2048x512 .bf16) :
    out0_A_3 c i arg2 harg2 arg3 harg3 arg4 harg4 arg5 harg5 arg6 harg6 hc0 x0 x1 x2 = k0_pay2 (k0_pay1 x0 x1) x2 := by
  unfold out0_A_3
  rw [View.read_writes_eq_canon _ _ _ (cover0_A_3 c i arg2 harg2 arg3 harg3 arg4 harg4 arg5 harg5 arg6 harg6 hc0 x0 x1 x2)]
  unfold kernelRun0_A; dsimp only
  sl_unfold_words
  simp only [View.readAt_eq_ld, harg2.read_unread, harg3.read_unread, harg4.read_unread]
  rw [View.canon_unit_zero (by decide), View.readCov_unit_zero arg6.view (by decide), View.ld_unit_zero (by decide), View.ld_unit_zero (by decide), View.ld_unit_zero (by decide)]

/-- What a later grid point leaves in its output block, from the kept block. -/
theorem out_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x512 .bf16) (harg5 : arg5.IsWhole) (arg6 : Memref sig .tc .vmem S1024x2048 .bf16) (harg6 : arg6.IsWhole) (hc0 : ¬cond0_0 i)
    (x0 : Vec F S1024x2048 .f32) (x1 : Vec F S1x2048 .f32) (x2 : Vec F S2048x512 .bf16) (xs0 : Vec F S1024x2048 .bf16) :
    out0_B_3 c i arg2 harg2 arg3 harg3 arg4 harg4 arg5 harg5 arg6 harg6 hc0 x0 x1 x2 xs0 = k0_pay2 xs0 x2 := by
  unfold out0_B_3
  rw [View.read_writes_eq_canon _ _ _ (cover0_B_3 c i arg2 harg2 arg3 harg3 arg4 harg4 arg5 harg5 arg6 harg6 hc0 x0 x1 x2 xs0)]
  unfold kernelRun0_B; dsimp only
  sl_unfold_words
  simp only [View.readAt_eq_ld, harg4.read_unread, harg6.read_unread]
  rw [View.canon_unit_zero (by decide), View.ld_unit_zero (by decide), View.ld_unit_zero (by decide)]

/-- The normed rows, entry by entry. -/
theorem pay1_apply (x : Vec Ideal S1024x2048 .f32) (g : Vec Ideal S1x2048 .f32) (r : Fin 1024) (k : Fin 2048) :
    k0_pay1 (F := Ideal) x g (ix2 r k) = normed (fun j => x (ix2 r j)) (fun j => g (ix2 0 j)) k := by
  pointwise [k0_pay1]
  rfl

/-- An output entry is a row of the normed rows against a column of the weights. -/
theorem pay2_apply (h : Vec Ideal S1024x2048 .bf16) (w : Vec Ideal S2048x512 .bf16) (r : Fin 1024) (d : Fin 512) :
    k0_pay2 (F := Ideal) h w (ix2 r d) = ∑ k : Fin 2048, h (ix2 r k) * w (ix2 k d) := by
  pointwise [k0_pay2]

end Cert.InProjIdeal.Body
-- ==== Proof.InRef.lean ====
module

public import proofs.«01_k».proof.Proof.Gen.InProjReferenceIdeal.Read
public import proofs.«01_k».proof.Proof.Norm
public import Idealize.ShloMosaic.Lib.Pointwise

@[expose] public section

set_option maxRecDepth 16384

noncomputable section

namespace Cert.InProjReferenceIdeal.Body

open Idealize.ShloMosaic Idealize.ShloMosaic.TcCoe Idealize.SL.Sem Cert.InProjReferenceIdeal Cert.InProjReferenceIdeal.Gen Cert.InProjReferenceIdeal.Read Cert.Norm

/-- The reference's normed rows, entry by entry. -/
theorem norm_apply (x : Vec Ideal S16384x2048 .f32) (g : Vec Ideal S2048 .f32) (a : Fin 16384) (k : Fin 2048) :
    val_main_v12 (F := Ideal) x g (ix2 a k) = normed (fun j => x (ix2 a j)) (fun j => g (ix1 j)) k := by
  rw [val_main_v12_apply, val_main_v9_apply, val_main_v8_apply, val_main_v7_apply, val_main_v6_apply, val_main_v4_apply, val_main_v2_apply,
    val_main_v1_apply, val_main_v3_apply, val_main_v5_apply, val_main_v11_apply, val_main_v10_apply]
  simp only [val_main_v0_apply, val_main_cst_apply, val_main_cst_0_apply, val_main_cst_1_apply]
  have e : ∀ j : Fin 2048, idx_main_v1 (idx_main_v2 (idx_main_v8 (ix2 a k))) j = ix2 a j := fun j => by
    funext i; fin_cases i <;> rfl
  have e' : idx_main_v10 (idx_main_v11 (ix2 a k)) = ix1 k := by
    funext i; fin_cases i <;> rfl
  simp only [e, e', Ideal.mulf_def, Ideal.addf_def, Ideal.hostDivf_def, Ideal.ofBits_def, Ideal.ofBits_zero_f32, zero_add]
  rfl

/-- The reference's result: a row of the normed rows against a column of the weights. -/
theorem out_apply (x : Vec Ideal S16384x2048 .f32) (g : Vec Ideal S2048 .f32) (w : Vec Ideal S2048x5632 .f32) (a : Fin 16384) (b : Fin 5632) :
    val_main_v14 (F := Ideal) x g w (ix2 a b) = ∑ k : Fin 2048, normed (fun j => x (ix2 a j)) (fun j => g (ix1 j)) k * w (ix2 k b) := by
  rw [val_main_v14_apply, Ideal.truncf_def, val_main_v13_apply]
  refine Finset.sum_congr rfl fun k _ => ?_
  rw [← norm_apply]
  refine congrArg₂ (· * ·) (congrArg _ ?_) (congrArg _ ?_)
  · funext i; fin_cases i <;> rfl
  · funext i; fin_cases i <;> rfl

end Cert.InProjReferenceIdeal.Body
-- ==== Proof.InWhole.lean ====
module

public import proofs.«01_k».proof.Proof.InBody
public import proofs.«01_k».proof.Proof.InRef
public import proofs.«01_k».proof.Proof.Gen.InProjIdeal.Value
public import Idealize.ShloMosaic.Lib.Pipeline.ValueKit
public import Idealize.ShloMosaic.Lib.Claim

@[expose] public section

set_option maxRecDepth 16384

noncomputable section

namespace Cert.InProjIdeal.Body

open Idealize.ShloMosaic Idealize.ShloMosaic.TcCoe Idealize.SL.Sem Cert.InProjIdeal Cert.InProjIdeal.Gen Cert.Norm
open Idealize.ShloMosaic.Pipeline (Dat)

variable (m : (ℓ : Loc nD τ sig) → Buf (Elt Ideal) ℓ)

/-- The blocks each window takes at a grid point. -/
theorem idx : ∀ t : Fin cfg0.N, win0_0.index t = ![t.val / 11, 0] ∧ win0_1.index t = ![0, 0]
    ∧ win0_2.index t = ![0, t.val % 11] ∧ win0_3.index t = ![t.val / 11, t.val % 11] :=
  (by decide +kernel : ∀ t : Fin grid0.N, _)

/-- A grid point's rows, read from the argument. -/
theorem x_read (c : Dev nD) (t : Fin cfg0.N) (r : Fin 1024) (k : Fin 2048) (a : Fin 16384) (ha : a.val = t.val / 11 * 1024 + r.val) :
    (iblk m c 0 t : Vec Ideal S1024x2048 .f32) (ix2 r k) = m ((c : Thread nD τ).loc main_arg0) (ix2 a k) := by
  blk_ext! [iblk, V, idx t]

/-- A grid point's gain, read from the argument. -/
theorem g_read (c : Dev nD) (t : Fin cfg0.N) (k : Fin 2048) :
    (iblk m c 1 t : Vec Ideal S1x2048 .f32) (ix2 0 k) = m ((c : Thread nD τ).loc main_arg1) (ix1 k) := by
  blk_simp [iblk, idx t]
  entry_read
  have e : ((View.whole main_v1).slice (win0_1.rect t)).emb (ix2 0 k) = (ix2 0 k : S1x2048.Idx) := by
    funext a
    apply Fin.ext
    blk_simp [idx t]
    fin_cases a <;> simp
  rw [e]
  exact shapeCast_apply _ _ _ _ (by show (S2048.rowMajor (ix1 k)).val = (S1x2048.rowMajor (ix2 0 k)).val; rw [Shape.rowMajor_val_one, Shape.rowMajor_val_two]; simp)

/-- A grid point's weights, read from the argument. -/
theorem w_read (c : Dev nD) (t : Fin cfg0.N) (k : Fin 2048) (d : Fin 512) (b : Fin 5632) (hb : b.val = t.val % 11 * 512 + d.val) :
    (iblk m c 2 t : Vec Ideal S2048x512 .bf16) (ix2 k d) = m ((c : Thread nD τ).loc main_arg2) (ix2 k b) := by
  blk_simp [iblk, idx t]
  entry_read
  refine congrArg (m (c, Proc.tc.devRef main_arg2)) (funext fun a => Fin.ext ?_)
  blk_simp [idx t]
  fin_cases a <;> simp
  omega

/-- The kept block holds the normed rows of the grid point's row block. -/
theorem kept (c : Dev nD) : ∀ (n : ℕ) (h : n < cfg0.N) (r : Fin 1024) (k : Fin 2048) (a : Fin 16384), a.val = n / 11 * 1024 + r.val →
    (outsAt0 m c n h).2 (ix2 r k) = normed (fun j => m ((c : Thread nD τ).loc main_arg0) (ix2 a j)) (fun j => m ((c : Thread nD τ).loc main_arg1) (ix1 j)) k
  | n, h, r, k, a, ha => by
    by_cases h0 : n % 11 = 0
    · have e := outsAt0_A m c ⟨n, h⟩ h0
      dsimp only at e
      rw [e]
      dsimp only
      rw [sout_A, pay1_apply]
      exact congrFun (normed_congr (fun j => x_read m c ⟨n, h⟩ r j a ha) (fun j => g_read m c ⟨n, h⟩ j)) k
    · have e := outsAt0_B m c ⟨n, h⟩ h0
      dsimp only at e
      rw [e]
      obtain ⟨p, rfl⟩ : ∃ p, n = p + 1 := ⟨n - 1, by omega⟩
      exact kept c p (Nat.lt_of_succ_lt h) r k a (by rw [ha]; congr 2; omega)

/-- What a grid point leaves in its output block. -/
theorem after (c : Dev nD) (n : ℕ) (h : n < cfg0.N) (r : Fin 1024) (d : Fin 512) (a : Fin 16384) (b : Fin 5632)
    (ha : a.val = n / 11 * 1024 + r.val) (hb : b.val = n % 11 * 512 + d.val) :
    (outsAt0 m c n h).1 (ix2 r d) = ∑ k : Fin 2048, normed (fun j => m ((c : Thread nD τ).loc main_arg0) (ix2 a j))
      (fun j => m ((c : Thread nD τ).loc main_arg1) (ix1 j)) k * m ((c : Thread nD τ).loc main_arg2) (ix2 k b) := by
  by_cases h0 : n % 11 = 0
  · have e := outsAt0_A m c ⟨n, h⟩ h0
    dsimp only at e
    rw [e]
    dsimp only
    rw [out_A, pay2_apply]
    refine Finset.sum_congr rfl fun k _ => ?_
    rw [pay1_apply, w_read m c ⟨n, h⟩ k d b hb]
    exact congrArg (· * _) (congrFun (normed_congr (fun j => x_read m c ⟨n, h⟩ r j a ha) (fun j => g_read m c ⟨n, h⟩ j)) k)
  · have e := outsAt0_B m c ⟨n, h⟩ h0
    dsimp only at e
    rw [e]
    dsimp only
    rw [out_B, pay2_apply]
    refine Finset.sum_congr rfl fun k _ => ?_
    obtain ⟨p, rfl⟩ : ∃ p, n = p + 1 := ⟨n - 1, by omega⟩
    rw [w_read m c ⟨p + 1, h⟩ k d b hb]
    exact congrArg (· * _) (kept m c p (Nat.lt_of_succ_lt h) r k a (by rw [ha]; congr 2; omega))

/-- The array the kernel leaves is the reference's result. -/
theorem final (c : Dev nD) : (dats m 0 c).arrAt 3 cfg0.N = Cert.InProjReferenceIdeal.Read.val_main_v14 (F := Ideal)
    (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨r, d, rfl⟩ : ∃ (r : Fin 1024) (d : Fin 512), y = ix2 r d := ⟨y 0, y 1, by funext a; fin_cases a <;> rfl⟩
  obtain ⟨n, hn⟩ := t
  have hn' : n < 176 := hn
  have := r.isLt
  have := d.isLt
  have e : ((cfg0.win 3).blk ⟨n, hn⟩).view.emb (ix2 r d) = (ix2 (⟨n / 11 * 1024 + r.val, by omega⟩ : Fin 16384) (⟨n % 11 * 512 + d.val, by omega⟩ : Fin 5632) : S16384x5632.Idx) := by
    funext a
    apply Fin.ext
    blk_simp [idx ⟨n, hn⟩]
    fin_cases a <;> simp
  rw [e, Cert.InProjReferenceIdeal.Body.out_apply]
  blk_simp
  rw [after0_3]
  exact after m c n hn r d _ _ rfl rfl

end Cert.InProjIdeal.Body
-- ==== Proof.OutBody.lean ====
module

public import proofs.«01_k».proof.Proof.Gen.OutProjIdeal.Frame
public import proofs.«01_k».proof.Proof.Norm
public import Idealize.ShloMosaic.Lib.Pointwise
public import Idealize.ShloMosaic.Lib.IdealHost
public import Idealize.ShloMosaic.PureOps.Ideal.Laws

@[expose] public section

set_option maxRecDepth 16384

noncomputable section

namespace Cert.OutProjIdeal.Body

open Idealize.ShloMosaic Idealize.ShloMosaic.TcCoe Idealize.SL.Sem Cert.OutProjIdeal Cert.OutProjIdeal.Gen Cert.Norm

variable (x0 : Vec Ideal S256x2048 .f32) (x1 : Vec Ideal S256x512 .bf16) (x2 : Vec Ideal S256x1024 .bf16) (x3 : Vec Ideal S256x512 .bf16)
  (x4 : Vec Ideal S2048x2048 .bf16) (x5 : Vec Ideal S1x2048 .f32) (x6 : Vec Ideal S2048x128 .bf16) (x7 : Vec Ideal S1x128 .f32)

/-- A row of the new residual stream. -/
def row (r : Fin 256) (d : Fin 2048) : EReal :=
  x0 (ix2 r d) + ∑ k : Fin 2048, joined (fun k => x1 (ix2 r k)) (fun k => x2 (ix2 r k)) (fun k => x3 (ix2 r k)) k * x4 (ix2 k d)

/-- The first stored block, entry by entry. -/
theorem pay2_apply (r : Fin 256) (d : Fin 2048) :
    k0_pay2 (F := Ideal) (View.ld x0 r0_0) (View.ld x1 r0_1) (View.ld x4 r0_2) (View.ld x2 r0_3) (View.ld x4 r0_4) (View.ld x3 r0_1) (View.ld x4 r0_5) (ix2 r d)
      = row x0 x1 x2 x3 x4 r d := by
  unfold row
  rw [← sum_joined, View.ld_unit_zero (by decide), View.ld_unit_zero (by decide), View.ld_unit_zero (by decide), View.ld_unit_zero (by decide)]
  pointwise [k0_pay2]

/-- The second stored block, entry by entry. -/
theorem pay4_apply (r : Fin 256) (d : Fin 2048) :
    k0_pay4 (F := Ideal) x0 x1 x2 x3 x4 x5 x6 x7 (ix2 r d) = normed (row x0 x1 x2 x3 x4 r) (fun j => x5 (ix2 0 j)) d := by
  unfold k0_pay4 k0_pay3
  have e := pay2_apply x0 x1 x2 x3 x4 r
  generalize k0_pay2 (F := Ideal) (View.ld x0 r0_0) (View.ld x1 r0_1) (View.ld x4 r0_2) (View.ld x2 r0_3) (View.ld x4 r0_4) (View.ld x3 r0_1) (View.ld x4 r0_5) = y at e ⊢
  rw [View.ld_unit_zero (by decide)]
  pointwise []
  simp only [e]
  rfl

/-- The third stored block, entry by entry. -/
theorem pay1_apply (r : Fin 256) (d : Fin 128) :
    k0_pay1 (F := Ideal) (k0_pay4 x0 x1 x2 x3 x4 x5 x6 x7) (View.ld x6 r0_7) (View.ld x7 r0_8) (ix2 r d)
      = ∑ k : Fin 2048, normed (row x0 x1 x2 x3 x4 r) (fun j => x5 (ix2 0 j)) k * x6 (ix2 k d) + x7 (ix2 0 d) := by
  simp only [← pay4_apply x0 x1 x2 x3 x4 x5 x6 x7 r]
  generalize k0_pay4 x0 x1 x2 x3 x4 x5 x6 x7 = y
  rw [View.ld_unit_zero (by decide), View.ld_unit_zero (by decide)]
  pointwise [k0_pay1]

theorem out8_apply (r : Fin 256) (d : Fin 2048) : out0_8 (F := Ideal) x0 x1 x2 x3 x4 x5 x6 x7 (ix2 r d) = row x0 x1 x2 x3 x4 r d := by
  unfold out0_8
  rw [View.canon_unit_zero (by decide)]
  exact pay2_apply x0 x1 x2 x3 x4 r d

theorem out9_apply (r : Fin 256) (d : Fin 2048) :
    out0_9 (F := Ideal) x0 x1 x2 x3 x4 x5 x6 x7 (ix2 r d) = normed (row x0 x1 x2 x3 x4 r) (fun j => x5 (ix2 0 j)) d := by
  unfold out0_9
  rw [View.canon_unit_zero (by decide)]
  exact pay4_apply x0 x1 x2 x3 x4 x5 x6 x7 r d

theorem out10_apply (r : Fin 256) (d : Fin 128) : out0_10 (F := Ideal) x0 x1 x2 x3 x4 x5 x6 x7 (ix2 r d)
    = ∑ k : Fin 2048, normed (row x0 x1 x2 x3 x4 r) (fun j => x5 (ix2 0 j)) k * x6 (ix2 k d) + x7 (ix2 0 d) := by
  unfold out0_10
  rw [View.canon_unit_zero (by decide)]
  exact pay1_apply x0 x1 x2 x3 x4 x5 x6 x7 r d

end Cert.OutProjIdeal.Body
-- ==== Proof.OutRef.lean ====
module

public import proofs.«01_k».proof.Proof.Gen.OutProjReferenceIdeal.Read
public import proofs.«01_k».proof.Proof.Norm
public import Idealize.ShloMosaic.Lib.Pointwise

@[expose] public section

set_option maxRecDepth 16384

noncomputable section

namespace Cert.OutProjReferenceIdeal.Body

open Idealize.ShloMosaic Idealize.ShloMosaic.TcCoe Idealize.SL.Sem Cert.OutProjReferenceIdeal Cert.OutProjReferenceIdeal.Gen Cert.OutProjReferenceIdeal.Read Cert.Norm

variable (x0 : Vec Ideal S16384x2048 .f32) (x1 : Vec Ideal S16384x512 .bf16) (x2 : Vec Ideal S16384x1024 .bf16) (x3 : Vec Ideal S16384x512 .bf16)
  (x4 : Vec Ideal S2048x2048 .f32) (x5 : Vec Ideal S2048 .f32) (x6 : Vec Ideal S2048x4 .f32) (x7 : Vec Ideal S2048x32 .f32) (x8 : Vec Ideal S4 .f32)
  (x9 : Vec Ideal S32 .f32)

/-- A row of the new residual stream. -/
def row (a : Fin 16384) (d : Fin 2048) : EReal :=
  x0 (ix2 a d) + ∑ k : Fin 2048, joined (fun k => x1 (ix2 a k)) (fun k => x2 (ix2 a k)) (fun k => x3 (ix2 a k)) k * x4 (ix2 k d)

/-- The three mixers' results, joined. -/
theorem mixed_apply (a : Fin 16384) (k : Fin 2048) : val_main_v0 (F := Ideal) x1 x2 x3 (ix2 a k)
    = joined (fun k => x1 (ix2 a k)) (fun k => x2 (ix2 a k)) (fun k => x3 (ix2 a k)) k := by
  unfold joined
  pointwise [val_main_v0]
  by_cases h : k.val < 512
  · rw [dif_pos h, dif_pos h]
  · by_cases h' : k.val < 1536
    · rw [dif_neg h, dif_neg h, dif_pos (by omega), dif_pos h']
    · rw [dif_neg h, dif_neg h, dif_neg (by omega), dif_neg h']
      exact congrArg x3 (congrArg (ix2 a) (Fin.ext (by simp; omega)))

/-- The first result, entry by entry. -/
theorem out0_apply (a : Fin 16384) (d : Fin 2048) : val_main_v3 (F := Ideal) x0 x1 x2 x3 x4 (ix2 a d) = row x0 x1 x2 x3 x4 a d := by
  rw [val_main_v3_apply, val_main_v2_apply]
  refine congrArg (x0 (ix2 a d) + ·) (Finset.sum_congr rfl fun k _ => ?_)
  rw [← mixed_apply, val_main_v1_apply]
  refine congrArg₂ (· * ·) (congrArg (val_main_v0 (F := Ideal) x1 x2 x3) ?_) (congrArg x4 ?_)
  · funext i; fin_cases i <;> rfl
  · funext i; fin_cases i <;> rfl

/-- The second result, entry by entry. -/
theorem out1_apply (a : Fin 16384) (k : Fin 2048) : val_main_v16 (F := Ideal) x0 x1 x2 x3 x4 x5 (ix2 a k)
    = normed (row x0 x1 x2 x3 x4 a) (fun j => x5 (ix1 j)) k := by
  rw [val_main_v16_apply, val_main_v13_apply, val_main_v12_apply, val_main_v11_apply, val_main_v10_apply, val_main_v8_apply, val_main_v6_apply,
    val_main_v5_apply, val_main_v7_apply, val_main_v9_apply, val_main_v15_apply, val_main_v14_apply]
  simp only [val_main_v4_apply, val_main_cst_apply, val_main_cst_0_apply, val_main_cst_1_apply]
  have e : ∀ j : Fin 2048, idx_main_v5 (idx_main_v6 (idx_main_v12 (ix2 a k))) j = ix2 a j := fun j => by
    funext i; fin_cases i <;> rfl
  have e' : idx_main_v14 (idx_main_v15 (ix2 a k)) = ix1 k := by
    funext i; fin_cases i <;> rfl
  simp only [e, e', out0_apply, Ideal.mulf_def, Ideal.addf_def, Ideal.hostDivf_def, Ideal.ofBits_def, Ideal.ofBits_zero_f32, zero_add]
  rfl

/-- The router's logits on the groups' columns. -/
theorem groups_apply (a : Fin 16384) (d : Fin 4) : val_main_v21 (F := Ideal) x0 x1 x2 x3 x4 x5 x6 x8 (ix2 a d)
    = ∑ k : Fin 2048, normed (row x0 x1 x2 x3 x4 a) (fun j => x5 (ix1 j)) k * x6 (ix2 k d) + x8 (ix1 d) := by
  rw [val_main_v21_apply, val_main_v18_apply, val_main_v20_apply, val_main_v19_apply]
  refine congrArg₂ (· + ·) (Finset.sum_congr rfl fun k _ => ?_) (congrArg x8 ?_)
  · rw [← out1_apply]
    refine congrArg₂ (· * ·) (congrArg (val_main_v16 (F := Ideal) x0 x1 x2 x3 x4 x5) ?_) (congrArg x6 ?_)
    · funext i; fin_cases i <;> rfl
    · funext i; fin_cases i <;> rfl
  · funext i; fin_cases i <;> rfl

/-- The router's logits on the experts' columns. -/
theorem experts_apply (a : Fin 16384) (d : Fin 32) : val_main_v25 (F := Ideal) x0 x1 x2 x3 x4 x5 x7 x9 (ix2 a d)
    = ∑ k : Fin 2048, normed (row x0 x1 x2 x3 x4 a) (fun j => x5 (ix1 j)) k * x7 (ix2 k d) + x9 (ix1 d) := by
  rw [val_main_v25_apply, val_main_v22_apply, val_main_v24_apply, val_main_v23_apply]
  refine congrArg₂ (· + ·) (Finset.sum_congr rfl fun k _ => ?_) (congrArg x9 ?_)
  · rw [← out1_apply]
    refine congrArg₂ (· * ·) (congrArg (val_main_v16 (F := Ideal) x0 x1 x2 x3 x4 x5) ?_) (congrArg x7 ?_)
    · funext i; fin_cases i <;> rfl
    · funext i; fin_cases i <;> rfl
  · funext i; fin_cases i <;> rfl

/-- The third result, entry by entry: the two routers' logits and zeros. -/
theorem out2_apply (a : Fin 16384) (d : Fin 128) : val_main_v26 (F := Ideal) x0 x1 x2 x3 x4 x5 x6 x7 x8 x9 (ix2 a d)
    = if h : d.val < 4 then ∑ k : Fin 2048, normed (row x0 x1 x2 x3 x4 a) (fun j => x5 (ix1 j)) k * x6 (ix2 k ⟨d.val, h⟩) + x8 (ix1 ⟨d.val, h⟩)
      else if h' : d.val < 36 then ∑ k : Fin 2048, normed (row x0 x1 x2 x3 x4 a) (fun j => x5 (ix1 j)) k * x7 (ix2 k ⟨d.val - 4, by omega⟩) + x9 (ix1 ⟨d.val - 4, by omega⟩)
      else 0 := by
  unfold val_main_v26
  have g := groups_apply x0 x1 x2 x3 x4 x5 x6 x8 a
  have f := experts_apply x0 x1 x2 x3 x4 x5 x7 x9 a
  have e : ∀ b : Fin 92, val_main_v17 (F := Ideal) (ix2 a b) = 0 := fun b => by
    rw [val_main_v17_apply, val_main_cst_2_apply]
    simp only [Ideal.ofBits_def, Ideal.ofBits_zero_f32]
  generalize val_main_v21 (F := Ideal) x0 x1 x2 x3 x4 x5 x6 x8 = u at g ⊢
  generalize val_main_v25 (F := Ideal) x0 x1 x2 x3 x4 x5 x7 x9 = v at f ⊢
  generalize val_main_v17 (F := Ideal) = z at e ⊢
  pointwise []
  by_cases h : d.val < 4
  · rw [dif_pos h, dif_pos h]
    exact g _
  · by_cases h' : d.val < 36
    · rw [dif_neg h, dif_neg h, dif_pos (by omega), dif_pos h']
      exact f _
    · rw [dif_neg h, dif_neg h, dif_neg (by omega), dif_neg h']
      exact e _

end Cert.OutProjReferenceIdeal.Body
-- ==== Proof.OutWhole.lean ====
module

public import proofs.«01_k».proof.Proof.OutBody
public import proofs.«01_k».proof.Proof.OutRef
public import proofs.«01_k».proof.Proof.Gen.OutProjIdeal.Value
public import Idealize.ShloMosaic.Lib.Pipeline.ValueKit
public import Idealize.ShloMosaic.Lib.Claim
public import Idealize.ShloMosaic.Lib.StableHlo.RunRead

@[expose] public section

set_option maxRecDepth 16384

noncomputable section

namespace Cert.OutProjIdeal.Body

open Idealize.ShloMosaic Idealize.ShloMosaic.TcCoe Idealize.SL.Sem Cert.OutProjIdeal Cert.OutProjIdeal.Gen Cert.Norm
open Idealize.ShloMosaic.Pipeline (Dat)

variable (m : (ℓ : Loc nD τ sig) → Buf (Elt Ideal) ℓ)

/-- The blocks each window takes at a grid point. -/
theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] :=
  (by decide +kernel : ∀ t : Fin grid0.N, _)

section

variable (c : Dev nD) (t : Fin cfg0.N)

/-- A grid point's rows of the residual stream. -/
theorem x_read (r : Fin 256) (k : Fin 2048) (a : Fin 16384) (ha : a.val = t.val * 256 + r.val) :
    (iblk m c 0 t : Vec Ideal S256x2048 .f32) (ix2 r k) = m ((c : Thread nD τ).loc main_arg0) (ix2 a k) := by
  blk_ext! [iblk, V, idx t]

/-- A grid point's rows of the first mixer's result. -/
theorem y1_read (r : Fin 256) (k : Fin 512) (a : Fin 16384) (ha : a.val = t.val * 256 + r.val) :
    (iblk m c 1 t : Vec Ideal S256x512 .bf16) (ix2 r k) = m ((c : Thread nD τ).loc main_arg1) (ix2 a k) := by
  blk_ext! [iblk, V, idx t]

/-- A grid point's rows of the second mixer's result. -/
theorem y2_read (r : Fin 256) (k : Fin 1024) (a : Fin 16384) (ha : a.val = t.val * 256 + r.val) :
    (iblk m c 2 t : Vec Ideal S256x1024 .bf16) (ix2 r k) = m ((c : Thread nD τ).loc main_arg2) (ix2 a k) := by
  blk_ext! [iblk, V, idx t]

/-- A grid point's rows of the third mixer's result. -/
theorem y3_read (r : Fin 256) (k : Fin 512) (a : Fin 16384) (ha : a.val = t.val * 256 + r.val) :
    (iblk m c 3 t : Vec Ideal S256x512 .bf16) (ix2 r k) = m ((c : Thread nD τ).loc main_arg3) (ix2 a k) := by
  blk_ext! [iblk, V, idx t]

/-- The projection's weights. -/
theorem w_read (k d : Fin 2048) : (iblk m c 4 t : Vec Ideal S2048x2048 .bf16) (ix2 k d) = m ((c : Thread nD τ).loc main_arg4) (ix2 k d) := by
  blk_simp [iblk, idx t]
  entry_read
  refine congrArg (m (c, Proc.tc.devRef main_arg4)) (funext fun a => Fin.ext ?_)
  blk_simp [idx t]
  fin_cases a <;> simp

/-- The norm's gain. -/
theorem g_read (k : Fin 2048) : (iblk m c 5 t : Vec Ideal S1x2048 .f32) (ix2 0 k) = m ((c : Thread nD τ).loc main_arg5) (ix1 k) := by
  blk_simp [iblk, idx t]
  entry_read
  have e : ((View.whole main_v7).slice (win0_5.rect t)).emb (ix2 0 k) = (ix2 0 k : S1x2048.Idx) := by
    funext a
    apply Fin.ext
    blk_simp [idx t]
    fin_cases a <;> simp
  rw [e]
  exact shapeCast_apply _ _ _ _ (by show (S2048.rowMajor (ix1 k)).val = (S1x2048.rowMajor (ix2 0 k)).val; rw [Shape.rowMajor_val_one, Shape.rowMajor_val_two]; simp)

/-- The routers' weights as the kernel is given them. -/
theorem router_entry : (V m c main_v2 : FVec Ideal S2048x128 .bf16) = truncf (F := Ideal) .bf16 (pad S2048x128 ![0, 0] ![0, 92] ![0, 0]
    (concatenate S2048x36 1 [⟨S2048x4, (m ((c : Thread nD τ).loc main_arg6) : FVec Ideal S2048x4 .f32)⟩, ⟨S2048x32, (m ((c : Thread nD τ).loc main_arg7) : FVec Ideal S2048x32 .f32)⟩] concatenates_S2048x4_S2048x32_S2048x36_d1)
    (sitofp (F := Ideal) .f32 (constantI S_ 32 0#32)) pads_S2048x36_S2048x128_000_0920 h_S_ : FVec Ideal S2048x128 .f32) bitsLt_bf16_f32 := by
  unfold_abbrev_sides
  after_reads_simp
  rfl

/-- The routers' biases as the kernel is given them. -/
theorem bias_entry : (V m c main_v5 : FVec Ideal S1x128 .f32) = shapeCast S1x128 (pad S128 ![0] ![92] ![0]
    (concatenate S36 0 [⟨S4, (m ((c : Thread nD τ).loc main_arg8) : FVec Ideal S4 .f32)⟩, ⟨S32, (m ((c : Thread nD τ).loc main_arg9) : FVec Ideal S32 .f32)⟩] concatenates_S4_S32_S36_d0)
    (sitofp (F := Ideal) .f32 (constantI S_ 32 0#32)) pads_S36_S128_0920 h_S_ : FVec Ideal S128 .f32) shapeCasts_S128_S1x128 := by
  unfold_abbrev_sides
  after_reads_simp
  rfl

/-- The routers' weights side by side, and zeros. -/
theorem router_read (k : Fin 2048) (d : Fin 128) : (iblk m c 6 t : Vec Ideal S2048x128 .bf16) (ix2 k d)
    = if h : d.val < 4 then m ((c : Thread nD τ).loc main_arg6) (ix2 k ⟨d.val, h⟩)
      else if h' : d.val < 36 then m ((c : Thread nD τ).loc main_arg7) (ix2 k ⟨d.val - 4, by omega⟩) else (0 : EReal) := by
  blk_simp [iblk, idx t]
  have e : ((View.whole main_v2).slice (win0_6.rect t)).emb (ix2 k d) = (ix2 k d : S2048x128.Idx) := by
    funext a
    apply Fin.ext
    blk_simp [idx t]
    fin_cases a <;> simp
  rw [e]
  refine (congrFun (router_entry m c) (ix2 k d)).trans ?_
  pointwise []
  by_cases h : d.val < 4
  · rw [dif_pos (show d.val < 36 by omega), dif_pos h, dif_pos h]
  · by_cases h' : d.val < 36
    · rw [dif_pos h', dif_neg h, dif_neg h, dif_pos h']
    · rw [dif_neg h', dif_neg h, dif_neg h']
      exact (congrArg (fun n : ℤ => ((n : ℝ) : EReal)) (show (0#32).toInt = 0 by decide)).trans (by simp)

/-- The routers' biases side by side, and zeros. -/
theorem bias_read (d : Fin 128) : (iblk m c 7 t : Vec Ideal S1x128 .f32) (ix2 0 d)
    = if h : d.val < 4 then m ((c : Thread nD τ).loc main_arg8) (ix1 ⟨d.val, h⟩)
      else if h' : d.val < 36 then m ((c : Thread nD τ).loc main_arg9) (ix1 ⟨d.val - 4, by omega⟩) else (0 : EReal) := by
  blk_simp [iblk, idx t]
  have e : ((View.whole main_v5).slice (win0_7.rect t)).emb (ix2 0 d) = (ix2 0 d : S1x128.Idx) := by
    funext a
    apply Fin.ext
    blk_simp [idx t]
    fin_cases a <;> simp
  rw [e]
  refine (congrFun (bias_entry m c) (ix2 0 d)).trans ?_
  refine (shapeCast_apply _ _ _ (ix1 d) (by show (S128.rowMajor (ix1 d)).val = (S1x128.rowMajor (ix2 0 d)).val; rw [Shape.rowMajor_val_one, Shape.rowMajor_val_two]; simp)).trans ?_
  pointwise []
  by_cases h : d.val < 4
  · rw [dif_pos (show d.val < 36 by omega), dif_pos h, dif_pos h]
  · by_cases h' : d.val < 36
    · rw [dif_pos h', dif_neg h, dif_neg h, dif_pos h']
    · rw [dif_neg h', dif_neg h, dif_neg h']
      exact (congrArg (fun n : ℤ => ((n : ℝ) : EReal)) (show (0#32).toInt = 0 by decide)).trans (by simp)

/-- A grid point's row of the new residual stream is the reference's. -/
theorem row_eq (r : Fin 256) (a : Fin 16384) (ha : a.val = t.val * 256 + r.val) :
    row (iblk m c 0 t) (iblk m c 1 t) (iblk m c 2 t) (iblk m c 3 t) (iblk m c 4 t) r
      = Cert.OutProjReferenceIdeal.Body.row (m ((c : Thread nD τ).loc main_arg0)) (m ((c : Thread nD τ).loc main_arg1)) (m ((c : Thread nD τ).loc main_arg2))
          (m ((c : Thread nD τ).loc main_arg3)) (m ((c : Thread nD τ).loc main_arg4)) a := by
  funext d
  unfold row Cert.OutProjReferenceIdeal.Body.row
  simp only [x_read m c t r _ a ha, y1_read m c t r _ a ha, y2_read m c t r _ a ha, y3_read m c t r _ a ha, w_read]

/-- A grid point's row of normed entries is the reference's. -/
theorem normed_eq (r : Fin 256) (a : Fin 16384) (ha : a.val = t.val * 256 + r.val) :
    normed (row (iblk m c 0 t) (iblk m c 1 t) (iblk m c 2 t) (iblk m c 3 t) (iblk m c 4 t) r) (fun j => (iblk m c 5 t : Vec Ideal S1x2048 .f32) (ix2 0 j))
      = normed (Cert.OutProjReferenceIdeal.Body.row (m ((c : Thread nD τ).loc main_arg0)) (m ((c : Thread nD τ).loc main_arg1)) (m ((c : Thread nD τ).loc main_arg2))
          (m ((c : Thread nD τ).loc main_arg3)) (m ((c : Thread nD τ).loc main_arg4)) a) (fun j => m ((c : Thread nD τ).loc main_arg5) (ix1 j)) :=
  normed_congr (fun j => congrFun (row_eq m c t r a ha) j) (fun j => g_read m c t j)

end

/-- The first array the kernel leaves is the reference's first result. -/
theorem final8 (c : Dev nD) : (dats m 0 c).arrAt 8 cfg0.N = Cert.OutProjReferenceIdeal.Read.val_main_v3 (F := Ideal)
    (m ((c : Thread nD τ).loc main_arg0)) (m ((c : Thread nD τ).loc main_arg1)) (m ((c : Thread nD τ).loc main_arg2)) (m ((c : Thread nD τ).loc main_arg3))
    (m ((c : Thread nD τ).loc main_arg4)) := by
  refine (dats m 0 c).arrAt_eq_of_covers 8 _ (by decide +kernel) fun t hf y => ?_
  obtain ⟨r, d, rfl⟩ : ∃ (r : Fin 256) (d : Fin 2048), y = ix2 r d := ⟨y 0, y 1, by funext a; fin_cases a <;> rfl⟩
  have ht : t.val < 64 := t.isLt
  have := r.isLt
  have e : ((cfg0.win 8).blk t).view.emb (ix2 r d) = (ix2 (⟨t.val * 256 + r.val, by omega⟩ : Fin 16384) d : S16384x2048.Idx) := by
    funext a
    apply Fin.ext
    blk_simp [idx t]
    fin_cases a <;> simp
  rw [e, Cert.OutProjReferenceIdeal.Body.out0_apply]
  blk_simp
  rw [after0_8, out8_apply, row_eq m c t r ⟨t.val * 256 + r.val, by omega⟩ rfl]

/-- The second array the kernel leaves is the reference's second result. -/
theorem final9 (c : Dev nD) : (dats m 0 c).arrAt 9 cfg0.N = Cert.OutProjReferenceIdeal.Read.val_main_v16 (F := Ideal)
    (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) := by
  refine (dats m 0 c).arrAt_eq_of_covers 9 _ (by decide +kernel) fun t hf y => ?_
  obtain ⟨r, d, rfl⟩ : ∃ (r : Fin 256) (d : Fin 2048), y = ix2 r d := ⟨y 0, y 1, by funext a; fin_cases a <;> rfl⟩
  have ht : t.val < 64 := t.isLt
  have := r.isLt
  have e : ((cfg0.win 9).blk t).view.emb (ix2 r d) = (ix2 (⟨t.val * 256 + r.val, by omega⟩ : Fin 16384) d : S16384x2048.Idx) := by
    funext a
    apply Fin.ext
    blk_simp [idx t]
    fin_cases a <;> simp
  rw [e, Cert.OutProjReferenceIdeal.Body.out1_apply]
  blk_simp
  rw [after0_9, out9_apply, normed_eq m c t r ⟨t.val * 256 + r.val, by omega⟩ rfl]

/-- The third array the kernel leaves is the reference's third result. -/
theorem final10 (c : Dev nD) : (dats m 0 c).arrAt 10 cfg0.N = Cert.OutProjReferenceIdeal.Read.val_main_v26 (F := Ideal)
    (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) := by
  refine (dats m 0 c).arrAt_eq_of_covers 10 _ (by decide +kernel) fun t hf y => ?_
  obtain ⟨r, d, rfl⟩ : ∃ (r : Fin 256) (d : Fin 128), y = ix2 r d := ⟨y 0, y 1, by funext a; fin_cases a <;> rfl⟩
  have ht : t.val < 64 := t.isLt
  have := r.isLt
  have e : ((cfg0.win 10).blk t).view.emb (ix2 r d) = (ix2 (⟨t.val * 256 + r.val, by omega⟩ : Fin 16384) d : S16384x128.Idx) := by
    funext a
    apply Fin.ext
    blk_simp [idx t]
    fin_cases a <;> simp
  rw [e, Cert.OutProjReferenceIdeal.Body.out2_apply]
  blk_simp
  rw [after0_10, out10_apply, normed_eq m c t r ⟨t.val * 256 + r.val, by omega⟩ rfl]
  simp only [router_read, bias_read]
  by_cases h : d.val < 4
  · simp only [dif_pos h]
  · by_cases h' : d.val < 36
    · simp only [dif_neg h, dif_pos h']
    · simp only [dif_neg h, dif_neg h', mul_zero, Finset.sum_const_zero, add_zero]

end Cert.OutProjIdeal.Body
-- ==== Proof.Mix.lean ====
module

public import Idealize.ShloMosaic.PureOps.Ideal.Laws
public import Idealize.ShloMosaic.Lib.IdealHost
public import Idealize.ShloMosaic.Lib.Pointwise

@[expose] public section

noncomputable section

namespace Cert.Mix

open Idealize.ShloMosaic

/-- Terms added one after another to a start. -/
def run (z : EReal) (t : ℕ → EReal) : ℕ → EReal
  | 0 => z
  | k + 1 => run z t k + t k

/-- A bias added to the start may be added at the end. -/
theorem run_bias (z b : EReal) (t : ℕ → EReal) : ∀ k, run (z + b) t k = run z t k + b
  | 0 => rfl
  | k + 1 => by rw [run, run, run_bias z b t k, add_right_comm]

/-- Sums whose terms agree are equal. -/
theorem run_congr (z : EReal) (t u : ℕ → EReal) : ∀ k, (∀ j, j < k → t j = u j) → run z t k = run z u k
  | 0, _ => rfl
  | k + 1, h => by rw [run, run, run_congr z t u k fun j hj => h j (by omega), h k (by omega)]

/-- A sequence with zeros put before it. -/
def held (h : ℕ) (f : ℕ → EReal) (q : ℕ) : EReal := if q < h then 0 else f (q - h)

/-- A sequence with more zeros before it is the same sequence later. -/
theorem held_shift (h k : ℕ) (f : ℕ → EReal) (q : ℕ) : held (h + k) f (q + k) = held h f q := by
  unfold held
  by_cases hq : q < h
  · rw [if_pos (by omega), if_pos hq]
  · rw [if_neg (by omega), if_neg hq, Nat.add_sub_add_right]

/-- An entry of an array, zero outside it. -/
def at2 {N K : ℕ} (X : (⟨2, ![N, K]⟩ : Shape).Idx → EReal) (p d : ℕ) : EReal :=
  if h : p < N ∧ d < K then X (ix2 ⟨p, h.1⟩ ⟨d, h.2⟩) else 0

theorem at2_val {N K : ℕ} (X : (⟨2, ![N, K]⟩ : Shape).Idx → EReal) (p : Fin N) (d : Fin K) : at2 X p.val d.val = X (ix2 p d) := by
  unfold at2
  rw [dif_pos ⟨p.isLt, d.isLt⟩]

theorem at2_of {N K : ℕ} (X : (⟨2, ![N, K]⟩ : Shape).Idx → EReal) (p d : ℕ) (hp : p < N) (hd : d < K) : at2 X p d = X (ix2 ⟨p, hp⟩ ⟨d, hd⟩) := by
  unfold at2
  rw [dif_pos ⟨hp, hd⟩]

/-- An entry of a row after its layer norm and its swish. -/
def swished (a g b : Fin 512 → EReal) (d : Fin 512) : EReal :=
  let n : EReal := Ideal.ofBits .f32 0x44000000#32
  let m : EReal := Ideal.div (∑ e, a e) n
  let v : EReal := Ideal.div (∑ e, (a e - m) * (a e - m)) n
  let h : EReal := (a d - m) * Ideal.rsqrt (v + Ideal.ofBits .f32 0x358637BD#32) * g d + b d
  h * Ideal.logistic h

theorem swished_congr {a a' g g' b b' : Fin 512 → EReal} (ha : ∀ e, a e = a' e) (hg : ∀ e, g e = g' e) (hb : ∀ e, b e = b' e) : swished a g b = swished a' g' b' := by
  rw [funext ha, funext hg, funext hb]

/-- What the short convolution convolves, at one channel of one sequence. -/
def gated (u : (⟨2, ![16384, 5632]⟩ : Shape).Idx → EReal) (b d s : ℕ) : EReal :=
  at2 u (b * 4096 + s) (512 + d) * at2 u (b * 4096 + s) (1024 + d)

/-- What the long convolution convolves, at one channel of one sequence. -/
def glu (u : (⟨2, ![16384, 5632]⟩ : Shape).Idx → EReal) (b d s : ℕ) : EReal :=
  at2 u (b * 4096 + s) (4608 + d) * Ideal.logistic (at2 u (b * 4096 + s) (5120 + d))

/-- The short convolution. -/
def short (u : (⟨2, ![16384, 5632]⟩ : Shape).Idx → EReal) (w : (⟨2, ![3, 512]⟩ : Shape).Idx → EReal) (b s d : ℕ) : EReal :=
  run 0 (fun j => at2 w j d * held 2 (gated u b d) (s + j)) 3

/-- The long convolution, before its bias. -/
def long (u : (⟨2, ![16384, 5632]⟩ : Shape).Idx → EReal) (w : (⟨2, ![31, 512]⟩ : Shape).Idx → EReal) (b s d : ℕ) : EReal :=
  run 0 (fun j => at2 w j d * held 30 (glu u b d) (s + j)) 31

end Cert.Mix
-- ==== Proof.MixBody.lean ====
module

public import proofs.«01_k».proof.Proof.Gen.MixersIdeal.Frame
public import proofs.«01_k».proof.Proof.Mix
public import Idealize.ShloMosaic.Lib.Pointwise
public import Idealize.ShloMosaic.Lib.IdealHost
public import Idealize.ShloMosaic.PureOps.Ideal.Laws

@[expose] public section

set_option maxRecDepth 16384

noncomputable section

namespace Cert.MixersIdeal.Body

open Idealize.ShloMosaic Idealize.ShloMosaic.TcCoe Idealize.SL.Sem Cert.MixersIdeal Cert.MixersIdeal.Gen Cert.Mix

variable {F : FTy → Type} [FloatOps F]

/-- A block of new rows under the rows kept from before. -/
def buf {N K : ℕ} (hN : N = K + 256) (w : (⟨2, ![256, 512]⟩ : Shape).Idx → Elt F .f32) (h : (⟨2, ![K, 512]⟩ : Shape).Idx → Elt F .f32) : (⟨2, ![N, 512]⟩ : Shape).Idx → Elt F .f32 :=
  fun j => if hj : (j 0).val < K then h (ix2 ⟨(j 0).val, hj⟩ (j 1)) else w (ix2 ⟨(j 0).val - K, by have := (j 0).isLt; change (j 0).val < N at this; omega⟩ (j 1))

/-- The two writes leave the block of new rows under the kept rows. -/
theorem canon_buf {N K : ℕ} (hN : N = K + 256) (w : (⟨2, ![256, 512]⟩ : Shape).Idx → Elt F .f32) (h : (⟨2, ![K, 512]⟩ : Shape).Idx → Elt F .f32) (h1 h2) :
    View.canon (Val := Elt F) (s := (⟨2, ![N, 512]⟩ : Shape)) (e := .f32) [⟨Rect.unit ![K, 0] ![256, 512] h1, w⟩, ⟨Rect.unit ![0, 0] ![K, 512] h2, h⟩] = buf hN w h := by
  funext j
  have hjN : (j 0).val < N := (j 0).isLt
  unfold buf
  split
  · next hj =>
    rw [View.canon_cons_of_not_mem]
    · have e := View.canon_cons_emb (Val := Elt F) (e := .f32) (Rect.unit (s := (⟨2, ![N, 512]⟩ : Shape)) ![0, 0] ![K, 512] h2) h [] (ix2 ⟨(j 0).val, hj⟩ (j 1))
      have hj' : (Rect.unit (s := (⟨2, ![N, 512]⟩ : Shape)) ![0, 0] ![K, 512] h2).emb (ix2 ⟨(j 0).val, hj⟩ (j 1)) = j := by
        funext a; apply Fin.ext
        fin_cases a
        · simp [Rect.emb, Rect.unit]
        · simp [Rect.emb, Rect.unit]
      rw [hj'] at e
      exact e
    · intro hm
      have h3 := ((Rect.mem_set_unit (inb := h1)).mp hm 0).1
      simp at h3
      omega
  · next hj =>
    have e := View.canon_cons_emb (Val := Elt F) (e := .f32) (Rect.unit (s := (⟨2, ![N, 512]⟩ : Shape)) ![K, 0] ![256, 512] h1) w
      [⟨Rect.unit ![0, 0] ![K, 512] h2, h⟩] (ix2 ⟨(j 0).val - K, by omega⟩ (j 1))
    have hj' : (Rect.unit (s := (⟨2, ![N, 512]⟩ : Shape)) ![K, 0] ![256, 512] h1).emb (ix2 ⟨(j 0).val - K, by omega⟩ (j 1)) = j := by
      funext a; apply Fin.ext
      fin_cases a
      · simp [Rect.emb, Rect.unit]; omega
      · simp [Rect.emb, Rect.unit]
    rw [hj'] at e
    exact e

/-- Rows read from a block, at an offset. -/
theorem rows_at {N R : ℕ} (X : (⟨2, ![N, 512]⟩ : Shape).Idx → Elt Ideal .f32) (o : ℕ) (inb : ∀ a, (![o, 0] : Fin 2 → ℕ) a + (![R, 512] : Fin 2 → ℕ) a ≤ (⟨2, ![N, 512]⟩ : Shape).size a)
    (r : Fin R) (d : Fin 512) : X ((Rect.unit (s := (⟨2, ![N, 512]⟩ : Shape)) ![o, 0] ![R, 512] inb).idx (ix2 r d)) = at2 X (o + r.val) d.val := by
  have hb := inb 0
  change o + R ≤ N at hb
  rw [at2_of X _ _ (by omega) d.isLt]
  congr 1
  funext a; apply Fin.ext
  fin_cases a
  · show o + 1 * r.val = o + r.val
    rw [Nat.one_mul]
  · show 0 + 1 * d.val = d.val
    rw [Nat.one_mul, Nat.zero_add]

theorem buf_apply {N K : ℕ} (hN : N = K + 256) (w : (⟨2, ![256, 512]⟩ : Shape).Idx → Elt F .f32) (h : (⟨2, ![K, 512]⟩ : Shape).Idx → Elt F .f32) (p : Fin N) (d : Fin 512) :
    buf hN w h (ix2 p d) = if hp : p.val < K then h (ix2 ⟨p.val, hp⟩ d) else w (ix2 ⟨p.val - K, by have := p.isLt; omega⟩ d) := rfl

/-- What a grid point leaves of the long convolution, from its block of products. -/
def outc (C : Vec F S288x512 .f32) (w : Vec F S31x512 .f32) (b g h : Vec F S1x512 .f32) : Vec F S256x512 .bf16 :=
    k0_pay1
      (k0_pay15
        (k0_pay14
          (k0_pay13
            (k0_pay11
              (k0_pay10 (F := F) (View.ld b (Rect.unit ![0, 0] ![1, 512] inb_S1x512_S1x512_0_0))
                (View.ld w (Rect.unit ![0, 0] ![1, 512] inb_S31x512_S1x512_0_0))
                (View.ld C (Rect.unit ![2, 0] ![256, 512] inb_S288x512_S256x512_2_0))
                (View.ld w (Rect.unit ![1, 0] ![1, 512] inb_S31x512_S1x512_1_0))
                (View.ld C (Rect.unit ![3, 0] ![256, 512] inb_S288x512_S256x512_3_0))
                (View.ld w (Rect.unit ![2, 0] ![1, 512] inb_S31x512_S1x512_2_0)) (View.ld C (Rect.unit ![4, 0] ![256, 512] inb_S288x512_S256x512_4_0)))
              (View.ld w (Rect.unit ![3, 0] ![1, 512] inb_S31x512_S1x512_3_0))
              (View.ld C (Rect.unit ![5, 0] ![256, 512] inb_S288x512_S256x512_5_0))
              (View.ld w (Rect.unit ![4, 0] ![1, 512] inb_S31x512_S1x512_4_0))
              (View.ld C (Rect.unit ![6, 0] ![256, 512] inb_S288x512_S256x512_6_0))
              (View.ld w (Rect.unit ![5, 0] ![1, 512] inb_S31x512_S1x512_5_0))
              (View.ld C (Rect.unit ![7, 0] ![256, 512] inb_S288x512_S256x512_7_0))
              (View.ld w (Rect.unit ![6, 0] ![1, 512] inb_S31x512_S1x512_6_0))
              (View.ld C (Rect.unit ![8, 0] ![256, 512] inb_S288x512_S256x512_8_0))
              (View.ld w (Rect.unit ![7, 0] ![1, 512] inb_S31x512_S1x512_7_0))
              (View.ld C (Rect.unit ![9, 0] ![256, 512] inb_S288x512_S256x512_9_0))
              (View.ld w (Rect.unit ![8, 0] ![1, 512] inb_S31x512_S1x512_8_0)) (View.ld C (Rect.unit ![10, 0] ![256, 512] inb_S288x512_S256x512_10_0)))
            (View.ld C (Rect.unit ![11, 0] ![256, 512] inb_S288x512_S256x512_11_0))
            (k0_pay12 (View.ld w (Rect.unit ![9, 0] ![1, 512] inb_S31x512_S1x512_9_0)))
            (View.ld w (Rect.unit ![10, 0] ![1, 512] inb_S31x512_S1x512_10_0))
            (View.ld C (Rect.unit ![12, 0] ![256, 512] inb_S288x512_S256x512_12_0))
            (View.ld w (Rect.unit ![11, 0] ![1, 512] inb_S31x512_S1x512_11_0))
            (View.ld C (Rect.unit ![13, 0] ![256, 512] inb_S288x512_S256x512_13_0))
            (View.ld w (Rect.unit ![12, 0] ![1, 512] inb_S31x512_S1x512_12_0))
            (View.ld C (Rect.unit ![14, 0] ![256, 512] inb_S288x512_S256x512_14_0))
            (View.ld w (Rect.unit ![13, 0] ![1, 512] inb_S31x512_S1x512_13_0))
            (View.ld C (Rect.unit ![15, 0] ![256, 512] inb_S288x512_S256x512_15_0))
            (View.ld w (Rect.unit ![14, 0] ![1, 512] inb_S31x512_S1x512_14_0))
            (View.ld C (Rect.unit ![16, 0] ![256, 512] inb_S288x512_S256x512_16_0))
            (View.ld w (Rect.unit ![15, 0] ![1, 512] inb_S31x512_S1x512_15_0)) (View.ld C (Rect.unit ![17, 0] ![256, 512] inb_S288x512_S256x512_17_0)))
          (View.ld w (Rect.unit ![16, 0] ![1, 512] inb_S31x512_S1x512_16_0))
          (View.ld C (Rect.unit ![18, 0] ![256, 512] inb_S288x512_S256x512_18_0))
          (View.ld w (Rect.unit ![17, 0] ![1, 512] inb_S31x512_S1x512_17_0))
          (View.ld C (Rect.unit ![19, 0] ![256, 512] inb_S288x512_S256x512_19_0))
          (View.ld w (Rect.unit ![18, 0] ![1, 512] inb_S31x512_S1x512_18_0))
          (View.ld C (Rect.unit ![20, 0] ![256, 512] inb_S288x512_S256x512_20_0))
          (View.ld w (Rect.unit ![19, 0] ![1, 512] inb_S31x512_S1x512_19_0))
          (View.ld C (Rect.unit ![21, 0] ![256, 512] inb_S288x512_S256x512_21_0))
          (View.ld w (Rect.unit ![20, 0] ![1, 512] inb_S31x512_S1x512_20_0))
          (View.ld C (Rect.unit ![22, 0] ![256, 512] inb_S288x512_S256x512_22_0))
          (View.ld w (Rect.unit ![21, 0] ![1, 512] inb_S31x512_S1x512_21_0))
          (View.ld C (Rect.unit ![23, 0] ![256, 512] inb_S288x512_S256x512_23_0))
          (View.ld w (Rect.unit ![22, 0] ![1, 512] inb_S31x512_S1x512_22_0)) (View.ld C (Rect.unit ![24, 0] ![256, 512] inb_S288x512_S256x512_24_0)))
        (View.ld w (Rect.unit ![23, 0] ![1, 512] inb_S31x512_S1x512_23_0))
        (View.ld C (Rect.unit ![25, 0] ![256, 512] inb_S288x512_S256x512_25_0))
        (View.ld w (Rect.unit ![24, 0] ![1, 512] inb_S31x512_S1x512_24_0))
        (View.ld C (Rect.unit ![26, 0] ![256, 512] inb_S288x512_S256x512_26_0))
        (View.ld w (Rect.unit ![25, 0] ![1, 512] inb_S31x512_S1x512_25_0))
        (View.ld C (Rect.unit ![27, 0] ![256, 512] inb_S288x512_S256x512_27_0))
        (View.ld w (Rect.unit ![26, 0] ![1, 512] inb_S31x512_S1x512_26_0))
        (View.ld C (Rect.unit ![28, 0] ![256, 512] inb_S288x512_S256x512_28_0))
        (View.ld w (Rect.unit ![27, 0] ![1, 512] inb_S31x512_S1x512_27_0))
        (View.ld C (Rect.unit ![29, 0] ![256, 512] inb_S288x512_S256x512_29_0))
        (View.ld w (Rect.unit ![28, 0] ![1, 512] inb_S31x512_S1x512_28_0)) (View.ld C (Rect.unit ![30, 0] ![256, 512] inb_S288x512_S256x512_30_0)))
      (View.ld C (Rect.unit ![31, 0] ![256, 512] inb_S288x512_S256x512_31_0))
      (k0_pay16 (View.ld w (Rect.unit ![29, 0] ![1, 512] inb_S31x512_S1x512_29_0)))
      (View.ld w (Rect.unit ![30, 0] ![1, 512] inb_S31x512_S1x512_30_0))
      (View.ld C (Rect.unit ![32, 0] ![256, 512] inb_S288x512_S256x512_32_0))
      (View.ld g (Rect.unit ![0, 0] ![1, 512] inb_S1x512_S1x512_0_0))
      (View.ld h (Rect.unit ![0, 0] ![1, 512] inb_S1x512_S1x512_0_0))

/-- What a grid point leaves of the short convolution, from its block of products. -/
def outa (C : Vec F S264x512 .f32) (w : Vec F S3x512 .f32) (x : Vec F S256x512 .bf16) : Vec F S256x512 .bf16 :=
    k0_pay8 (k0_pay7 (F := F) (View.ld w (Rect.unit ![0, 0] ![1, 512] inb_S3x512_S1x512_0_0))
      (View.ld C (Rect.unit ![6, 0] ![256, 512] inb_S264x512_S256x512_6_0))
      (View.ld w (Rect.unit ![1, 0] ![1, 512] inb_S3x512_S1x512_1_0))
      (View.ld C (Rect.unit ![7, 0] ![256, 512] inb_S264x512_S256x512_7_0))
      (View.ld w (Rect.unit ![2, 0] ![1, 512] inb_S3x512_S1x512_2_0))
      (View.ld C (Rect.unit ![8, 0] ![256, 512] inb_S264x512_S256x512_8_0))) x

section Runs

variable (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S3x512 .f32) (harg7 : arg7.IsWhole) (arg8 : Memref sig .tc .vmem S31x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .bf16) (harg12 : arg12.IsWhole) (arg13 : Memref sig .tc .vmem S256x512 .bf16) (harg13 : arg13.IsWhole) (arg14 : Memref sig .tc .vmem S264x512 .f32) (harg14 : arg14.IsWhole) (arg15 : Memref sig .tc .vmem S288x512 .f32) (harg15 : arg15.IsWhole)
  (x0 : Vec F S256x512 .bf16) (x1 : Vec F S256x512 .bf16) (x2 : Vec F S256x512 .bf16) (x3 : Vec F S256x512 .bf16) (x4 : Vec F S256x512 .bf16) (x5 : Vec F S3x512 .f32) (x6 : Vec F S31x512 .f32) (x7 : Vec F S1x512 .f32) (x8 : Vec F S1x512 .f32) (x9 : Vec F S1x512 .f32)

/-- At a sequence's first grid point the first kept block holds the new products under zeros. -/
theorem sout_A_0 (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 = buf (F := F) (N := 264) (K := 8) rfl (k0_pay6 x1 x2) k0_pay2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9)]
  unfold kernelRun0_A; dsimp only
  sl_unfold_words
  simp only [View.readAt_eq_ld, View.readCov_eq_canon', harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  refine (canon_buf rfl _ _ _ _).trans ?_
  simp only [View.ld_unit_zero (S := S256x512) (show (![0, 0] : Fin 2 → ℕ) = fun _ => 0 by decide)]

/-- At a sequence's first grid point the second kept block holds the new products under zeros. -/
theorem sout_A_1 (hc0 : cond0_0 i) (hc1 : ¬cond0_1 i) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 = buf (F := F) (N := 288) (K := 32) rfl (k0_pay9 x3 x4) k0_pay3 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9)]
  unfold kernelRun0_A; dsimp only
  sl_unfold_words
  simp only [View.readAt_eq_ld, View.readCov_eq_canon', harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  refine (canon_buf rfl _ _ _ _).trans ?_
  simp only [View.ld_unit_zero (S := S256x512) (show (![0, 0] : Fin 2 → ℕ) = fun _ => 0 by decide)]

/-- At a later grid point the first kept block holds the new products under its last rows. -/
theorem sout_B_0 (hc0 : ¬cond0_0 i) (hc1 : cond0_1 i) (xs0 : Vec F S264x512 .f32) (xs1 : Vec F S288x512 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 = buf (F := F) (N := 264) (K := 8) rfl (k0_pay6 x1 x2) (k0_pay4 (View.ld xs0 (Rect.unit ![256, 0] ![8, 512] inb_S264x512_S8x512_256_0))) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun0_B; dsimp only
  sl_unfold_words
  simp only [View.readAt_eq_ld, View.readCov_eq_canon', harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  refine (canon_buf rfl _ _ _ _).trans ?_
  simp only [View.ld_unit_zero (S := S256x512) (show (![0, 0] : Fin 2 → ℕ) = fun _ => 0 by decide)]

/-- At a later grid point the second kept block holds the new products under its last rows. -/
theorem sout_B_1 (hc0 : ¬cond0_0 i) (hc1 : cond0_1 i) (xs0 : Vec F S264x512 .f32) (xs1 : Vec F S288x512 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 = buf (F := F) (N := 288) (K := 32) rfl (k0_pay9 x3 x4) (k0_pay5 (View.ld xs1 (Rect.unit ![256, 0] ![32, 512] inb_S288x512_S32x512_256_0))) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun0_B; dsimp only
  sl_unfold_words
  simp only [View.readAt_eq_ld, View.readCov_eq_canon', harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  refine (canon_buf rfl _ _ _ _).trans ?_
  simp only [View.ld_unit_zero (S := S256x512) (show (![0, 0] : Fin 2 → ℕ) = fun _ => 0 by decide)]

/-- What a sequence's first grid point leaves of the short convolution. -/
theorem out_A_10 (hc0 : cond0_0 i) (hc1 : ¬cond0_1 i) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 = outa (buf (F := F) (N := 264) (K := 8) rfl (k0_pay6 x1 x2) k0_pay2) x5 x0 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9)]
  unfold kernelRun0_A; dsimp only
  sl_unfold_words
  simp only [View.readAt_eq_ld, View.readCov_eq_canon', harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  rw [View.canon_unit_zero (by decide)]
  simp only [View.ld_unit_zero (S := S256x512) (show (![0, 0] : Fin 2 → ℕ) = fun _ => 0 by decide)]
  rw [canon_buf rfl]
  unfold outa
  generalize buf (F := F) (N := 264) (K := 8) rfl (k0_pay6 x1 x2) k0_pay2 = C
  rfl

/-- What a sequence's first grid point leaves of the long convolution. -/
theorem out_A_11 (hc0 : cond0_0 i) (hc1 : ¬cond0_1 i) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 = outc (buf (F := F) (N := 288) (K := 32) rfl (k0_pay9 x3 x4) k0_pay3) x6 x7 x8 x9 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9)]
  unfold kernelRun0_A; dsimp only
  sl_unfold_words
  simp only [View.readAt_eq_ld, View.readCov_eq_canon', harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  rw [View.canon_unit_zero (by decide)]
  simp only [View.ld_unit_zero (S := S256x512) (show (![0, 0] : Fin 2 → ℕ) = fun _ => 0 by decide)]
  rw [canon_buf rfl]
  unfold outc
  generalize buf (F := F) (N := 288) (K := 32) rfl (k0_pay9 x3 x4) k0_pay3 = C
  rfl

/-- What a later grid point leaves of the short convolution. -/
theorem out_B_10 (hc0 : ¬cond0_0 i) (hc1 : cond0_1 i) (xs0 : Vec F S264x512 .f32) (xs1 : Vec F S288x512 .f32) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 = outa (buf (F := F) (N := 264) (K := 8) rfl (k0_pay6 x1 x2) (k0_pay4 (View.ld xs0 (Rect.unit ![256, 0] ![8, 512] inb_S264x512_S8x512_256_0)))) x5 x0 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun0_B; dsimp only
  sl_unfold_words
  simp only [View.readAt_eq_ld, View.readCov_eq_canon', harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  rw [View.canon_unit_zero (by decide)]
  simp only [View.ld_unit_zero (S := S256x512) (show (![0, 0] : Fin 2 → ℕ) = fun _ => 0 by decide)]
  rw [canon_buf rfl]
  unfold outa
  generalize buf (F := F) (N := 264) (K := 8) rfl (k0_pay6 x1 x2) (k0_pay4 (View.ld xs0 (Rect.unit ![256, 0] ![8, 512] inb_S264x512_S8x512_256_0))) = C
  rfl

/-- What a later grid point leaves of the long convolution. -/
theorem out_B_11 (hc0 : ¬cond0_0 i) (hc1 : cond0_1 i) (xs0 : Vec F S264x512 .f32) (xs1 : Vec F S288x512 .f32) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 = outc (buf (F := F) (N := 288) (K := 32) rfl (k0_pay9 x3 x4) (k0_pay5 (View.ld xs1 (Rect.unit ![256, 0] ![32, 512] inb_S288x512_S32x512_256_0)))) x6 x7 x8 x9 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun0_B; dsimp only
  sl_unfold_words
  simp only [View.readAt_eq_ld, View.readCov_eq_canon', harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  rw [View.canon_unit_zero (by decide)]
  simp only [View.ld_unit_zero (S := S256x512) (show (![0, 0] : Fin 2 → ℕ) = fun _ => 0 by decide)]
  rw [canon_buf rfl]
  unfold outc
  generalize buf (F := F) (N := 288) (K := 32) rfl (k0_pay9 x3 x4) (k0_pay5 (View.ld xs1 (Rect.unit ![256, 0] ![32, 512] inb_S288x512_S32x512_256_0))) = C
  rfl

end Runs

theorem pay10_apply (v45 : Vec Ideal S1x512 .f32) (v49 : Vec Ideal S1x512 .f32) (v50 : Vec Ideal S256x512 .f32) (v54 : Vec Ideal S1x512 .f32) (v55 : Vec Ideal S256x512 .f32) (v59 : Vec Ideal S1x512 .f32) (v60 : Vec Ideal S256x512 .f32) (r : Fin 256) (d : Fin 512) :
    k0_pay10 (F := Ideal) v45 v49 v50 v54 v55 v59 v60 (ix2 r d) = (Ideal.ofBits .f32 0x00000000#32 + v45 (ix2 0 d)) + v49 (ix2 0 d) * v50 (ix2 r d) + v54 (ix2 0 d) * v55 (ix2 r d) + v59 (ix2 0 d) * v60 (ix2 r d) := by
  pointwise [k0_pay10]

theorem pay11_apply (v63 : Vec Ideal S256x512 .f32) (v64 : Vec Ideal S1x512 .f32) (v65 : Vec Ideal S256x512 .f32) (v69 : Vec Ideal S1x512 .f32) (v70 : Vec Ideal S256x512 .f32) (v74 : Vec Ideal S1x512 .f32) (v75 : Vec Ideal S256x512 .f32) (v79 : Vec Ideal S1x512 .f32) (v80 : Vec Ideal S256x512 .f32) (v84 : Vec Ideal S1x512 .f32) (v85 : Vec Ideal S256x512 .f32) (v89 : Vec Ideal S1x512 .f32) (v90 : Vec Ideal S256x512 .f32) (r : Fin 256) (d : Fin 512) :
    k0_pay11 (F := Ideal) v63 v64 v65 v69 v70 v74 v75 v79 v80 v84 v85 v89 v90 (ix2 r d) = v63 (ix2 r d) + v64 (ix2 0 d) * v65 (ix2 r d) + v69 (ix2 0 d) * v70 (ix2 r d) + v74 (ix2 0 d) * v75 (ix2 r d) + v79 (ix2 0 d) * v80 (ix2 r d) + v84 (ix2 0 d) * v85 (ix2 r d) + v89 (ix2 0 d) * v90 (ix2 r d) := by
  pointwise [k0_pay11]

theorem pay13_apply (v93 : Vec Ideal S256x512 .f32) (v95 : Vec Ideal S256x512 .f32) (v96 : Vec Ideal S256x512 .f32) (v99 : Vec Ideal S1x512 .f32) (v100 : Vec Ideal S256x512 .f32) (v104 : Vec Ideal S1x512 .f32) (v105 : Vec Ideal S256x512 .f32) (v109 : Vec Ideal S1x512 .f32) (v110 : Vec Ideal S256x512 .f32) (v114 : Vec Ideal S1x512 .f32) (v115 : Vec Ideal S256x512 .f32) (v119 : Vec Ideal S1x512 .f32) (v120 : Vec Ideal S256x512 .f32) (v124 : Vec Ideal S1x512 .f32) (v125 : Vec Ideal S256x512 .f32) (r : Fin 256) (d : Fin 512) :
    k0_pay13 (F := Ideal) v93 v95 v96 v99 v100 v104 v105 v109 v110 v114 v115 v119 v120 v124 v125 (ix2 r d) = (v93 (ix2 r d) + v96 (ix2 r d) * v95 (ix2 r d)) + v99 (ix2 0 d) * v100 (ix2 r d) + v104 (ix2 0 d) * v105 (ix2 r d) + v109 (ix2 0 d) * v110 (ix2 r d) + v114 (ix2 0 d) * v115 (ix2 r d) + v119 (ix2 0 d) * v120 (ix2 r d) + v124 (ix2 0 d) * v125 (ix2 r d) := by
  pointwise [k0_pay13]

theorem pay14_apply (v128 : Vec Ideal S256x512 .f32) (v129 : Vec Ideal S1x512 .f32) (v130 : Vec Ideal S256x512 .f32) (v134 : Vec Ideal S1x512 .f32) (v135 : Vec Ideal S256x512 .f32) (v139 : Vec Ideal S1x512 .f32) (v140 : Vec Ideal S256x512 .f32) (v144 : Vec Ideal S1x512 .f32) (v145 : Vec Ideal S256x512 .f32) (v149 : Vec Ideal S1x512 .f32) (v150 : Vec Ideal S256x512 .f32) (v154 : Vec Ideal S1x512 .f32) (v155 : Vec Ideal S256x512 .f32) (v159 : Vec Ideal S1x512 .f32) (v160 : Vec Ideal S256x512 .f32) (r : Fin 256) (d : Fin 512) :
    k0_pay14 (F := Ideal) v128 v129 v130 v134 v135 v139 v140 v144 v145 v149 v150 v154 v155 v159 v160 (ix2 r d) = v128 (ix2 r d) + v129 (ix2 0 d) * v130 (ix2 r d) + v134 (ix2 0 d) * v135 (ix2 r d) + v139 (ix2 0 d) * v140 (ix2 r d) + v144 (ix2 0 d) * v145 (ix2 r d) + v149 (ix2 0 d) * v150 (ix2 r d) + v154 (ix2 0 d) * v155 (ix2 r d) + v159 (ix2 0 d) * v160 (ix2 r d) := by
  pointwise [k0_pay14]

theorem pay15_apply (v163 : Vec Ideal S256x512 .f32) (v164 : Vec Ideal S1x512 .f32) (v165 : Vec Ideal S256x512 .f32) (v169 : Vec Ideal S1x512 .f32) (v170 : Vec Ideal S256x512 .f32) (v174 : Vec Ideal S1x512 .f32) (v175 : Vec Ideal S256x512 .f32) (v179 : Vec Ideal S1x512 .f32) (v180 : Vec Ideal S256x512 .f32) (v184 : Vec Ideal S1x512 .f32) (v185 : Vec Ideal S256x512 .f32) (v189 : Vec Ideal S1x512 .f32) (v190 : Vec Ideal S256x512 .f32) (r : Fin 256) (d : Fin 512) :
    k0_pay15 (F := Ideal) v163 v164 v165 v169 v170 v174 v175 v179 v180 v184 v185 v189 v190 (ix2 r d) = v163 (ix2 r d) + v164 (ix2 0 d) * v165 (ix2 r d) + v169 (ix2 0 d) * v170 (ix2 r d) + v174 (ix2 0 d) * v175 (ix2 r d) + v179 (ix2 0 d) * v180 (ix2 r d) + v184 (ix2 0 d) * v185 (ix2 r d) + v189 (ix2 0 d) * v190 (ix2 r d) := by
  pointwise [k0_pay15]

theorem pay7_apply (v15 : Vec Ideal S1x512 .f32) (v16 : Vec Ideal S256x512 .f32) (v20 : Vec Ideal S1x512 .f32) (v21 : Vec Ideal S256x512 .f32) (v25 : Vec Ideal S1x512 .f32) (v26 : Vec Ideal S256x512 .f32) (r : Fin 256) (d : Fin 512) :
    k0_pay7 (F := Ideal) v15 v16 v20 v21 v25 v26 (ix2 r d) = Ideal.ofBits .f32 0x00000000#32 + v15 (ix2 0 d) * v16 (ix2 r d) + v20 (ix2 0 d) * v21 (ix2 r d) + v25 (ix2 0 d) * v26 (ix2 r d) := by
  pointwise [k0_pay7]

theorem pay12_apply (v94 : Vec Ideal S1x512 .f32) (r : Fin 256) (d : Fin 512) : k0_pay12 (F := Ideal) v94 (ix2 r d) = v94 (ix2 0 d) := by
  pointwise [k0_pay12]

theorem pay16_apply (v194 : Vec Ideal S1x512 .f32) (r : Fin 256) (d : Fin 512) : k0_pay16 (F := Ideal) v194 (ix2 r d) = v194 (ix2 0 d) := by
  pointwise [k0_pay16]

/-- The last two terms of the long convolution, its layer norm and its swish, entry by entry. -/
theorem pay1_apply (v193 : Vec Ideal S256x512 .f32) (v195 : Vec Ideal S256x512 .f32) (v196 : Vec Ideal S256x512 .f32) (v199 : Vec Ideal S1x512 .f32) (v200 : Vec Ideal S256x512 .f32) (v220 : Vec Ideal S1x512 .f32) (v224 : Vec Ideal S1x512 .f32) (r : Fin 256) (d : Fin 512) :
    k0_pay1 (F := Ideal) v193 v195 v196 v199 v200 v220 v224 (ix2 r d) = swished (fun e => v193 (ix2 r e) + v196 (ix2 r e) * v195 (ix2 r e) + v199 (ix2 0 e) * v200 (ix2 r e)) (fun e => v220 (ix2 0 e)) (fun e => v224 (ix2 0 e)) d := by
  pointwise [k0_pay1]
  rfl

theorem pay8_apply (v29 : Vec Ideal S256x512 .f32) (v30 : Vec Ideal S256x512 .bf16) (r : Fin 256) (d : Fin 512) : k0_pay8 (F := Ideal) v29 v30 (ix2 r d) = v30 (ix2 r d) * v29 (ix2 r d) := by
  pointwise [k0_pay8]

theorem pay6_apply (v6 v8 : Vec Ideal S256x512 .bf16) (r : Fin 256) (d : Fin 512) : k0_pay6 (F := Ideal) v6 v8 (ix2 r d) = v6 (ix2 r d) * v8 (ix2 r d) := by
  pointwise [k0_pay6]

theorem pay9_apply (v35 v37 : Vec Ideal S256x512 .bf16) (r : Fin 256) (d : Fin 512) : k0_pay9 (F := Ideal) v35 v37 (ix2 r d) = v35 (ix2 r d) * Ideal.logistic (v37 (ix2 r d)) := by
  pointwise [k0_pay9]

theorem pay2_apply (r : Fin 8) (d : Fin 512) : k0_pay2 (F := Ideal) (ix2 r d) = 0 := by
  pointwise [k0_pay2]

theorem pay3_apply (r : Fin 32) (d : Fin 512) : k0_pay3 (F := Ideal) (ix2 r d) = 0 := by
  pointwise [k0_pay3]

theorem pay4_apply (v : Vec Ideal S8x512 .f32) (r : Fin 8) (d : Fin 512) : k0_pay4 (F := Ideal) v (ix2 r d) = v (ix2 r d) := by
  pointwise [k0_pay4]

theorem pay5_apply (v : Vec Ideal S32x512 .f32) (r : Fin 32) (d : Fin 512) : k0_pay5 (F := Ideal) v (ix2 r d) = v (ix2 r d) := by
  pointwise [k0_pay5]

theorem ld_rows {N R : ℕ} (X : (⟨2, ![N, 512]⟩ : Shape).Idx → Elt Ideal .f32) (o : ℕ) (inb : ∀ a, (![o, 0] : Fin 2 → ℕ) a + (![R, 512] : Fin 2 → ℕ) a ≤ (⟨2, ![N, 512]⟩ : Shape).size a)
    (r : Fin R) (d : Fin 512) : View.ld X (Rect.unit (s := (⟨2, ![N, 512]⟩ : Shape)) ![o, 0] ![R, 512] inb) (ix2 r d) = at2 X (o + r.val) d.val :=
  rows_at X o inb r d

theorem run_31 (z : EReal) (t : ℕ → EReal) : run z t 31 = z + t 0 + t 1 + t 2 + t 3 + t 4 + t 5 + t 6 + t 7 + t 8 + t 9 + t 10 + t 11 + t 12 + t 13 + t 14 + t 15 + t 16 + t 17 + t 18 + t 19 + t 20 + t 21 + t 22 + t 23 + t 24 + t 25 + t 26 + t 27 + t 28 + t 29 + t 30 := rfl

theorem run_3 (z : EReal) (t : ℕ → EReal) : run z t 3 = z + t 0 + t 1 + t 2 := rfl

/-- The short convolution's block, entry by entry. -/
theorem outa_apply (C : Vec Ideal S264x512 .f32) (w : Vec Ideal S3x512 .f32) (x : Vec Ideal S256x512 .bf16) (r : Fin 256) (d : Fin 512) :
    outa (F := Ideal) C w x (ix2 r d) = x (ix2 r d) * run 0 (fun j => at2 w j d.val * at2 C (6 + j + r.val) d.val) 3 := by
  unfold outa
  rw [pay8_apply, pay7_apply, run_3, Ideal.ofBits_zero_f32]
  rw [ld_rows w 0, ld_rows C 6, ld_rows w 1, ld_rows C 7, ld_rows w 2, ld_rows C 8]
  rfl

/-- The long convolution's block, entry by entry. -/
theorem outc_apply (C : Vec Ideal S288x512 .f32) (w : Vec Ideal S31x512 .f32) (b g h : Vec Ideal S1x512 .f32) (r : Fin 256) (d : Fin 512) :
    outc (F := Ideal) C w b g h (ix2 r d)
      = swished (fun e => run 0 (fun j => at2 w j e.val * at2 C (2 + j + r.val) e.val) 31 + b (ix2 0 e)) (fun e => g (ix2 0 e)) (fun e => h (ix2 0 e)) d := by
  unfold outc
  rw [pay1_apply, View.ld_unit_zero (by decide), View.ld_unit_zero (by decide), View.ld_unit_zero (by decide)]
  refine congrFun (swished_congr (fun e => ?_) (fun _ => rfl) fun _ => rfl) d
  rw [pay15_apply, pay16_apply, pay14_apply, pay13_apply, pay12_apply, pay11_apply, pay10_apply, ← run_bias, run_31, Ideal.ofBits_zero_f32]
  rw [ld_rows w 0, ld_rows C 2, ld_rows w 1, ld_rows C 3, ld_rows w 2, ld_rows C 4, ld_rows w 3, ld_rows C 5, ld_rows w 4, ld_rows C 6, ld_rows w 5, ld_rows C 7, ld_rows w 6, ld_rows C 8, ld_rows w 7, ld_rows C 9, ld_rows w 8, ld_rows C 10, ld_rows w 9, ld_rows C 11, ld_rows w 10, ld_rows C 12, ld_rows w 11, ld_rows C 13, ld_rows w 12, ld_rows C 14, ld_rows w 13, ld_rows C 15, ld_rows w 14, ld_rows C 16, ld_rows w 15, ld_rows C 17, ld_rows w 16, ld_rows C 18, ld_rows w 17, ld_rows C 19, ld_rows w 18, ld_rows C 20, ld_rows w 19, ld_rows C 21, ld_rows w 20, ld_rows C 22, ld_rows w 21, ld_rows C 23, ld_rows w 22, ld_rows C 24, ld_rows w 23, ld_rows C 25, ld_rows w 24, ld_rows C 26, ld_rows w 25, ld_rows C 27, ld_rows w 26, ld_rows C 28, ld_rows w 27, ld_rows C 29, ld_rows w 28, ld_rows C 30, ld_rows w 29, ld_rows C 31, ld_rows w 30, ld_rows C 32]
  rfl

end Cert.MixersIdeal.Body
-- ==== Proof.MixRef.lean ====
module

public import proofs.«01_k».proof.Proof.Gen.MixersReferenceIdeal.Read
public import proofs.«01_k».proof.Proof.Mix
public import Idealize.ShloMosaic.Lib.Pointwise
public import Idealize.ShloMosaic.Lib.KernelVsHost
public import Idealize.ShloMosaic.Lib.IdealHost

@[expose] public section

set_option maxRecDepth 16384

noncomputable section

namespace Cert.MixersReferenceIdeal.Body

open Idealize.ShloMosaic Idealize.ShloMosaic.TcCoe Idealize.SL.Sem Cert.MixersReferenceIdeal Cert.MixersReferenceIdeal.Gen Cert.MixersReferenceIdeal.Read Cert.Mix

variable (u : Vec Ideal S16384x5632 .bf16) (wa : Vec Ideal S3x512 .f32) (wc : Vec Ideal S31x512 .f32) (bc g h : Vec Ideal S512 .f32)

/-- An array of two axes at an index with known coordinates. -/
theorem at2_index {N K : ℕ} (X : (⟨2, ![N, K]⟩ : Shape).Idx → EReal) (i : (⟨2, ![N, K]⟩ : Shape).Idx) (p d : ℕ) (hp : (i 0).val = p) (hd : (i 1).val = d) :
    X i = at2 X p d := by
  subst hp
  subst hd
  rw [at2_of X _ _ (i 0).isLt (i 1).isLt]
  congr 1
  funext a
  fin_cases a <;> rfl

/-- The projected rows by sequence and position. -/
theorem rows_apply (i : S4x4096x5632.Idx) (b s d : ℕ) (h0 : (i 0).val = b) (h1 : (i 1).val = s) (h2 : (i 2).val = d) :
    val_main_v1 (F := Ideal) u i = at2 u (b * 4096 + s) d := by
  subst h0
  subst h1
  subst h2
  have l2 : (i 2).val < 5632 := (i 2).isLt
  rw [val_main_v1_apply, val_main_v0_apply]
  refine (at2_index u _ _ _ ?_ ?_)
  · show (((i 0).val * 4096 + (i 1).val) * 5632 + (i 2).val) / 5632 = _
    omega
  · show (((i 0).val * 4096 + (i 1).val) * 5632 + (i 2).val) % 5632 = _
    omega

theorem v3_apply (i : S4x4096x512.Idx) : val_main_v3 (F := Ideal) u i = at2 u ((i 0).val * 4096 + (i 1).val) (i 2).val := by
  rw [val_main_v3_apply, val_main_v2_apply]
  refine rows_apply u _ _ _ _ ?_ ?_ ?_
  all_goals first | rfl | (simp only [idx_main_v3, idx_main_v2]; omega)

theorem v4_apply (i : S4x4096x512.Idx) : val_main_v4 (F := Ideal) u i = at2 u ((i 0).val * 4096 + (i 1).val) (512 + (i 2).val) := by
  rw [val_main_v4_apply, val_main_v2_apply]
  refine rows_apply u _ _ _ _ ?_ ?_ ?_
  all_goals first | rfl | (simp only [idx_main_v4, idx_main_v2]; omega)

theorem v5_apply (i : S4x4096x512.Idx) : val_main_v5 (F := Ideal) u i = at2 u ((i 0).val * 4096 + (i 1).val) (1024 + (i 2).val) := by
  rw [val_main_v5_apply, val_main_v2_apply]
  refine rows_apply u _ _ _ _ ?_ ?_ ?_
  all_goals first | rfl | (simp only [idx_main_v5, idx_main_v2]; omega)

theorem v7_apply (i : S4x4096x512.Idx) : val_main_v7 (F := Ideal) u i = at2 u ((i 0).val * 4096 + (i 1).val) (4608 + (i 2).val) := by
  rw [val_main_v7_apply, val_main_v6_apply]
  refine rows_apply u _ _ _ _ ?_ ?_ ?_
  all_goals first | rfl | (simp only [idx_main_v7, idx_main_v6]; omega)

theorem v8_apply (i : S4x4096x512.Idx) : val_main_v8 (F := Ideal) u i = at2 u ((i 0).val * 4096 + (i 1).val) (5120 + (i 2).val) := by
  rw [val_main_v8_apply, val_main_v6_apply]
  refine rows_apply u _ _ _ _ ?_ ?_ ?_
  all_goals first | rfl | (simp only [idx_main_v8, idx_main_v6]; omega)

/-- What the short convolution convolves. -/
theorem gated_apply (i : S4x4096x512.Idx) : val_main_v9 (F := Ideal) u i = gated u (i 0).val (i 2).val (i 1).val := by
  rw [val_main_v9_apply, v4_apply, v5_apply]
  rfl

/-- The reference's expansion of the logistic function. -/
theorem logistic_eq (x : EReal) : Ideal.div (Ideal.ofBits .f32 0x3F800000#32) (Ideal.ofBits .f32 0x3F800000#32 + Ideal.exp (-x)) = Ideal.logistic x := by
  rw [Ideal.ofBits_one_f32]
  rfl

/-- What the long convolution convolves. -/
theorem glu_apply (i : S4x4096x512.Idx) : val_main_v40 (F := Ideal) u i = glu u (i 0).val (i 2).val (i 1).val := by
  rw [val_main_v40_apply, val_main_v39_apply, val_main_v38_apply, val_main_v37_apply, val_main_v36_apply, val_main_v35_apply, val_main_v34_apply,
    val_main_cst_0_apply, val_main_cst_1_apply, v7_apply, v8_apply]
  exact congrArg (_ * ·) (logistic_eq _)

/-- The padded sequence of the short convolution. -/
theorem v10_apply (i : S4x4098x512.Idx) (b q d : ℕ) (h0 : (i 0).val = b) (h1 : (i 1).val = q) (h2 : (i 2).val = d) :
    val_main_v10 (F := Ideal) u i = held 2 (gated u b d) q := by
  subst h0
  subst h1
  subst h2
  have l1 : (i 1).val < 4098 := (i 1).isLt
  unfold val_main_v10 held
  split
  · next hq =>
    refine (pad_apply_of_not_inside _ _ _ _ _ _ _ i 1 ?_).trans ?_
    · show ¬(2 ≤ (i 1).val ∧ _)
      omega
    · rw [val_main_call0_v0_apply, val_main_c_apply]
      show (((0#32 : BitVec 32).toInt : ℝ) : EReal) = 0
      simp
  · next hq =>
    refine (pad_apply_of_inside _ _ _ _ _ _ _ i (ix3 (n0 := 4) (n1 := 4096) (n2 := 512) (i 0) ⟨(i 1).val - 2, by omega⟩ (i 2) : S4x4096x512.Idx) ?_).trans ?_
    · intro a
      fin_cases a
      · show (i 0).val = 0 + (i 0).val * (0 + 1)
        omega
      · show (i 1).val = 2 + ((i 1).val - 2) * (0 + 1)
        omega
      · show (i 2).val = 0 + (i 2).val * (0 + 1)
        omega
    · exact gated_apply u _

/-- The padded sequence of the long convolution. -/
theorem v41_apply (i : S4x4126x512.Idx) (b q d : ℕ) (h0 : (i 0).val = b) (h1 : (i 1).val = q) (h2 : (i 2).val = d) :
    val_main_v41 (F := Ideal) u i = held 30 (glu u b d) q := by
  subst h0
  subst h1
  subst h2
  have l1 : (i 1).val < 4126 := (i 1).isLt
  unfold val_main_v41 held
  split
  · next hq =>
    refine (pad_apply_of_not_inside _ _ _ _ _ _ _ i 1 ?_).trans ?_
    · show ¬(30 ≤ (i 1).val ∧ _)
      omega
    · rw [val_main_call1_v0_apply, val_main_c_2_apply]
      show (((0#32 : BitVec 32).toInt : ℝ) : EReal) = 0
      simp
  · next hq =>
    refine (pad_apply_of_inside _ _ _ _ _ _ _ i (ix3 (n0 := 4) (n1 := 4096) (n2 := 512) (i 0) ⟨(i 1).val - 30, by omega⟩ (i 2) : S4x4096x512.Idx) ?_).trans ?_
    · intro a
      fin_cases a
      · show (i 0).val = 0 + (i 0).val * (0 + 1)
        omega
      · show (i 1).val = 30 + ((i 1).val - 30) * (0 + 1)
        omega
      · show (i 2).val = 0 + (i 2).val * (0 + 1)
        omega
    · exact glu_apply u _

theorem short_tap0 (i : S4x4096x512.Idx) : val_main_v16 (F := Ideal) u wa i = at2 wa 0 (i 2).val * held 2 (gated u (i 0).val (i 2).val) ((i 1).val + 0) := by
  rw [val_main_v16_apply, val_main_v15_apply, val_main_v14_apply, val_main_v12_apply, val_main_v11_apply, val_main_v13_apply]
  exact congrArg₂ (· * ·) (at2_index wa _ _ _ (by first | rfl | simp) (Nat.mod_eq_of_lt (i 2).isLt)) (v10_apply u _ _ _ _ rfl (by first | rfl | exact Nat.add_comm _ _) rfl)

theorem short_tap1 (i : S4x4096x512.Idx) : val_main_v24 (F := Ideal) u wa i = at2 wa 1 (i 2).val * held 2 (gated u (i 0).val (i 2).val) ((i 1).val + 1) := by
  rw [val_main_v24_apply, val_main_v23_apply, val_main_v22_apply, val_main_v20_apply, val_main_v19_apply, val_main_v21_apply]
  exact congrArg₂ (· * ·) (at2_index wa _ _ _ (by first | rfl | simp) (Nat.mod_eq_of_lt (i 2).isLt)) (v10_apply u _ _ _ _ rfl (by first | rfl | exact Nat.add_comm _ _) rfl)

theorem short_tap2 (i : S4x4096x512.Idx) : val_main_v31 (F := Ideal) u wa i = at2 wa 2 (i 2).val * held 2 (gated u (i 0).val (i 2).val) ((i 1).val + 2) := by
  rw [val_main_v31_apply, val_main_v30_apply, val_main_v29_apply, val_main_v27_apply, val_main_v26_apply, val_main_v28_apply]
  exact congrArg₂ (· * ·) (at2_index wa _ _ _ (by first | rfl | simp) (Nat.mod_eq_of_lt (i 2).isLt)) (v10_apply u _ _ _ _ rfl (by first | rfl | exact Nat.add_comm _ _) rfl)

/-- The short convolution. -/
theorem short_apply (i : S4x4096x512.Idx) : val_main_v32 (F := Ideal) u wa i = short u wa (i 0).val (i 1).val (i 2).val := by
  rw [val_main_v32_apply, short_tap2, val_main_v25_apply, short_tap1, val_main_v18_apply, short_tap0, val_main_v17_apply, val_main_cst_apply]
  unfold short
  rw [show (FloatOps.ofBits .f32 0x00000000#32 : Ideal .f32) = (0 : EReal) from Ideal.ofBits_zero_f32]
  rfl

theorem long_tap0 (i : S4x4096x512.Idx) : val_main_v47 (F := Ideal) u wc i = at2 wc 0 (i 2).val * held 30 (glu u (i 0).val (i 2).val) ((i 1).val + 0) := by
  rw [val_main_v47_apply, val_main_v46_apply, val_main_v45_apply, val_main_v43_apply, val_main_v42_apply, val_main_v44_apply]
  exact congrArg₂ (· * ·) (at2_index wc _ _ _ (by first | rfl | simp) (Nat.mod_eq_of_lt (i 2).isLt)) (v41_apply u _ _ _ _ rfl (by first | rfl | exact Nat.add_comm _ _) rfl)

theorem long_tap1 (i : S4x4096x512.Idx) : val_main_v55 (F := Ideal) u wc i = at2 wc 1 (i 2).val * held 30 (glu u (i 0).val (i 2).val) ((i 1).val + 1) := by
  rw [val_main_v55_apply, val_main_v54_apply, val_main_v53_apply, val_main_v51_apply, val_main_v50_apply, val_main_v52_apply]
  exact congrArg₂ (· * ·) (at2_index wc _ _ _ (by first | rfl | simp) (Nat.mod_eq_of_lt (i 2).isLt)) (v41_apply u _ _ _ _ rfl (by first | rfl | exact Nat.add_comm _ _) rfl)

theorem long_tap2 (i : S4x4096x512.Idx) : val_main_v62 (F := Ideal) u wc i = at2 wc 2 (i 2).val * held 30 (glu u (i 0).val (i 2).val) ((i 1).val + 2) := by
  rw [val_main_v62_apply, val_main_v61_apply, val_main_v60_apply, val_main_v58_apply, val_main_v57_apply, val_main_v59_apply]
  exact congrArg₂ (· * ·) (at2_index wc _ _ _ (by first | rfl | simp) (Nat.mod_eq_of_lt (i 2).isLt)) (v41_apply u _ _ _ _ rfl (by first | rfl | exact Nat.add_comm _ _) rfl)

theorem long_tap3 (i : S4x4096x512.Idx) : val_main_v69 (F := Ideal) u wc i = at2 wc 3 (i 2).val * held 30 (glu u (i 0).val (i 2).val) ((i 1).val + 3) := by
  rw [val_main_v69_apply, val_main_v68_apply, val_main_v67_apply, val_main_v65_apply, val_main_v64_apply, val_main_v66_apply]
  exact congrArg₂ (· * ·) (at2_index wc _ _ _ (by first | rfl | simp) (Nat.mod_eq_of_lt (i 2).isLt)) (v41_apply u _ _ _ _ rfl (by first | rfl | exact Nat.add_comm _ _) rfl)

theorem long_tap4 (i : S4x4096x512.Idx) : val_main_v76 (F := Ideal) u wc i = at2 wc 4 (i 2).val * held 30 (glu u (i 0).val (i 2).val) ((i 1).val + 4) := by
  rw [val_main_v76_apply, val_main_v75_apply, val_main_v74_apply, val_main_v72_apply, val_main_v71_apply, val_main_v73_apply]
  exact congrArg₂ (· * ·) (at2_index wc _ _ _ (by first | rfl | simp) (Nat.mod_eq_of_lt (i 2).isLt)) (v41_apply u _ _ _ _ rfl (by first | rfl | exact Nat.add_comm _ _) rfl)

theorem long_tap5 (i : S4x4096x512.Idx) : val_main_v83 (F := Ideal) u wc i = at2 wc 5 (i 2).val * held 30 (glu u (i 0).val (i 2).val) ((i 1).val + 5) := by
  rw [val_main_v83_apply, val_main_v82_apply, val_main_v81_apply, val_main_v79_apply, val_main_v78_apply, val_main_v80_apply]
  exact congrArg₂ (· * ·) (at2_index wc _ _ _ (by first | rfl | simp) (Nat.mod_eq_of_lt (i 2).isLt)) (v41_apply u _ _ _ _ rfl (by first | rfl | exact Nat.add_comm _ _) rfl)

theorem long_tap6 (i : S4x4096x512.Idx) : val_main_v90 (F := Ideal) u wc i = at2 wc 6 (i 2).val * held 30 (glu u (i 0).val (i 2).val) ((i 1).val + 6) := by
  rw [val_main_v90_apply, val_main_v89_apply, val_main_v88_apply, val_main_v86_apply, val_main_v85_apply, val_main_v87_apply]
  exact congrArg₂ (· * ·) (at2_index wc _ _ _ (by first | rfl | simp) (Nat.mod_eq_of_lt (i 2).isLt)) (v41_apply u _ _ _ _ rfl (by first | rfl | exact Nat.add_comm _ _) rfl)

theorem long_tap7 (i : S4x4096x512.Idx) : val_main_v97 (F := Ideal) u wc i = at2 wc 7 (i 2).val * held 30 (glu u (i 0).val (i 2).val) ((i 1).val + 7) := by
  rw [val_main_v97_apply, val_main_v96_apply, val_main_v95_apply, val_main_v93_apply, val_main_v92_apply, val_main_v94_apply]
  exact congrArg₂ (· * ·) (at2_index wc _ _ _ (by first | rfl | simp) (Nat.mod_eq_of_lt (i 2).isLt)) (v41_apply u _ _ _ _ rfl (by first | rfl | exact Nat.add_comm _ _) rfl)

theorem long_tap8 (i : S4x4096x512.Idx) : val_main_v104 (F := Ideal) u wc i = at2 wc 8 (i 2).val * held 30 (glu u (i 0).val (i 2).val) ((i 1).val + 8) := by
  rw [val_main_v104_apply, val_main_v103_apply, val_main_v102_apply, val_main_v100_apply, val_main_v99_apply, val_main_v101_apply]
  exact congrArg₂ (· * ·) (at2_index wc _ _ _ (by first | rfl | simp) (Nat.mod_eq_of_lt (i 2).isLt)) (v41_apply u _ _ _ _ rfl (by first | rfl | exact Nat.add_comm _ _) rfl)

theorem long_tap9 (i : S4x4096x512.Idx) : val_main_v111 (F := Ideal) u wc i = at2 wc 9 (i 2).val * held 30 (glu u (i 0).val (i 2).val) ((i 1).val + 9) := by
  rw [val_main_v111_apply, val_main_v110_apply, val_main_v109_apply, val_main_v107_apply, val_main_v106_apply, val_main_v108_apply]
  exact congrArg₂ (· * ·) (at2_index wc _ _ _ (by first | rfl | simp) (Nat.mod_eq_of_lt (i 2).isLt)) (v41_apply u _ _ _ _ rfl (by first | rfl | exact Nat.add_comm _ _) rfl)

theorem long_tap10 (i : S4x4096x512.Idx) : val_main_v118 (F := Ideal) u wc i = at2 wc 10 (i 2).val * held 30 (glu u (i 0).val (i 2).val) ((i 1).val + 10) := by
  rw [val_main_v118_apply, val_main_v117_apply, val_main_v116_apply, val_main_v114_apply, val_main_v113_apply, val_main_v115_apply]
  exact congrArg₂ (· * ·) (at2_index wc _ _ _ (by first | rfl | simp) (Nat.mod_eq_of_lt (i 2).isLt)) (v41_apply u _ _ _ _ rfl (by first | rfl | exact Nat.add_comm _ _) rfl)

theorem long_tap11 (i : S4x4096x512.Idx) : val_main_v125 (F := Ideal) u wc i = at2 wc 11 (i 2).val * held 30 (glu u (i 0).val (i 2).val) ((i 1).val + 11) := by
  rw [val_main_v125_apply, val_main_v124_apply, val_main_v123_apply, val_main_v121_apply, val_main_v120_apply, val_main_v122_apply]
  exact congrArg₂ (· * ·) (at2_index wc _ _ _ (by first | rfl | simp) (Nat.mod_eq_of_lt (i 2).isLt)) (v41_apply u _ _ _ _ rfl (by first | rfl | exact Nat.add_comm _ _) rfl)

theorem long_tap12 (i : S4x4096x512.Idx) : val_main_v132 (F := Ideal) u wc i = at2 wc 12 (i 2).val * held 30 (glu u (i 0).val (i 2).val) ((i 1).val + 12) := by
  rw [val_main_v132_apply, val_main_v131_apply, val_main_v130_apply, val_main_v128_apply, val_main_v127_apply, val_main_v129_apply]
  exact congrArg₂ (· * ·) (at2_index wc _ _ _ (by first | rfl | simp) (Nat.mod_eq_of_lt (i 2).isLt)) (v41_apply u _ _ _ _ rfl (by first | rfl | exact Nat.add_comm _ _) rfl)

theorem long_tap13 (i : S4x4096x512.Idx) : val_main_v139 (F := Ideal) u wc i = at2 wc 13 (i 2).val * held 30 (glu u (i 0).val (i 2).val) ((i 1).val + 13) := by
  rw [val_main_v139_apply, val_main_v138_apply, val_main_v137_apply, val_main_v135_apply, val_main_v134_apply, val_main_v136_apply]
  exact congrArg₂ (· * ·) (at2_index wc _ _ _ (by first | rfl | simp) (Nat.mod_eq_of_lt (i 2).isLt)) (v41_apply u _ _ _ _ rfl (by first | rfl | exact Nat.add_comm _ _) rfl)

theorem long_tap14 (i : S4x4096x512.Idx) : val_main_v146 (F := Ideal) u wc i = at2 wc 14 (i 2).val * held 30 (glu u (i 0).val (i 2).val) ((i 1).val + 14) := by
  rw [val_main_v146_apply, val_main_v145_apply, val_main_v144_apply, val_main_v142_apply, val_main_v141_apply, val_main_v143_apply]
  exact congrArg₂ (· * ·) (at2_index wc _ _ _ (by first | rfl | simp) (Nat.mod_eq_of_lt (i 2).isLt)) (v41_apply u _ _ _ _ rfl (by first | rfl | exact Nat.add_comm _ _) rfl)

theorem long_tap15 (i : S4x4096x512.Idx) : val_main_v153 (F := Ideal) u wc i = at2 wc 15 (i 2).val * held 30 (glu u (i 0).val (i 2).val) ((i 1).val + 15) := by
  rw [val_main_v153_apply, val_main_v152_apply, val_main_v151_apply, val_main_v149_apply, val_main_v148_apply, val_main_v150_apply]
  exact congrArg₂ (· * ·) (at2_index wc _ _ _ (by first | rfl | simp) (Nat.mod_eq_of_lt (i 2).isLt)) (v41_apply u _ _ _ _ rfl (by first | rfl | exact Nat.add_comm _ _) rfl)

theorem long_tap16 (i : S4x4096x512.Idx) : val_main_v160 (F := Ideal) u wc i = at2 wc 16 (i 2).val * held 30 (glu u (i 0).val (i 2).val) ((i 1).val + 16) := by
  rw [val_main_v160_apply, val_main_v159_apply, val_main_v158_apply, val_main_v156_apply, val_main_v155_apply, val_main_v157_apply]
  exact congrArg₂ (· * ·) (at2_index wc _ _ _ (by first | rfl | simp) (Nat.mod_eq_of_lt (i 2).isLt)) (v41_apply u _ _ _ _ rfl (by first | rfl | exact Nat.add_comm _ _) rfl)

theorem long_tap17 (i : S4x4096x512.Idx) : val_main_v167 (F := Ideal) u wc i = at2 wc 17 (i 2).val * held 30 (glu u (i 0).val (i 2).val) ((i 1).val + 17) := by
  rw [val_main_v167_apply, val_main_v166_apply, val_main_v165_apply, val_main_v163_apply, val_main_v162_apply, val_main_v164_apply]
  exact congrArg₂ (· * ·) (at2_index wc _ _ _ (by first | rfl | simp) (Nat.mod_eq_of_lt (i 2).isLt)) (v41_apply u _ _ _ _ rfl (by first | rfl | exact Nat.add_comm _ _) rfl)

theorem long_tap18 (i : S4x4096x512.Idx) : val_main_v174 (F := Ideal) u wc i = at2 wc 18 (i 2).val * held 30 (glu u (i 0).val (i 2).val) ((i 1).val + 18) := by
  rw [val_main_v174_apply, val_main_v173_apply, val_main_v172_apply, val_main_v170_apply, val_main_v169_apply, val_main_v171_apply]
  exact congrArg₂ (· * ·) (at2_index wc _ _ _ (by first | rfl | simp) (Nat.mod_eq_of_lt (i 2).isLt)) (v41_apply u _ _ _ _ rfl (by first | rfl | exact Nat.add_comm _ _) rfl)

theorem long_tap19 (i : S4x4096x512.Idx) : val_main_v181 (F := Ideal) u wc i = at2 wc 19 (i 2).val * held 30 (glu u (i 0).val (i 2).val) ((i 1).val + 19) := by
  rw [val_main_v181_apply, val_main_v180_apply, val_main_v179_apply, val_main_v177_apply, val_main_v176_apply, val_main_v178_apply]
  exact congrArg₂ (· * ·) (at2_index wc _ _ _ (by first | rfl | simp) (Nat.mod_eq_of_lt (i 2).isLt)) (v41_apply u _ _ _ _ rfl (by first | rfl | exact Nat.add_comm _ _) rfl)

theorem long_tap20 (i : S4x4096x512.Idx) : val_main_v188 (F := Ideal) u wc i = at2 wc 20 (i 2).val * held 30 (glu u (i 0).val (i 2).val) ((i 1).val + 20) := by
  rw [val_main_v188_apply, val_main_v187_apply, val_main_v186_apply, val_main_v184_apply, val_main_v183_apply, val_main_v185_apply]
  exact congrArg₂ (· * ·) (at2_index wc _ _ _ (by first | rfl | simp) (Nat.mod_eq_of_lt (i 2).isLt)) (v41_apply u _ _ _ _ rfl (by first | rfl | exact Nat.add_comm _ _) rfl)

theorem long_tap21 (i : S4x4096x512.Idx) : val_main_v195 (F := Ideal) u wc i = at2 wc 21 (i 2).val * held 30 (glu u (i 0).val (i 2).val) ((i 1).val + 21) := by
  rw [val_main_v195_apply, val_main_v194_apply, val_main_v193_apply, val_main_v191_apply, val_main_v190_apply, val_main_v192_apply]
  exact congrArg₂ (· * ·) (at2_index wc _ _ _ (by first | rfl | simp) (Nat.mod_eq_of_lt (i 2).isLt)) (v41_apply u _ _ _ _ rfl (by first | rfl | exact Nat.add_comm _ _) rfl)

theorem long_tap22 (i : S4x4096x512.Idx) : val_main_v202 (F := Ideal) u wc i = at2 wc 22 (i 2).val * held 30 (glu u (i 0).val (i 2).val) ((i 1).val + 22) := by
  rw [val_main_v202_apply, val_main_v201_apply, val_main_v200_apply, val_main_v198_apply, val_main_v197_apply, val_main_v199_apply]
  exact congrArg₂ (· * ·) (at2_index wc _ _ _ (by first | rfl | simp) (Nat.mod_eq_of_lt (i 2).isLt)) (v41_apply u _ _ _ _ rfl (by first | rfl | exact Nat.add_comm _ _) rfl)

theorem long_tap23 (i : S4x4096x512.Idx) : val_main_v209 (F := Ideal) u wc i = at2 wc 23 (i 2).val * held 30 (glu u (i 0).val (i 2).val) ((i 1).val + 23) := by
  rw [val_main_v209_apply, val_main_v208_apply, val_main_v207_apply, val_main_v205_apply, val_main_v204_apply, val_main_v206_apply]
  exact congrArg₂ (· * ·) (at2_index wc _ _ _ (by first | rfl | simp) (Nat.mod_eq_of_lt (i 2).isLt)) (v41_apply u _ _ _ _ rfl (by first | rfl | exact Nat.add_comm _ _) rfl)

theorem long_tap24 (i : S4x4096x512.Idx) : val_main_v216 (F := Ideal) u wc i = at2 wc 24 (i 2).val * held 30 (glu u (i 0).val (i 2).val) ((i 1).val + 24) := by
  rw [val_main_v216_apply, val_main_v215_apply, val_main_v214_apply, val_main_v212_apply, val_main_v211_apply, val_main_v213_apply]
  exact congrArg₂ (· * ·) (at2_index wc _ _ _ (by first | rfl | simp) (Nat.mod_eq_of_lt (i 2).isLt)) (v41_apply u _ _ _ _ rfl (by first | rfl | exact Nat.add_comm _ _) rfl)

theorem long_tap25 (i : S4x4096x512.Idx) : val_main_v223 (F := Ideal) u wc i = at2 wc 25 (i 2).val * held 30 (glu u (i 0).val (i 2).val) ((i 1).val + 25) := by
  rw [val_main_v223_apply, val_main_v222_apply, val_main_v221_apply, val_main_v219_apply, val_main_v218_apply, val_main_v220_apply]
  exact congrArg₂ (· * ·) (at2_index wc _ _ _ (by first | rfl | simp) (Nat.mod_eq_of_lt (i 2).isLt)) (v41_apply u _ _ _ _ rfl (by first | rfl | exact Nat.add_comm _ _) rfl)

theorem long_tap26 (i : S4x4096x512.Idx) : val_main_v230 (F := Ideal) u wc i = at2 wc 26 (i 2).val * held 30 (glu u (i 0).val (i 2).val) ((i 1).val + 26) := by
  rw [val_main_v230_apply, val_main_v229_apply, val_main_v228_apply, val_main_v226_apply, val_main_v225_apply, val_main_v227_apply]
  exact congrArg₂ (· * ·) (at2_index wc _ _ _ (by first | rfl | simp) (Nat.mod_eq_of_lt (i 2).isLt)) (v41_apply u _ _ _ _ rfl (by first | rfl | exact Nat.add_comm _ _) rfl)

theorem long_tap27 (i : S4x4096x512.Idx) : val_main_v237 (F := Ideal) u wc i = at2 wc 27 (i 2).val * held 30 (glu u (i 0).val (i 2).val) ((i 1).val + 27) := by
  rw [val_main_v237_apply, val_main_v236_apply, val_main_v235_apply, val_main_v233_apply, val_main_v232_apply, val_main_v234_apply]
  exact congrArg₂ (· * ·) (at2_index wc _ _ _ (by first | rfl | simp) (Nat.mod_eq_of_lt (i 2).isLt)) (v41_apply u _ _ _ _ rfl (by first | rfl | exact Nat.add_comm _ _) rfl)

theorem long_tap28 (i : S4x4096x512.Idx) : val_main_v244 (F := Ideal) u wc i = at2 wc 28 (i 2).val * held 30 (glu u (i 0).val (i 2).val) ((i 1).val + 28) := by
  rw [val_main_v244_apply, val_main_v243_apply, val_main_v242_apply, val_main_v240_apply, val_main_v239_apply, val_main_v241_apply]
  exact congrArg₂ (· * ·) (at2_index wc _ _ _ (by first | rfl | simp) (Nat.mod_eq_of_lt (i 2).isLt)) (v41_apply u _ _ _ _ rfl (by first | rfl | exact Nat.add_comm _ _) rfl)

theorem long_tap29 (i : S4x4096x512.Idx) : val_main_v251 (F := Ideal) u wc i = at2 wc 29 (i 2).val * held 30 (glu u (i 0).val (i 2).val) ((i 1).val + 29) := by
  rw [val_main_v251_apply, val_main_v250_apply, val_main_v249_apply, val_main_v247_apply, val_main_v246_apply, val_main_v248_apply]
  exact congrArg₂ (· * ·) (at2_index wc _ _ _ (by first | rfl | simp) (Nat.mod_eq_of_lt (i 2).isLt)) (v41_apply u _ _ _ _ rfl (by first | rfl | exact Nat.add_comm _ _) rfl)

theorem long_tap30 (i : S4x4096x512.Idx) : val_main_v258 (F := Ideal) u wc i = at2 wc 30 (i 2).val * held 30 (glu u (i 0).val (i 2).val) ((i 1).val + 30) := by
  rw [val_main_v258_apply, val_main_v257_apply, val_main_v256_apply, val_main_v254_apply, val_main_v253_apply, val_main_v255_apply]
  exact congrArg₂ (· * ·) (at2_index wc _ _ _ (by first | rfl | simp) (Nat.mod_eq_of_lt (i 2).isLt)) (v41_apply u _ _ _ _ rfl (by first | rfl | exact Nat.add_comm _ _) rfl)

/-- The long convolution before its bias. -/
theorem long_apply (i : S4x4096x512.Idx) : val_main_v259 (F := Ideal) u wc i = long u wc (i 0).val (i 1).val (i 2).val := by
  rw [val_main_v259_apply, long_tap30, val_main_v252_apply, long_tap29, val_main_v245_apply, long_tap28, val_main_v238_apply, long_tap27, val_main_v231_apply, long_tap26, val_main_v224_apply, long_tap25, val_main_v217_apply, long_tap24, val_main_v210_apply, long_tap23, val_main_v203_apply, long_tap22, val_main_v196_apply, long_tap21, val_main_v189_apply, long_tap20, val_main_v182_apply, long_tap19, val_main_v175_apply, long_tap18, val_main_v168_apply, long_tap17, val_main_v161_apply, long_tap16, val_main_v154_apply, long_tap15, val_main_v147_apply, long_tap14, val_main_v140_apply, long_tap13, val_main_v133_apply, long_tap12, val_main_v126_apply, long_tap11, val_main_v119_apply, long_tap10, val_main_v112_apply, long_tap9, val_main_v105_apply, long_tap8, val_main_v98_apply, long_tap7, val_main_v91_apply, long_tap6, val_main_v84_apply, long_tap5, val_main_v77_apply, long_tap4, val_main_v70_apply, long_tap3, val_main_v63_apply, long_tap2, val_main_v56_apply, long_tap1, val_main_v49_apply, long_tap0, val_main_v48_apply, val_main_cst_3_apply]
  unfold long
  rw [show (FloatOps.ofBits .f32 0x00000000#32 : Ideal .f32) = (0 : EReal) from Ideal.ofBits_zero_f32]
  rfl

/-- The first result, entry by entry. -/
theorem ya_apply (a : Fin 16384) (d : Fin 512) :
    val_main_v289 (F := Ideal) u wa (ix2 a d) = at2 u a.val d.val * short u wa (a.val / 4096) (a.val % 4096) d.val := by
  have ha := a.isLt
  have hd := d.isLt
  rw [val_main_v289_apply, Ideal.truncf_def, val_main_v288_apply, val_main_v33_apply, v3_apply, short_apply]
  have e0 : ((idx_main_v288 (ix2 a d)) 0).val = a.val / 4096 := by
    show (a.val * 512 + d.val) / 2097152 = _
    omega
  have e1 : ((idx_main_v288 (ix2 a d)) 1).val = a.val % 4096 := by
    show (a.val * 512 + d.val) / 512 % 4096 = _
    omega
  have e2 : ((idx_main_v288 (ix2 a d)) 2).val = d.val := by
    show (a.val * 512 + d.val) % 512 = _
    omega
  rw [e0, e1, e2, show a.val / 4096 * 4096 + a.val % 4096 = a.val by omega]
  rfl

/-- The long convolution with its bias. -/
def accC (b s : ℕ) (e : Fin 512) : EReal := long u wc b s e.val + bc (ix1 e)

theorem v262_apply (i : S4x4096x512.Idx) : val_main_v262 (F := Ideal) u wc bc i = accC u wc bc (i 0).val (i 1).val (i 2) := by
  rw [val_main_v262_apply, long_apply, val_main_v261_apply, val_main_v260_apply]
  refine congrArg (_ + ·) (congrArg bc ?_)
  funext a
  fin_cases a
  rfl

/-- The long convolution's layer norm. -/
theorem v286_apply (b : Fin 4) (s : Fin 4096) (d : Fin 512) :
    val_main_v286 (F := Ideal) u wc bc g h (ix3 b s d) =
      (accC u wc bc b.val s.val d - Ideal.div (∑ e, accC u wc bc b.val s.val e) (Ideal.ofBits .f32 0x44000000#32))
        * Ideal.rsqrt (Ideal.div (∑ e, (accC u wc bc b.val s.val e - Ideal.div (∑ e, accC u wc bc b.val s.val e) (Ideal.ofBits .f32 0x44000000#32))
          * (accC u wc bc b.val s.val e - Ideal.div (∑ e, accC u wc bc b.val s.val e) (Ideal.ofBits .f32 0x44000000#32))) (Ideal.ofBits .f32 0x44000000#32) + Ideal.ofBits .f32 0x358637BD#32)
        * g (ix1 d) + h (ix1 d) := by
  rw [val_main_v286_apply, val_main_v285_apply, val_main_v284_apply, val_main_v283_apply, val_main_v282_apply, val_main_v281_apply, val_main_v280_apply,
    val_main_v279_apply, val_main_v278_apply, val_main_v277_apply, val_main_v276_apply, val_main_v275_apply, val_main_v274_apply, val_main_v273_apply,
    val_main_v272_apply, val_main_v271_apply, val_main_v270_apply]
  simp only [val_main_v269_apply, val_main_v268_apply, val_main_v267_apply, val_main_v266_apply, val_main_v265_apply, val_main_v264_apply, val_main_v263_apply,
    val_main_cst_4_apply, val_main_cst_5_apply, val_main_cst_6_apply, val_main_cst_7_apply, val_main_cst_8_apply, v262_apply]
  simp only [Ideal.mulf_def, Ideal.addf_def, Ideal.subf_def, Ideal.hostDivf_def, Ideal.ofBits_def, Ideal.ofBits_zero_f32, zero_add]
  have e1 : idx_main_v281 (idx_main_v282 (ix3 b s d)) = ix1 d := by
    funext a
    fin_cases a
    rfl
  have e2 : idx_main_v284 (idx_main_v285 (ix3 b s d)) = ix1 d := by
    funext a
    fin_cases a
    rfl
  rw [e1, e2]
  rfl

/-- The second result, entry by entry. -/
theorem yc_apply (a : Fin 16384) (d : Fin 512) :
    val_main_v291 (F := Ideal) u wc bc g h (ix2 a d)
      = swished (fun e => long u wc (a.val / 4096) (a.val % 4096) e.val + bc (ix1 e)) (fun e => g (ix1 e)) (fun e => h (ix1 e)) d := by
  have ha := a.isLt
  have hd := d.isLt
  have e : idx_main_v290 (ix2 a d) = ix3 (⟨a.val / 4096, by omega⟩ : Fin 4) (⟨a.val % 4096, by omega⟩ : Fin 4096) d := by
    funext k
    apply Fin.ext
    fin_cases k
    · show (a.val * 512 + d.val) / 2097152 = a.val / 4096
      omega
    · show (a.val * 512 + d.val) / 512 % 4096 = a.val % 4096
      omega
    · show (a.val * 512 + d.val) % 512 = d.val
      omega
  rw [val_main_v291_apply, Ideal.truncf_def, val_main_v290_apply, e, val_main_v287_apply, val_main_call2_v5_apply, val_main_call2_v4_apply, val_main_call2_v3_apply,
    val_main_call2_v2_apply, val_main_call2_v1_apply, val_main_call2_v0_apply, val_main_call2_cst_apply, val_main_call2_cst_0_apply, v286_apply]
  exact congrArg (_ * ·) (logistic_eq _)

end Cert.MixersReferenceIdeal.Body
-- ==== Proof.MixWhole.lean ====
module

public import proofs.«01_k».proof.Proof.MixBody
public import proofs.«01_k».proof.Proof.MixRef
public import proofs.«01_k».proof.Proof.Gen.MixersIdeal.Value
public import Idealize.ShloMosaic.Lib.Pipeline.ValueKit
public import Idealize.ShloMosaic.Lib.Claim

@[expose] public section

set_option maxRecDepth 16384

noncomputable section

namespace Cert.MixersIdeal.Body

open Idealize.ShloMosaic Idealize.ShloMosaic.TcCoe Idealize.SL.Sem Cert.MixersIdeal Cert.MixersIdeal.Gen Cert.Mix
open Idealize.ShloMosaic.Pipeline (Dat)

variable (m : (ℓ : Loc nD τ sig) → Buf (Elt Ideal) ℓ)

/-- The blocks each window takes at a grid point. -/
theorem idx : ∀ t : Fin cfg0.N, win0_0.index t = ![t.val, 0] ∧ win0_1.index t = ![t.val, 1] ∧ win0_2.index t = ![t.val, 2]
    ∧ win0_3.index t = ![t.val, 9] ∧ win0_4.index t = ![t.val, 10] ∧ win0_5.index t = ![0, 0] ∧ win0_6.index t = ![0, 0]
    ∧ win0_7.index t = ![0, 0] ∧ win0_8.index t = ![0, 0] ∧ win0_9.index t = ![0, 0]
    ∧ win0_10.index t = ![t.val, 0] ∧ win0_11.index t = ![t.val, 0] :=
  (by decide +kernel : ∀ t : Fin grid0.N, _)

/-- The projected rows. -/
abbrev uu (c : Dev nD) : (⟨2, ![16384, 5632]⟩ : Shape).Idx → EReal := m ((c : Thread nD τ).loc main_arg0)

/-- The short convolution's weights. -/
abbrev ww (c : Dev nD) : (⟨2, ![3, 512]⟩ : Shape).Idx → EReal := m ((c : Thread nD τ).loc main_arg1)

/-- The long convolution's weights. -/
abbrev wl (c : Dev nD) : (⟨2, ![31, 512]⟩ : Shape).Idx → EReal := m ((c : Thread nD τ).loc main_arg2)

theorem u_read0 (c : Dev nD) (n : ℕ) (h : n < cfg0.N) (r : Fin 256) (d : Fin 512) :
    (iblk m c 0 ⟨n, h⟩ : Vec Ideal S256x512 .bf16) (ix2 r d) = at2 (uu m c) (n * 256 + r.val) (d.val) := by
  have hn : n < 64 := h
  rw [at2_of _ _ _ (by omega) (by omega)]
  blk_ext! [iblk, V, idx ⟨n, h⟩]

theorem u_read1 (c : Dev nD) (n : ℕ) (h : n < cfg0.N) (r : Fin 256) (d : Fin 512) :
    (iblk m c 1 ⟨n, h⟩ : Vec Ideal S256x512 .bf16) (ix2 r d) = at2 (uu m c) (n * 256 + r.val) (512 + d.val) := by
  have hn : n < 64 := h
  rw [at2_of _ _ _ (by omega) (by omega)]
  blk_ext! [iblk, V, idx ⟨n, h⟩]

theorem u_read2 (c : Dev nD) (n : ℕ) (h : n < cfg0.N) (r : Fin 256) (d : Fin 512) :
    (iblk m c 2 ⟨n, h⟩ : Vec Ideal S256x512 .bf16) (ix2 r d) = at2 (uu m c) (n * 256 + r.val) (1024 + d.val) := by
  have hn : n < 64 := h
  rw [at2_of _ _ _ (by omega) (by omega)]
  blk_ext! [iblk, V, idx ⟨n, h⟩]

theorem u_read3 (c : Dev nD) (n : ℕ) (h : n < cfg0.N) (r : Fin 256) (d : Fin 512) :
    (iblk m c 3 ⟨n, h⟩ : Vec Ideal S256x512 .bf16) (ix2 r d) = at2 (uu m c) (n * 256 + r.val) (4608 + d.val) := by
  have hn : n < 64 := h
  rw [at2_of _ _ _ (by omega) (by omega)]
  blk_ext! [iblk, V, idx ⟨n, h⟩]

theorem u_read4 (c : Dev nD) (n : ℕ) (h : n < cfg0.N) (r : Fin 256) (d : Fin 512) :
    (iblk m c 4 ⟨n, h⟩ : Vec Ideal S256x512 .bf16) (ix2 r d) = at2 (uu m c) (n * 256 + r.val) (5120 + d.val) := by
  have hn : n < 64 := h
  rw [at2_of _ _ _ (by omega) (by omega)]
  blk_ext! [iblk, V, idx ⟨n, h⟩]

theorem w_read5 (c : Dev nD) (t : Fin cfg0.N) : (iblk m c 5 t : Vec Ideal S3x512 .f32) = ww m c := by
  funext y
  obtain ⟨r, d, rfl⟩ : ∃ (r : Fin 3) (d : Fin 512), y = ix2 r d := ⟨y 0, y 1, by funext a; fin_cases a <;> rfl⟩
  blk_ext! [iblk, V, idx t]

theorem w_read6 (c : Dev nD) (t : Fin cfg0.N) : (iblk m c 6 t : Vec Ideal S31x512 .f32) = wl m c := by
  funext y
  obtain ⟨r, d, rfl⟩ : ∃ (r : Fin 31) (d : Fin 512), y = ix2 r d := ⟨y 0, y 1, by funext a; fin_cases a <;> rfl⟩
  blk_ext! [iblk, V, idx t]

theorem v_read7 (c : Dev nD) (t : Fin cfg0.N) (k : Fin 512) :
    (iblk m c 7 t : Vec Ideal S1x512 .f32) (ix2 0 k) = m ((c : Thread nD τ).loc main_arg3) (ix1 k) := by
  blk_simp [iblk, idx t]
  entry_read
  have e : ((View.whole main_v0).slice (win0_7.rect t)).emb (ix2 0 k) = (ix2 0 k : S1x512.Idx) := by
    funext a
    apply Fin.ext
    blk_simp [idx t]
    fin_cases a <;> simp
  rw [e]
  exact shapeCast_apply _ _ _ _ (by show (S512.rowMajor (ix1 k)).val = (S1x512.rowMajor (ix2 0 k)).val; rw [Shape.rowMajor_val_one, Shape.rowMajor_val_two]; simp)

theorem v_read8 (c : Dev nD) (t : Fin cfg0.N) (k : Fin 512) :
    (iblk m c 8 t : Vec Ideal S1x512 .f32) (ix2 0 k) = m ((c : Thread nD τ).loc main_arg4) (ix1 k) := by
  blk_simp [iblk, idx t]
  entry_read
  have e : ((View.whole main_v1).slice (win0_8.rect t)).emb (ix2 0 k) = (ix2 0 k : S1x512.Idx) := by
    funext a
    apply Fin.ext
    blk_simp [idx t]
    fin_cases a <;> simp
  rw [e]
  exact shapeCast_apply _ _ _ _ (by show (S512.rowMajor (ix1 k)).val = (S1x512.rowMajor (ix2 0 k)).val; rw [Shape.rowMajor_val_one, Shape.rowMajor_val_two]; simp)

theorem v_read9 (c : Dev nD) (t : Fin cfg0.N) (k : Fin 512) :
    (iblk m c 9 t : Vec Ideal S1x512 .f32) (ix2 0 k) = m ((c : Thread nD τ).loc main_arg5) (ix1 k) := by
  blk_simp [iblk, idx t]
  entry_read
  have e : ((View.whole main_v2).slice (win0_9.rect t)).emb (ix2 0 k) = (ix2 0 k : S1x512.Idx) := by
    funext a
    apply Fin.ext
    blk_simp [idx t]
    fin_cases a <;> simp
  rw [e]
  exact shapeCast_apply _ _ _ _ (by show (S512.rowMajor (ix1 k)).val = (S1x512.rowMajor (ix2 0 k)).val; rw [Shape.rowMajor_val_one, Shape.rowMajor_val_two]; simp)

/-- The rows kept at a grid point, entry by entry. -/
theorem kept0 (c : Dev nD) : ∀ (n : ℕ) (h : n < cfg0.N) (p : Fin 264) (d : Fin 512),
    (outsAt0 m c n h).2.2.1 (ix2 p d) = held 8 (gated (uu m c) (n / 16) d.val) (n % 16 * 256 + p.val)
  | n, h, p, d => by
    have hp := p.isLt
    by_cases h0 : n % 16 = 0
    · have h1 : ¬1 ≤ n % 16 := by omega
      have e := outsAt0_A m c ⟨n, h⟩ h0 h1
      dsimp only at e
      rw [e]
      dsimp only
      rw [sout_A_0, buf_apply]
      unfold held
      by_cases hq : p.val < 8
      · rw [dif_pos hq, if_pos (by omega), pay2_apply]
      · rw [dif_neg hq, if_neg (by omega), pay6_apply, u_read1, u_read2]
        unfold gated
        dsimp only
        rw [show n * 256 + (p.val - 8) = n / 16 * 4096 + (n % 16 * 256 + p.val - 8) by omega]
    · have h1 : 1 ≤ n % 16 := by omega
      have e := outsAt0_B m c ⟨n, h⟩ h0 h1
      dsimp only at e
      rw [e]
      dsimp only
      rw [sout_B_0, buf_apply]
      by_cases hq : p.val < 8
      · obtain ⟨q, rfl⟩ : ∃ q, n = q + 1 := ⟨n - 1, by omega⟩
        rw [dif_pos hq, pay4_apply, ld_rows, at2_of _ _ _ (by dsimp only; omega) d.isLt]
        refine (kept0 c q (Nat.lt_of_succ_lt h) ⟨256 + p.val, by omega⟩ d).trans ?_
        rw [show q / 16 = (q + 1) / 16 by omega, show q % 16 * 256 + (256 + p.val) = (q + 1) % 16 * 256 + p.val by omega]
      · unfold held
        rw [dif_neg hq, if_neg (by omega), pay6_apply, u_read1, u_read2]
        unfold gated
        dsimp only
        rw [show n * 256 + (p.val - 8) = n / 16 * 4096 + (n % 16 * 256 + p.val - 8) by omega]

/-- The rows kept at a grid point, entry by entry. -/
theorem kept1 (c : Dev nD) : ∀ (n : ℕ) (h : n < cfg0.N) (p : Fin 288) (d : Fin 512),
    (outsAt0 m c n h).2.2.2 (ix2 p d) = held 32 (glu (uu m c) (n / 16) d.val) (n % 16 * 256 + p.val)
  | n, h, p, d => by
    have hp := p.isLt
    by_cases h0 : n % 16 = 0
    · have h1 : ¬1 ≤ n % 16 := by omega
      have e := outsAt0_A m c ⟨n, h⟩ h0 h1
      dsimp only at e
      rw [e]
      dsimp only
      rw [sout_A_1, buf_apply]
      unfold held
      by_cases hq : p.val < 32
      · rw [dif_pos hq, if_pos (by omega), pay3_apply]
      · rw [dif_neg hq, if_neg (by omega), pay9_apply, u_read3, u_read4]
        unfold glu
        dsimp only
        rw [show n * 256 + (p.val - 32) = n / 16 * 4096 + (n % 16 * 256 + p.val - 32) by omega]
    · have h1 : 1 ≤ n % 16 := by omega
      have e := outsAt0_B m c ⟨n, h⟩ h0 h1
      dsimp only at e
      rw [e]
      dsimp only
      rw [sout_B_1, buf_apply]
      by_cases hq : p.val < 32
      · obtain ⟨q, rfl⟩ : ∃ q, n = q + 1 := ⟨n - 1, by omega⟩
        rw [dif_pos hq, pay5_apply, ld_rows, at2_of _ _ _ (by dsimp only; omega) d.isLt]
        refine (kept1 c q (Nat.lt_of_succ_lt h) ⟨256 + p.val, by omega⟩ d).trans ?_
        rw [show q / 16 = (q + 1) / 16 by omega, show q % 16 * 256 + (256 + p.val) = (q + 1) % 16 * 256 + p.val by omega]
      · unfold held
        rw [dif_neg hq, if_neg (by omega), pay9_apply, u_read3, u_read4]
        unfold glu
        dsimp only
        rw [show n * 256 + (p.val - 32) = n / 16 * 4096 + (n % 16 * 256 + p.val - 32) by omega]

/-- A kept row, read at an offset, is a row of the padded products. -/
theorem held_at (N K k : ℕ) (hk : k ≤ K) (C : (⟨2, ![N, 512]⟩ : Shape).Idx → EReal) (f : ℕ → ℕ → EReal) (q : ℕ)
    (hC : ∀ (p : Fin N) (d : Fin 512), C (ix2 p d) = held K (f d.val) (q + p.val)) (r j : ℕ) (d : Fin 512) (h : K - k + j + r < N) :
    at2 C (K - k + j + r) d.val = held k (f d.val) (q + r + j) := by
  rw [at2_of _ _ _ h d.isLt, hC, ← held_shift k (K - k) (f d.val) (q + r + j)]
  congr 1
  · omega
  · dsimp only
    omega

/-- What a grid point leaves of the short convolution. -/
theorem after10 (c : Dev nD) (n : ℕ) (h : n < cfg0.N) (r : Fin 256) (d : Fin 512) :
    (outsAt0 m c n h).1 (ix2 r d) = at2 (uu m c) (n * 256 + r.val) d.val * short (uu m c) (ww m c) (n / 16) (n % 16 * 256 + r.val) d.val := by
  have hr := r.isLt
  have k := kept0 m c n h
  by_cases h0 : n % 16 = 0
  · have h1 : ¬1 ≤ n % 16 := by omega
    have e := outsAt0_A m c ⟨n, h⟩ h0 h1
    dsimp only at e
    rw [e] at k ⊢
    dsimp only at k ⊢
    rw [sout_A_0] at k
    rw [out_A_10, outa_apply, u_read0, w_read5]
    unfold short
    refine congrArg (_ * ·) (run_congr _ _ _ 3 fun j hj => congrArg (_ * ·) ?_)
    exact held_at 264 8 2 (by omega) _ (gated (uu m c) (n / 16)) (n % 16 * 256) k r.val j d (by omega)
  · have h1 : 1 ≤ n % 16 := by omega
    have e := outsAt0_B m c ⟨n, h⟩ h0 h1
    dsimp only at e
    rw [e] at k ⊢
    dsimp only at k ⊢
    rw [sout_B_0] at k
    rw [out_B_10, outa_apply, u_read0, w_read5]
    unfold short
    refine congrArg (_ * ·) (run_congr _ _ _ 3 fun j hj => congrArg (_ * ·) ?_)
    exact held_at 264 8 2 (by omega) _ (gated (uu m c) (n / 16)) (n % 16 * 256) k r.val j d (by omega)

/-- What a grid point leaves of the long convolution. -/
theorem after11 (c : Dev nD) (n : ℕ) (h : n < cfg0.N) (r : Fin 256) (d : Fin 512) :
    (outsAt0 m c n h).2.1 (ix2 r d) = swished (fun e => long (uu m c) (wl m c) (n / 16) (n % 16 * 256 + r.val) e.val + m ((c : Thread nD τ).loc main_arg3) (ix1 e))
        (fun e => m ((c : Thread nD τ).loc main_arg4) (ix1 e)) (fun e => m ((c : Thread nD τ).loc main_arg5) (ix1 e)) d := by
  have hr := r.isLt
  have k := kept1 m c n h
  by_cases h0 : n % 16 = 0
  · have h1 : ¬1 ≤ n % 16 := by omega
    have e := outsAt0_A m c ⟨n, h⟩ h0 h1
    dsimp only at e
    rw [e] at k ⊢
    dsimp only at k ⊢
    rw [sout_A_1] at k
    rw [out_A_11, outc_apply, w_read6]
    refine congrFun (swished_congr (fun e => ?_) (v_read8 m c _) (v_read9 m c _)) d
    rw [v_read7]
    unfold long
    refine congrArg (· + _) (run_congr _ _ _ 31 fun j hj => congrArg (_ * ·) ?_)
    exact held_at 288 32 30 (by omega) _ (glu (uu m c) (n / 16)) (n % 16 * 256) k r.val j e (by omega)
  · have h1 : 1 ≤ n % 16 := by omega
    have e := outsAt0_B m c ⟨n, h⟩ h0 h1
    dsimp only at e
    rw [e] at k ⊢
    dsimp only at k ⊢
    rw [sout_B_1] at k
    rw [out_B_11, outc_apply, w_read6]
    refine congrFun (swished_congr (fun e => ?_) (v_read8 m c _) (v_read9 m c _)) d
    rw [v_read7]
    unfold long
    refine congrArg (· + _) (run_congr _ _ _ 31 fun j hj => congrArg (_ * ·) ?_)
    exact held_at 288 32 30 (by omega) _ (glu (uu m c) (n / 16)) (n % 16 * 256) k r.val j e (by omega)

/-- The first array the kernel leaves is the reference's first result. -/
theorem final10 (c : Dev nD) : (dats m 0 c).arrAt 10 cfg0.N = Cert.MixersReferenceIdeal.Read.val_main_v289 (F := Ideal)
    (m ((c : Thread nD τ).loc main_arg0)) (m ((c : Thread nD τ).loc main_arg1)) := by
  refine (dats m 0 c).arrAt_eq_of_covers 10 _ (by decide +kernel) fun t hf y => ?_
  obtain ⟨r, d, rfl⟩ : ∃ (r : Fin 256) (d : Fin 512), y = ix2 r d := ⟨y 0, y 1, by funext a; fin_cases a <;> rfl⟩
  obtain ⟨n, hn⟩ := t
  have hn' : n < 64 := hn
  have := r.isLt
  have e : ((cfg0.win 10).blk ⟨n, hn⟩).view.emb (ix2 r d) = (ix2 (⟨n * 256 + r.val, by omega⟩ : Fin 16384) d : S16384x512.Idx) := by
    funext a
    apply Fin.ext
    blk_simp [idx ⟨n, hn⟩]
    fin_cases a <;> simp
  rw [e, Cert.MixersReferenceIdeal.Body.ya_apply]
  blk_simp
  rw [after0_10, show (n * 256 + r.val) / 4096 = n / 16 by omega, show (n * 256 + r.val) % 4096 = n % 16 * 256 + r.val by omega]
  exact after10 m c n hn r d

/-- The second array the kernel leaves is the reference's second result. -/
theorem final11 (c : Dev nD) : (dats m 0 c).arrAt 11 cfg0.N = Cert.MixersReferenceIdeal.Read.val_main_v291 (F := Ideal)
    (m ((c : Thread nD τ).loc main_arg0)) (m ((c : Thread nD τ).loc main_arg2)) (m ((c : Thread nD τ).loc main_arg3)) (m ((c : Thread nD τ).loc main_arg4)) (m ((c : Thread nD τ).loc main_arg5)) := by
  refine (dats m 0 c).arrAt_eq_of_covers 11 _ (by decide +kernel) fun t hf y => ?_
  obtain ⟨r, d, rfl⟩ : ∃ (r : Fin 256) (d : Fin 512), y = ix2 r d := ⟨y 0, y 1, by funext a; fin_cases a <;> rfl⟩
  obtain ⟨n, hn⟩ := t
  have hn' : n < 64 := hn
  have := r.isLt
  have e : ((cfg0.win 11).blk ⟨n, hn⟩).view.emb (ix2 r d) = (ix2 (⟨n * 256 + r.val, by omega⟩ : Fin 16384) d : S16384x512.Idx) := by
    funext a
    apply Fin.ext
    blk_simp [idx ⟨n, hn⟩]
    fin_cases a <;> simp
  rw [e, Cert.MixersReferenceIdeal.Body.yc_apply]
  blk_simp
  rw [after0_11, show (n * 256 + r.val) / 4096 = n / 16 by omega, show (n * 256 + r.val) % 4096 = n % 16 * 256 + r.val by omega]
  exact after11 m c n hn r d

end Cert.MixersIdeal.Body
-- ==== Proof.CombRow.lean ====
/- The rows the combine kernel copies: where row `r` of half `s` of its scratch lies, where a row of the experts' array lies, and
   what the scratch holds once a row has been copied. -/
module

public import proofs.«01_k».proof.Proof.Gen.CombineIdeal.Frame
public import Idealize.ShloMosaic.Lib.Batch
public import Idealize.ShloMosaic.Lib.Pointwise.Index

@[expose] public section

noncomputable section

namespace Cert.CombineIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.CombineIdeal.Gen
open Idealize.ShloMosaic.Pipeline (UD)

variable {F : FTy → Type} [FloatOps F]

local notation "𝕄" => MT nD τ sig Unit (Elt F) ℕ (UD sig nD τ) ℕ

/-- The destination of a copy: a row, at offsets `o`, of the half of the scratch at offsets `p`. -/
def dstM (p : Fin 3 → ℕ) (hp : ∀ a, p a + S1x512x2048.size a ≤ S2x512x2048.size a) (o : Fin 2 → ℕ) (ho : ∀ a, o a + S1x2048.size a ≤ S512x2048.size a) :
    Memref sig .tc .vmem S1x2048 .f32 :=
  (((Memref.whole cc0_scratch0).slice (Rect.unit (s := S2x512x2048) p S1x512x2048.size hp) (fun _ => rfl)).squeeze S512x2048
    Facts₀.squeezes_S1x512x2048_S512x2048).slice (Rect.unit (s := S512x2048) o S1x2048.size ho) (fun _ => rfl)

/-- The source of a copy: a row, at offsets `o`, of the experts' rows. -/
def srcM (o : Fin 2 → ℕ) (ho : ∀ a, o a + S1x2048.size a ≤ S40960x2048.size a) : Memref sig .tc .hbm S1x2048 .f32 :=
  (Memref.whole main_arg1).slice (Rect.unit (s := S40960x2048) o S1x2048.size ho) (fun _ => rfl)

/-- The semaphore at offset `o` of the two. -/
def semM (o : Fin 1 → ℕ) (ho : ∀ a, o a + S1.size a ≤ S2.size a) : DmaSem sig :=
  ((cc0_scratch1.slice (Rect.unit (s := S2) o S1.size ho)).squeeze S_ Facts₀.squeezes_S1_S_).sem

theorem half_inb (s : Fin 2) : ∀ a, (![s.val, 0, 0] : Fin 3 → ℕ) a + S1x512x2048.size a ≤ S2x512x2048.size a := by
  have := s.isLt; intro a; fin_cases a
  · show s.val + 1 ≤ 2; omega
  · show 0 + 512 ≤ 512; omega
  · show 0 + 2048 ≤ 2048; omega
theorem row_inb (r : Fin 512) : ∀ a, (![r.val, 0] : Fin 2 → ℕ) a + S1x2048.size a ≤ S512x2048.size a := by
  have := r.isLt; intro a; fin_cases a
  · show r.val + 1 ≤ 512; omega
  · show 0 + 2048 ≤ 2048; omega
theorem word_inb (n : Fin 40960) : ∀ a, (![n.val, 0] : Fin 2 → ℕ) a + S1x2048.size a ≤ S40960x2048.size a := by
  have := n.isLt; intro a; fin_cases a
  · show n.val + 1 ≤ 40960; omega
  · show 0 + 2048 ≤ 2048; omega
theorem sem_inb (s : Fin 2) : ∀ a, (![s.val] : Fin 1 → ℕ) a + S1.size a ≤ S2.size a := by
  have := s.isLt; intro a; fin_cases a; show s.val + 1 ≤ 2; omega

/-- Row `r` of half `s` of the scratch, row `n` of the experts' rows, and half `s`'s semaphore. -/
def rowM (s : Fin 2) (r : Fin 512) : Memref sig .tc .vmem S1x2048 .f32 := dstM ![s.val, 0, 0] (half_inb s) ![r.val, 0] (row_inb r)
def expM (n : Fin 40960) : Memref sig .tc .hbm S1x2048 .f32 := srcM ![n.val, 0] (word_inb n)
def semS (s : Fin 2) : DmaSem sig := semM ![s.val] (sem_inb s)

theorem row_emb (s : Fin 2) (r : Fin 512) (x : S1x2048.Idx) : ((rowM s r).view.emb x : S2x512x2048.Idx) = ix3 s r (x 1) := by
  have h0 : (x 0).val = 0 := by have : (x 0).val < 1 := (x 0).isLt; omega
  show (Rect.unit (s := S2x512x2048) ![s.val, 0, 0] S1x512x2048.size (half_inb s)).emb
    (Shape.reshapeEquiv (s := S1x512x2048) (s' := S512x2048) _ ((Rect.unit (s := S512x2048) ![r.val, 0] S1x2048.size (row_inb r)).emb x)) = _
  have hc := Shape.reshapeEquiv_cons_one (n := 2) (d := ![512, 2048]) (Facts₀.squeezes_S1x512x2048_S512x2048 : S1x512x2048.Squeezes S512x2048).numel_eq
    ((Rect.unit (s := S512x2048) ![r.val, 0] S1x2048.size (row_inb r)).emb x)
  refine (congrArg (Rect.unit (s := S2x512x2048) ![s.val, 0, 0] S1x512x2048.size (half_inb s)).emb hc).trans ?_
  funext a
  apply Fin.ext
  fin_cases a
  · show s.val + 1 * 0 = s.val; omega
  · show 0 + 1 * (r.val + 1 * (x 0).val) = r.val; omega
  · show 0 + 1 * (0 + 1 * (x 1).val) = (x 1).val; omega

theorem exp_emb (n : Fin 40960) (x : S1x2048.Idx) : ((expM n).view.emb x : S40960x2048.Idx) = ix2 n (x 1) := by
  have h0 : (x 0).val = 0 := by have : (x 0).val < 1 := (x 0).isLt; omega
  show (Rect.unit (s := S40960x2048) ![n.val, 0] S1x2048.size (word_inb n)).emb x = _
  funext a
  apply Fin.ext
  fin_cases a
  · show n.val + 1 * (x 0).val = n.val; omega
  · show 0 + 1 * (x 1).val = (x 1).val; omega

/-- Which elements of the scratch row `r` of half `s` is. -/
theorem mem_row (s : Fin 2) (r : Fin 512) (i : S2x512x2048.Idx) : i ∈ (rowM s r).view.set ↔ i 0 = s ∧ i 1 = r := by
  constructor
  · intro h
    obtain ⟨x, -, rfl⟩ := Finset.mem_map.mp h
    have e := row_emb s r x
    exact ⟨congrFun e (0 : Fin 3), congrFun e (1 : Fin 3)⟩
  · rintro ⟨rfl, rfl⟩
    have e := row_emb (i 0) (i 1) (ix2 (0 : Fin 1) (i 2))
    have : i = (rowM (i 0) (i 1)).view.emb (ix2 (0 : Fin 1) (i 2)) := by
      refine Eq.trans ?_ e.symm
      funext a; fin_cases a <;> rfl
    have hm := View.emb_mem_set (rowM (i 0) (i 1)).view (ix2 (0 : Fin 1) (i 2))
    rw [← this] at hm
    exact hm

/-- The scratch's contents once row `r` holds row `T r` of the experts' rows `y`, whichever half. -/
def gath (y : S40960x2048.Idx → Elt F .f32) (T : Fin 512 → Fin 40960) : S2x512x2048.Idx → Elt F .f32 := fun i => y (ix2 (T (i 1)) (i 2))

/-- A copied row holds what `gath` says. -/
theorem row_write (s : Fin 2) (r : Fin 512) (T : Fin 512 → Fin 40960) (y : S40960x2048.Idx → Elt F .f32) (fd : S2x512x2048.Idx → Elt F .f32)
    (i : S2x512x2048.Idx) (hi : i ∈ (rowM s r).view.set) :
    ((rowM s r).view.write (Elt F) fd ((expM (T r)).view.read (Elt F) y) Finset.univ : S2x512x2048.Idx → Elt F .f32) i = gath y T i := by
  obtain ⟨x, -, rfl⟩ := Finset.mem_map.mp hi
  refine (View.write_emb_of_mem (v := (rowM s r).view) (Val := Elt F) fd _ (Finset.mem_univ x)).trans ?_
  have e := row_emb s r x
  have e' := exp_emb (T r) x
  show y ((expM (T r)).view.emb x) = gath y T ((rowM s r).view.emb x)
  rw [e, e']
  rfl

end Cert.CombineIdeal.Rows

end
-- ==== Proof.CombIssue.lean ====
/- One trip of the combine kernel's issuing loops: a row number is read, and the copy of that row of the experts' array into the
   scratch is started. -/
module

public import proofs.«01_k».proof.Proof.CombRow

@[expose] public section

noncomputable section

namespace Cert.CombineIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.CombineIdeal.Gen
open Idealize.ShloMosaic.Pipeline (UD)

variable {F : FTy → Type} [FloatOps F]

local notation "𝕄" => MT nD τ sig Unit (Elt F) ℕ (UD sig nD τ) ℕ

variable (c : Dev nD) (s : Fin 2) (T : Fin 512 → Fin 40960) (y : S40960x2048.Idx → Elt F .f32)

/-- Where the experts' rows lie, and where the scratch lies. -/
abbrev yLoc : Loc nD τ sig := (Memref.whole main_arg1 : Memref sig .tc .hbm S40960x2048 .f32).view.loc (c : Thread nD τ)
abbrev sLoc : Loc nD τ sig := (Memref.whole cc0_scratch0 : Memref sig .tc .vmem S2x512x2048 .f32).view.loc (c : Thread nD τ)

/-- The elements of row `r` of half `s`, and of row `n` of the experts' rows. -/
def rowSet (r : Fin 512) : Finset S2x512x2048.Idx := (rowM s r).view.set
def expSet (n : Fin 40960) : Finset S40960x2048.Idx := (expM n).view.set

/-- The experts' rows, the elements `S` of them, held at the share `q`. -/
abbrev yOn (S : Finset S40960x2048.Idx) (q : PosShare TreeShare) : sProp 𝕄 := yLoc c ↦[S]{q} y

/-- Half `s`'s share of the experts' rows, and its part for the copy of row `r`. -/
abbrev qHalf : PosShare TreeShare := Transfers.shareTokN fullShare s.val
abbrev qRow (r : ℕ) : PosShare TreeShare := Transfers.shareTokN (qHalf s) r

/-- The elements `S` of the scratch held at the contents `f`. -/
abbrev sOn (S : Finset S2x512x2048.Idx) (f : S2x512x2048.Idx → Elt F .f32) : sProp 𝕄 := sLoc c ↦[S]{fullShare} f

/-- What a copy takes, what it delivers, and what stays behind while it runs. -/
def before (r : Fin 512) : sProp 𝕄 := iprop((∃ f, sOn c (rowSet s r) f) ∗ yOn c y Finset.univ (qRow s r.val))
def given (r : Fin 512) : sProp 𝕄 := iprop(sOn c (rowSet s r) (gath y T) ∗ yOn c y (expSet (T r)) (qRow s r.val))
def kept (r : Fin 512) : sProp 𝕄 := yOn c y (Finset.univ \ expSet (T r)) (qRow s r.val)

theorem held_storable (ℓ : Loc nD τ sig) (S : Finset (Idx ℓ)) (q : PosShare TreeShare) (f : Buf (Elt F) ℓ) :
    BI.Storable (upEmb : UEmb _ 𝕄) (ℓ ↦[S]{q} f : sProp 𝕄) := inferInstance

instance given_storable (r : Fin 512) : BI.Storable (upEmb : UEmb _ 𝕄) (given c s T y r) := by
  unfold given
  haveI h1 : BI.Storable (upEmb : UEmb _ 𝕄) (sOn c (rowSet s r) (gath y T)) := held_storable (sLoc c) _ _ _
  haveI h2 : BI.Storable (upEmb : UEmb _ 𝕄) (yOn c y (expSet (T r)) (qRow s r.val)) := held_storable (yLoc c) _ _ _
  infer_instance

/-- What one copy adds to its semaphore. -/
def cred : ℕ := (rowM 0 0).view.dmaCredit
theorem row_amount (r : Fin 512) : (rowM s r).view.amount (.dma (semS s)) = cred := by rfl
theorem cred_pos : 0 < cred := View.dmaCredit_pos _ (by show 0 < S1x2048.numel; decide)

/-- The 512 copies into half `s`: `j` started, `u` units waited for. -/
def copies (j u : ℕ) : sProp 𝕄 := Transfers.Batch countersEmb (c : Thread nD τ) (.dma (semS s)) () cred (given c s T y) j u

/-- The body of an issuing loop, over the offsets it computes. -/
def issue (a : Memref sig .tc .smem S1x1x512 .i32) (w : Fin 3 → ℕ) (hw : ∀ a, w a + S1x1x1.size a ≤ S1x1x512.size a)
    (P : BitVec 32 → Prop) (dP : ∀ v, Decidable (P v)) (hP : ∀ v, P v → ∀ a, (![v.toNat, 0] : Fin 2 → ℕ) a + S1x2048.size a ≤ S40960x2048.size a)
    (g : Fin 1 → ℕ) (hg : ∀ a, g a + S1.size a ≤ S2.size a) (p : Fin 3 → ℕ) (hp : ∀ a, p a + S1x512x2048.size a ≤ S2x512x2048.size a)
    (o : Fin 2 → ℕ) (ho : ∀ a, o a + S1x2048.size a ≤ S512x2048.size a) : Prog (TpuEff nD τ sig (Elt F) Λ₀ .tc) PUnit := do
  let v : Elt F .i32 ← smemLoad a (Rect.unit (s := S1x1x512) w S1x1x1.size hw) Facts₀.numel1_S1x1x1 rfl
  have h : P v := (← Prog.lift (TpuEff.assume (P v) (dP v))).down
  Prog.lift (.enqueueDma (srcM ![v.toNat, 0] (hP v h)) (.here (dstM p hp o ho)) (.dma (semM g hg)) (View.wordExact_bits rfl) (View.wordExact_bits rfl) ⟨Or.inl rfl, trivial⟩)
  pure ⟨⟩

theorem srcM_eq (o : Fin 2 → ℕ) (ho : ∀ a, o a + S1x2048.size a ≤ S40960x2048.size a) (n : Fin 40960) (e : o = ![n.val, 0]) : srcM o ho = expM n := by
  subst e; rfl

/-- What a copy has written is the row asked for. -/
theorem given_of_copy (r : Fin 512) (fd : S2x512x2048.Idx → Elt F .f32) :
    iprop((sLoc c ↦[rowSet s r]{fullShare} (rowM s r).view.write (Elt F) fd ((expM (T r)).view.read (Elt F) y) Finset.univ) ∗ yOn c y (expSet (T r)) (qRow s r.val))
      ⊢ given c s T y r := by
  unfold given
  refine sep_mono_left (.of_eq ?_)
  exact pointsTo_congr (ℓ := sLoc c) fun i hi => row_write s r T y fd i hi

/-- The copy of row `r` started, its source and destination held. -/
theorem start_row {α : Type} (defs : Defs nD τ sig (Elt F) Λ₀) (r : Fin 512) (fd : S2x512x2048.Idx → Elt F .f32)
    {hsrc : (expM (T r)).view.WordExact} {hdst : (rowM s r).view.WordExact}
    {hsem : DmaTarget.Typed (nD := nD) (τ := τ) (p := .tc) .hbm (.dma (semS s)) (.here (rowM s r))}
    (k : PUnit → Prog (TpuEff nD τ sig (Elt F) Λ₀ .tc) α) (Q : α → sProp 𝕄) :
    iprop(yOn c y (expSet (T r)) (qRow s r.val) ∗ sOn c (rowSet s r) fd ∗ copies c s T y r.val 0)
      ⊢ iprop((copies c s T y (r.val + 1) 0 -∗ wp frame (wpE defs Variants.none (c : Thread nD τ) none) Set.univ (k ⟨⟩) Q)
        -∗ wp frame (wpE defs Variants.none (c : Thread nD τ) none) Set.univ
          (.op (.enqueueDma (expM (T r)) (.here (rowM s r)) (.dma (semS s)) hsrc hdst hsem) k) Q) := by
  have h := Transfers.wp_dmaBatch (n := 512) (Λ := Λ₀) (Val := Elt F) (Name := ℕ) (Lvl := ℕ) (U := UD sig nD τ) (defs := defs) (via := .same) countersEmb Variants.none (c : Thread nD τ) none (src := expM (T r)) (dst := rowM s r) (hsrc := hsrc) (hdst := hdst) (hsem := hsem) (k := k) (Q := Q)
    (q := qRow s r.val) (fs := y) (fd := fd) (Sd := rowSet s r) (D := given c s T y) (j := r.val) (u := 0)
    () cred (row_amount s r) (Finset.Subset.refl _) r.isLt (Nat.zero_le _) (given_of_copy c s T y r fd)
  exact h

/-- One trip: the copy of row `r` started. -/
theorem issue_step (defs : Defs nD τ sig (Elt F) Λ₀) (a : Memref sig .tc .smem S1x1x512 .i32) (f : a.view.ty.Contents (Elt F)) (r : Fin 512)
    (w : Fin 3 → ℕ) (hw : ∀ a, w a + S1x1x1.size a ≤ S1x1x512.size a) (P : BitVec 32 → Prop) (dP : ∀ v, Decidable (P v))
    (hP : ∀ v, P v → ∀ a, (![v.toNat, 0] : Fin 2 → ℕ) a + S1x2048.size a ≤ S40960x2048.size a)
    (g : Fin 1 → ℕ) (hg : ∀ a, g a + S1.size a ≤ S2.size a) (p : Fin 3 → ℕ) (hp : ∀ a, p a + S1x512x2048.size a ≤ S2x512x2048.size a)
    (o : Fin 2 → ℕ) (ho : ∀ a, o a + S1x2048.size a ≤ S512x2048.size a)
    (ew : w = ![0, 0, r.val]) (eg : g = ![s.val]) (ep : p = ![s.val, 0, 0]) (eo : o = ![r.val, 0])
    (hT : BitVec.toNat (a.view.read (Elt F) f (ix3 (0 : Fin 1) (0 : Fin 1) r) : BitVec 32) = (T r).val) (hv : P (a.view.read (Elt F) f (ix3 (0 : Fin 1) (0 : Fin 1) r))) :
    iprop((a.view.loc (c : Thread nD τ) ↦[a.view.set]{fullShare} f) ∗ copies c s T y r.val 0 ∗ before c s y r)
      ⊢ wp frame (wpE defs Variants.none (c : Thread nD τ) none) Set.univ (issue (F := F) a w hw P dP hP g hg p hp o ho)
        (fun _ => iprop((a.view.loc (c : Thread nD τ) ↦[a.view.set]{fullShare} f) ∗ copies c s T y (r.val + 1) 0 ∗ kept c s T y r)) := by
  subst ew eg ep eo
  have hx : (Rect.unit (s := S1x1x512) ![0, 0, r.val] S1x1x1.size hw).emb (Shape.Idx.first (Facts₀.numel1_S1x1x1.symm ▸ Nat.one_pos))
      = ix3 (0 : Fin 1) (0 : Fin 1) r := by
    generalize Shape.Idx.first (s := S1x1x1) (Facts₀.numel1_S1x1x1.symm ▸ Nat.one_pos) = x
    have h2 : (x 2).val = 0 := by have : (x 2).val < 1 := (x 2).isLt; omega
    funext a; apply Fin.ext
    fin_cases a
    · have : (x 0).val < 1 := (x 0).isLt
      show 0 + 1 * (x 0).val = 0; omega
    · have : (x 1).val < 1 := (x 1).isLt
      show 0 + 1 * (x 1).val = 0; omega
    · show r.val + 1 * (x 2).val = r.val; omega
  have hread : (a.access (Rect.unit (s := S1x1x512) ![0, 0, r.val] S1x1x1.size hw)).read (Elt F) f (Shape.Idx.first (Facts₀.numel1_S1x1x1.symm ▸ Nat.one_pos))
      = a.view.read (Elt F) f (ix3 (0 : Fin 1) (0 : Fin 1) r) := congrArg (a.view.read (Elt F) f) hx
  have hprog : issue (F := F) a ![0, 0, r.val] hw P dP hP ![s.val] hg ![s.val, 0, 0] hp ![r.val, 0] ho
      = smemLoadElt a (Rect.unit (s := S1x1x512) ![0, 0, r.val] S1x1x1.size hw) (View.loads_smem_one rfl Facts₀.numel1_S1x1x1)
          (Shape.Idx.first (Facts₀.numel1_S1x1x1.symm ▸ Nat.one_pos)) fun v => .op (TpuEff.assume (P v) (dP v)) fun h =>
            .op (.enqueueDma (srcM ![BitVec.toNat v, 0] (hP v h.down)) (.here (rowM s r)) (.dma (semS s))
              (View.wordExact_bits rfl) (View.wordExact_bits rfl) ⟨Or.inl rfl, trivial⟩) fun _ => .ret ⟨⟩ := rfl
  unfold before
  iintro ⟨Ha, HB, ⟨%fd, Hd⟩, Hy⟩
  rw [hprog]
  iapply (wp_smemLoadElt_named Variants.none (c : Thread nD τ) none Set.univ (m := a) (r := Rect.unit (s := S1x1x512) ![0, 0, r.val] S1x1x1.size hw) (S := a.view.set) (hS := View.set_slice_subset _ _)) $$ Ha
  iintro Ha %v %hvv
  rw [hread] at hvv
  rw [← hvv] at hT hv
  have hsrc : srcM ![BitVec.toNat v, 0] (hP v hv) = expM (T r) := srcM_eq _ _ _ (by rw [hT])
  iapply (wp_assume Variants.none (c : Thread nD τ) none Set.univ hv)
  rw [hsrc]
  have hsub : expSet (T r) ⊆ Finset.univ := Finset.subset_univ _
  ihave Hy' := (pointsTo_split_subset hsub).1 $$ Hy
  icases Hy' with ⟨Hy, Hrest⟩
  iapply (start_row c s T y defs r fd) $$ [Hd Hy HB]
  · isplitl [Hy]; · iexact Hy
    isplitl [Hd]; · iexact Hd
    iexact HB
  iintro HB
  rw [Sem.wp_ret]
  imodintro
  isplitl [Ha]; · iexact Ha
  isplitl [HB]; · iexact HB
  unfold kept; iexact Hrest

end Cert.CombineIdeal.Rows

end
-- ==== Proof.CombLoops.lean ====
/- The combine kernel's loops: the 512 copies into a half of the scratch started, and the same copies waited for. -/
module

public import proofs.«01_k».proof.Proof.CombIssue
public import Idealize.ShloMosaic.Lib.Ring

@[expose] public section

noncomputable section

namespace Cert.CombineIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.CombineIdeal.Gen
open Idealize.ShloMosaic.Pipeline (UD)

variable {F : FTy → Type} [FloatOps F]

local notation "𝕄" => MT nD τ sig Unit (Elt F) ℕ (UD sig nD τ) ℕ

variable (c : Dev nD) (s : Fin 2) (T : Fin 512 → Fin 40960) (y : S40960x2048.Idx → Elt F .f32)

/-- The elements of half `s` of the scratch. -/
def halfSet (s : Fin 2) : Finset S2x512x2048.Idx := Finset.univ.filter fun i => (i 0).val = s.val

theorem rows_disjoint : ∀ r r' : Fin 512, r ≠ r' → Disjoint (rowSet s r) (rowSet s r') := by
  intro r r' h
  rw [Finset.disjoint_left]
  intro i hi hi'
  exact h (((mem_row s r i).mp hi).2.symm.trans ((mem_row s r' i).mp hi').2)

theorem rows_half : Finset.univ.biUnion (rowSet s) = halfSet s := by
  ext i
  rw [Finset.mem_biUnion]
  constructor
  · rintro ⟨r, -, hr⟩
    exact Finset.mem_filter.mpr ⟨Finset.mem_univ _, congrArg Fin.val ((mem_row s r i).mp hr).1⟩
  · intro h
    exact ⟨i 1, Finset.mem_univ _, (mem_row s (i 1) i).mpr ⟨Fin.ext (Finset.mem_filter.mp h).2, rfl⟩⟩

theorem sep_all {ι : Type} (S : Finset ι) (Φ Ψ : ι → sProp 𝕄) : bigSep S (fun i => iprop(Φ i ∗ Ψ i)) = iprop(bigSep S Φ ∗ bigSep S Ψ) := bigSep_sep S Φ Ψ

/-- A half no copy is under way into, one with all its copies under way, and one whose copies have arrived. -/
def free : sProp 𝕄 := iprop((∃ f, sOn c (halfSet s) f) ∗ semVal ((c : Thread nD τ), SemLoc.dma (semS s)) 0 ∗ yOn c y Finset.univ (qHalf s))
def flight : sProp 𝕄 :=
  iprop(copies c s T y 512 0 ∗ bigSep Finset.univ (kept c s T y) ∗ yOn c y Finset.univ (Transfers.shareDrop (qHalf s) 512))
def filled : sProp 𝕄 := iprop(sOn c (halfSet s) (gath y T) ∗ semVal ((c : Thread nD τ), SemLoc.dma (semS s)) 0 ∗ yOn c y Finset.univ (qHalf s))

theorem filled_free : filled c s T y ⊢ free c s y := by
  unfold filled free
  iintro ⟨H, Hr⟩
  isplitl [H]; · iexists _; iexact H
  iexact Hr

/-- The share of the experts' rows cut into one part for each copy. -/
theorem y_cut : yOn c y Finset.univ (qHalf s)
    ⊣⊢ iprop(yOn c y Finset.univ (Transfers.shareDrop (qHalf s) 512) ∗ bigSep Finset.univ fun r : Fin 512 => yOn c y Finset.univ (qRow s r.val)) := by
  have h := Transfers.pointsTo_toks_range (ℓ := yLoc c) (S := Finset.univ) (f := y) (Ix := Unit) (Name := ℕ) (U := UD sig nD τ) (Lvl := ℕ) (qHalf s) 512
  rw [← Ring.bigSep_rangeSet_eq_range (NB := 512) (lo := 0) (hi := 512) le_rfl (Φ := fun r : Fin 512 => yOn c y Finset.univ (qRow s r.val)) _ (fun k hk => by
      show _ = yOn c y Finset.univ (Transfers.shareTokN (qHalf s) (0 + k))
      rw [Nat.zero_add]),
    Ring.rangeSet_univ] at h
  exact h

/-- A half is its rows. -/
theorem half_rows (f : S2x512x2048.Idx → Elt F .f32) : (sOn c (halfSet s) f : sProp 𝕄) = bigSep Finset.univ fun r : Fin 512 => sOn c (rowSet s r) f :=
  Ring.pointsTo_sub_blocks (ℓ := sLoc c) (rowSet s) (rows_disjoint s) (halfSet s) (rows_half s) f

theorem half_any (f : S2x512x2048.Idx → Elt F .f32) : sOn c (halfSet s) f ⊢ bigSep Finset.univ fun r : Fin 512 => iprop(∃ f, sOn c (rowSet s r) f) := by
  rw [half_rows]
  refine bigSep_mono fun r _ => ?_
  show iprop(sOn c (rowSet s r) f) ⊢ iprop(∃ f, sOn c (rowSet s r) f)
  iintro H; iexists f; iexact H

/-- A free half, its copies about to be started. -/
theorem free_open {β : Type} (defs : Defs nD τ sig (Elt F) Λ₀) (p : Prog (TpuEff nD τ sig (Elt F) Λ₀ .tc) β) (Q : β → sProp 𝕄) :
    free c s y ⊢ iprop((iprop(copies c s T y 0 0 ∗ bigSep Finset.univ (before c s y) ∗ yOn c y Finset.univ (Transfers.shareDrop (qHalf s) 512))
        -∗ wp frame (wpE defs Variants.none (c : Thread nD τ) none) Set.univ p Q)
      -∗ wp frame (wpE defs Variants.none (c : Thread nD τ) none) Set.univ p Q) := by
  unfold free
  iintro ⟨⟨%f, Hs⟩, Hv, Hy⟩ Hcont
  imod (Transfers.batch_alloc' (Lvl := ℕ) countersEmb (c : Thread nD τ) () cred (given c s T y) (sm := .dma (semS s)) (E := Set.univ)) $$ Hv with HB
  iapply Hcont
  isplitl [HB]; · unfold copies; iexact HB
  ihave Hy' := (y_cut c s y).1 $$ Hy
  icases Hy' with ⟨Hd, Ht⟩
  isplitr [Hd]
  · unfold before
    rw [sep_all]
    isplitl [Hs]
    · iapply (half_any c s f)
      iexact Hs
    · iexact Ht
  · iexact Hd

/-- A half whose copies have all arrived. -/
theorem all_given : iprop(bigSep Finset.univ (given c s T y) ∗ bigSep Finset.univ (kept c s T y) ∗ yOn c y Finset.univ (Transfers.shareDrop (qHalf s) 512))
    ⊢ iprop(sOn c (halfSet s) (gath y T) ∗ yOn c y Finset.univ (qHalf s)) := by
  unfold given
  rw [sep_all]
  iintro ⟨⟨Hs, Hg⟩, Hk, Hd⟩
  isplitl [Hs]
  · rw [half_rows]
    iexact Hs
  · iapply (y_cut c s y).2
    isplitl [Hd]; · iexact Hd
    have hj : iprop(bigSep Finset.univ (fun r => yOn c y (expSet (T r)) (qRow s r.val)) ∗ bigSep Finset.univ (kept c s T y))
        ⊢ bigSep Finset.univ fun r : Fin 512 => yOn c y Finset.univ (qRow s r.val) := by
      rw [← sep_all]
      refine bigSep_mono fun r _ => ?_
      exact (pointsTo_split_subset (ℓ := yLoc c) (Finset.subset_univ (expSet (T r)))).2
    iapply hj
    isplitl [Hg] <;> iassumption

/-- An issuing loop: from its trips, one by one. -/
theorem issue_loop (defs : Defs nD τ sig (Elt F) Λ₀) (lb ub st : BitVec 32) (hok : Scf.OK lb ub st) (tr : Scf.trips lb ub st = 512)
    (body : Fin (Scf.trips lb ub st) → PUnit → Prog (TpuEff nD τ sig (Elt F) Λ₀ .tc) PUnit) (tbl : sProp 𝕄)
    (hstep : ∀ (k : Fin (Scf.trips lb ub st)) (a : PUnit) (r : Fin 512), r.val = k.val → iprop(tbl ∗ copies c s T y r.val 0 ∗ before c s y r)
      ⊢ wp frame (wpE defs Variants.none (c : Thread nD τ) none) Set.univ (body k a) (fun _ => iprop(tbl ∗ copies c s T y (r.val + 1) 0 ∗ kept c s T y r))) :
    iprop(tbl ∗ free c s y) ⊢ wp frame (wpE defs Variants.none (c : Thread nD τ) none) Set.univ (Scf.for lb ub st hok ⟨⟩ body) (fun _ => iprop(tbl ∗ flight c s T y)) := by
  iintro ⟨Ht, Hf⟩
  iapply (free_open c s T y defs _ _) $$ Hf
  iintro ⟨HB, Hb, Hd⟩
  have hbody : ∀ (k : Fin (Scf.trips lb ub st)) (a : PUnit),
      iprop(tbl ∗ copies c s T y k.val 0 ∗ bigSep (Ring.rangeSet 512 k.val 512) (before c s y) ∗ bigSep (Ring.rangeSet 512 0 k.val) (kept c s T y))
        ⊢ wp frame (wpE defs Variants.none (c : Thread nD τ) none) Set.univ (body k a)
          (fun _ => iprop(tbl ∗ copies c s T y (k.val + 1) 0 ∗ bigSep (Ring.rangeSet 512 (k.val + 1) 512) (before c s y) ∗ bigSep (Ring.rangeSet 512 0 (k.val + 1)) (kept c s T y))) := by
    intro k a
    have hk : k.val < 512 := by have := k.isLt; omega
    refine .trans ?_ ((sep_mono_left (Q := iprop(bigSep (Ring.rangeSet 512 (k.val + 1) 512) (before c s y) ∗ bigSep (Ring.rangeSet 512 0 k.val) (kept c s T y)))
      (hstep k a ⟨k.val, hk⟩ rfl)).trans ((wp_frame_r frame _ _).trans (wp_mono _ _ _ fun _ => ?_)))
    · rw [Ring.bigSep_rangeSet_head hk hk]
      iintro ⟨Ht, HB, ⟨Hb, Hbs⟩, Hks⟩
      isplitl [Ht HB Hb]
      · isplitl [Ht]; · iexact Ht
        isplitl [HB]; · iexact HB
        iexact Hb
      isplitl [Hbs] <;> iassumption
    · rw [Ring.bigSep_rangeSet_last (lo := 0) (hi := k.val + 1) (by omega) (by omega)]
      iintro ⟨⟨Ht, HB, Hk1⟩, Hbs, Hks⟩
      isplitl [Ht]; · iexact Ht
      isplitl [HB]; · iexact HB
      isplitl [Hbs]; · iexact Hbs
      isplitl [Hk1]; · iexact Hk1
      iexact Hks
  iapply (Scf.wp_for frame (wpE defs Variants.none (c : Thread nD τ) none) Set.univ lb ub st hok ⟨⟩ body
    (fun k _ => iprop(tbl ∗ copies c s T y k 0 ∗ bigSep (Ring.rangeSet 512 k 512) (before c s y) ∗ bigSep (Ring.rangeSet 512 0 k) (kept c s T y))) hbody)
  isplitl [Ht HB Hb]
  · isplitl [Ht]; · iexact Ht
    isplitl [HB]; · iexact HB
    rw [Ring.rangeSet_univ, Ring.bigSep_rangeSet_empty le_rfl]
    isplitl [Hb]; · iexact Hb
    iempintro
  · iintro %a ⟨Ht, HB, -, Hb⟩
    rw [tr, Ring.rangeSet_univ]
    isplitl [Ht]; · iexact Ht
    unfold flight
    isplitl [HB]; · iexact HB
    isplitl [Hb]; · iexact Hb
    iexact Hd

/-- What the waiting loop holds before trip `k`. -/
def draining (k : ℕ) : sProp 𝕄 :=
  iprop((∃ W, owes (c : Thread nD τ) 0 W)
    ∗ (if k < 512 then copies c s T y 512 (k * cred) else iprop(bigSep Finset.univ (given c s T y) ∗ semVal ((c : Thread nD τ), SemLoc.dma (semS s)) 0)))

/-- One wait, for row `r`. -/
theorem wait_row (defs : Defs nD τ sig (Elt F) Λ₀) (k : ℕ) (hk : k < 512) (r : Fin 512) (n : Fin 40960)
    {hsrc : (expM n).view.WordExact} {hdst : (rowM s r).view.WordExact} :
    draining c s T y k ⊢ wp frame (wpE defs Variants.none (c : Thread nD τ) none) Set.univ
      (.op (.waitDma2 (semS s) (expM n) (rowM s r) hsrc hdst) fun _ => .ret ⟨⟩ : Prog (TpuEff nD τ sig (Elt F) Λ₀ .tc) PUnit) (fun _ => draining c s T y (k + 1)) := by
  unfold draining
  rw [if_pos hk]
  iintro ⟨⟨%W, Ho⟩, HB⟩
  unfold copies
  by_cases h : k + 1 < 512
  · have hu : k * cred + cred < cred * 512 := by
      have h1 := cred_pos
      have h2 := Nat.mul_lt_mul_of_pos_right h h1
      rw [Nat.succ_mul] at h2
      omega
    iapply (Transfers.wp_waitBatch countersEmb Variants.none (c : Thread nD τ) none (srcw := expM n) (dstw := rowM s r) (hsrc := hsrc) (hdst := hdst) () (N := cred) rfl (D := given c s T y) (u := k * cred) hu) $$ [HB Ho]
    · isplitl [HB] <;> iassumption
    iintro ⟨HB, Ho⟩
    rw [Sem.wp_ret]
    imodintro
    rw [if_pos h, Nat.succ_mul]
    isplitl [Ho]; · iexists _; iexact Ho
    iexact HB
  · have hu : k * cred + cred = cred * 512 := by
      obtain rfl : k = 511 := by omega
      omega
    iapply (Transfers.wp_waitBatchLast countersEmb Variants.none (c : Thread nD τ) none (srcw := expM n) (dstw := rowM s r) (hsrc := hsrc) (hdst := hdst) () (N := cred) rfl cred_pos (D := given c s T y) (u := k * cred) hu) $$ [HB Ho]
    · isplitl [HB] <;> iassumption
    iintro ⟨HD, Hv, Ho⟩
    rw [Sem.wp_ret]
    imodintro
    rw [if_neg h]
    isplitl [Ho]; · iexists _; iexact Ho
    isplitl [HD] <;> iassumption

/-- The waiting loop: a half with its copies under way becomes one whose copies have arrived. -/
theorem drain_loop (defs : Defs nD τ sig (Elt F) Λ₀) (lb ub st : BitVec 32) (hok : Scf.OK lb ub st) (tr : Scf.trips lb ub st = 512)
    (body : Fin (Scf.trips lb ub st) → PUnit → Prog (TpuEff nD τ sig (Elt F) Λ₀ .tc) PUnit)
    (hstep : ∀ (k : Fin (Scf.trips lb ub st)) (a : PUnit), draining c s T y k.val
      ⊢ wp frame (wpE defs Variants.none (c : Thread nD τ) none) Set.univ (body k a) (fun _ => draining c s T y (k.val + 1))) :
    iprop((∃ W, owes (c : Thread nD τ) 0 W) ∗ flight c s T y)
      ⊢ wp frame (wpE defs Variants.none (c : Thread nD τ) none) Set.univ (Scf.for lb ub st hok ⟨⟩ body) (fun _ => iprop((∃ W, owes (c : Thread nD τ) 0 W) ∗ filled c s T y)) := by
  unfold flight
  iintro ⟨Ho, HB, Hkept, Hd⟩
  iapply (Scf.wp_for frame (wpE defs Variants.none (c : Thread nD τ) none) Set.univ lb ub st hok ⟨⟩ body (fun k _ => draining c s T y k) hstep)
  isplitl [Ho HB]
  · unfold draining
    rw [if_pos (by decide), Nat.zero_mul]
    isplitl [Ho] <;> iassumption
  · iintro %a H
    unfold draining
    rw [tr, if_neg (by decide)]
    icases H with ⟨Ho, Hg, Hv⟩
    isplitl [Ho]; · iexact Ho
    unfold filled
    ihave H := (all_given c s T y) $$ [Hg Hkept Hd]
    · isplitl [Hg]; · iexact Hg
      isplitl [Hkept] <;> iassumption
    icases H with ⟨Hs, Hy⟩
    isplitl [Hs]; · iexact Hs
    isplitl [Hv] <;> iassumption

end Cert.CombineIdeal.Rows

end
-- ==== Proof.CombBody.lean ====
/- The combine kernel's body at a grid point: the copies it starts, the copies it waits for, and the block it stores. -/
module

public import proofs.«01_k».proof.Proof.CombLoops
public import Idealize.ShloMosaic.Lib.Pipeline.Value
public import Idealize.ShloMosaic.Lib.Pipeline.ValueKit.Tiles

@[expose] public section

set_option maxRecDepth 16384

noncomputable section

namespace Cert.CombineIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.CombineIdeal.Gen
open Idealize.ShloMosaic.Pipeline (UD)

variable {F : FTy → Type} [FloatOps F]

local notation "𝕄" => MT nD τ sig Unit (Elt F) ℕ (UD sig nD τ) ℕ

/-! ## Where the body's slices begin -/

/-- A loop's trips, and its counter at a trip. -/
theorem trips1 : k0_t1_loop.trips = 512 := by decide +kernel
theorem trips2 : k0_t2_loop.trips = 512 := by decide +kernel
theorem trips3 : k0_t3_loop.trips = 512 := by decide +kernel
theorem off1_eq : ∀ k : Fin k0_t1_loop.trips, k0_off1 k = ![0, 0, k.val] ∧ k0_off2 k = ![k.val, 0] := by decide +kernel
theorem off4_eq : ∀ k : Fin k0_t2_loop.trips, k0_off4 k = ![0, 0, k.val] ∧ k0_off7 k = ![k.val, 0] := by decide +kernel
theorem off11_eq : ∀ k : Fin k0_t3_loop.trips, k0_off11 k = ![k.val, 0] := by decide +kernel

/-- The half of the scratch that a point's own rows lie in, and the other one. -/
def own (n : ℕ) : Fin 2 := ⟨n % 2, Nat.mod_lt _ (by decide)⟩

theorem cond1_iff : ∀ t : Fin grid0.N, k0_cond1 (grid0.coords t) = 1#1 ↔ t.val = 0 := by decide +kernel
theorem cond2_iff : ∀ t : Fin grid0.N, k0_cond2 (grid0.coords t) = 1#1 ↔ t.val + 1 < 64 := by decide +kernel
theorem off_own : ∀ t : Fin grid0.N, k0_off9 (grid0.coords t) = ![(own t.val).val] ∧ k0_off10 (grid0.coords t) = ![(own t.val).val, 0, 0]
    ∧ k0_off12 (grid0.coords t) = ![(own t.val).val, 0, 0] ∧ k0_off13 (grid0.coords t) = ![(own t.val).val, 256, 0] := by decide +kernel
theorem off_other : ∀ t : Fin grid0.N, k0_off5 (grid0.coords t) = ![(own (t.val + 1)).val] ∧ k0_off6 (grid0.coords t) = ![(own (t.val + 1)).val, 0, 0] := by
  decide +kernel

/-! ## What the body stores -/

/-- The two rows of each token of the block, in the order the scratch holds them. -/
def first (y : S40960x2048.Idx → Elt F .f32) (T : Fin 512 → Fin 40960) : Vec F S1x256x2048 .f32 :=
  fun j => y (ix2 (T (Fin.castLE (by decide : 256 ≤ 512) (j 1))) (j 2))
def second (y : S40960x2048.Idx → Elt F .f32) (T : Fin 512 → Fin 40960) : Vec F S1x256x2048 .f32 :=
  fun j => y (ix2 (T (Fin.natAdd 256 (j 1))) (j 2))

/-- The stored block from the residual stream's, the two gathered ones and the gain. -/
def blend (x : Vec F S256x2048 .f32) (a b : Vec F S1x256x2048 .f32) (g : Vec F S1x2048 .f32) : FVec F S256x2048 .f32 :=
  let v := addf x (addf (shapeCast S256x2048 a shapeCasts_S1x256x2048_S256x2048) (shapeCast S256x2048 b shapeCasts_S1x256x2048_S256x2048))
  let q := divf (shapeCast S256x1 (multiReduction .add [1] S256 (mulf v v) 0x00000000#32 reduces_S256x2048_S256 (.inl rfl) rfl) shapeCasts_S256_S256x1)
    (broadcast S256x1 (Scalar.ofBits .f32 0x45000000#32))
  mulf (mulf v (broadcastTo S256x2048 (rsqrt (addf q (broadcast S256x1 (Scalar.ofBits .f32 0x358637BD#32)))) broadcasts_S256x1_S256x2048))
    (broadcastTo S256x2048 (shapeCast S1x2048 g shapeCasts_S1x2048_S1x2048) broadcasts_S1x2048_S256x2048)

variable (c : Dev nD) (y : S40960x2048.Idx → Elt F .f32)

/-- A load of a whole buffer. -/
theorem load_whole {α : Type} (defs : Defs nD τ sig (Elt F) Λ₀) {S : Shape} (a : Memref sig .tc .vmem S .f32) (off : Fin S.rank → ℕ) (inb : ∀ d, off d + S.size d ≤ S.size d)
    (ho : off = fun _ => 0) (x : Vec F S .f32) {hl : a.view.LoadsAt (Rect.unit (s := S) off S.size inb).toLoadRect}
    (k : Vec F S .f32 → Prog (TpuEff nD τ sig (Elt F) Λ₀ .tc) α) (Q : α → sProp 𝕄) :
    owns (c : Thread nD τ) a fullShare x
      ⊢ iprop((owns (c : Thread nD τ) a fullShare x -∗ wp frame (wpE defs Variants.none (c : Thread nD τ) none) Set.univ (k x) Q)
        -∗ wp frame (wpE defs Variants.none (c : Thread nD τ) none) Set.univ (.op (.load a (Rect.unit (s := S) off S.size inb).toLoadRect hl) k) Q) := by
  unfold owns
  iintro ⟨%f, %hf, Hf⟩ Hk
  iapply (wp_load Variants.none (c : Thread nD τ) none Set.univ (m := a) (r := (Rect.unit (s := S) off S.size inb).toLoadRect) (S := a.view.set) (a.view.setOn_subset_set _)) $$ Hf
  iintro Hf
  have e : a.view.readAt (Elt F) (Rect.unit (s := S) off S.size inb).toLoadRect f = x := by
    show View.ld (a.view.read (Elt F) f) (Rect.unit (s := S) off S.size inb) = x
    rw [hf]; exact View.ld_unit_zero ho inb x
  rw [e]
  iapply Hk
  iexists f
  isplitr; · ipureintro; exact hf
  iexact Hf

/-- A load of half of a filled half of the scratch. -/
theorem load_half {α : Type} (defs : Defs nD τ sig (Elt F) Λ₀) (s : Fin 2) (T : Fin 512 → Fin 40960) (off : Fin 3 → ℕ) (inb : ∀ d, off d + S1x256x2048.size d ≤ S2x512x2048.size d)
    (b : ℕ) (ho : off = ![s.val, b, 0]) (v : Vec F S1x256x2048 .f32) (hv : ∀ j : S1x256x2048.Idx, ∀ r : Fin 512, r.val = b + (j 1).val → v j = y (ix2 (T r) (j 2)))
    {hl : (Memref.whole cc0_scratch0 : Memref sig .tc .vmem S2x512x2048 .f32).view.LoadsAt (Rect.unit (s := S2x512x2048) off S1x256x2048.size inb).toLoadRect}
    (k : Vec F S1x256x2048 .f32 → Prog (TpuEff nD τ sig (Elt F) Λ₀ .tc) α) (Q : α → sProp 𝕄) :
    sOn c (halfSet s) (gath y T)
      ⊢ iprop((sOn c (halfSet s) (gath y T) -∗ wp frame (wpE defs Variants.none (c : Thread nD τ) none) Set.univ (k v) Q)
        -∗ wp frame (wpE defs Variants.none (c : Thread nD τ) none) Set.univ
          (.op (.load (Memref.whole cc0_scratch0) (Rect.unit (s := S2x512x2048) off S1x256x2048.size inb).toLoadRect hl) k) Q) := by
  subst ho
  have hx : ∀ j : S1x256x2048.Idx, ∀ d : Fin 3, (((Rect.unit (s := S2x512x2048) ![s.val, b, 0] S1x256x2048.size inb).idx j) d).val = (![s.val, b, 0] : Fin 3 → ℕ) d + (j d).val :=
    fun j d => Rect.idx_unit_val _ _ _ _ _
  have e : (Memref.whole cc0_scratch0 : Memref sig .tc .vmem S2x512x2048 .f32).view.readAt (Elt F) (Rect.unit (s := S2x512x2048) ![s.val, b, 0] S1x256x2048.size inb).toLoadRect (gath y T) = v := by
    funext j
    have h1 := hx j 1
    have h2 := hx j 2
    rw [hv j (((Rect.unit (s := S2x512x2048) ![s.val, b, 0] S1x256x2048.size inb).idx j) 1) h1]
    show y (ix2 (T _) _) = _
    have h3 : ((Rect.unit (s := S2x512x2048) ![s.val, b, 0] S1x256x2048.size inb).idx j) 2 = j 2 := Fin.ext (h2.trans (Nat.zero_add _))
    rw [← h3]; rfl
  iintro H Hk
  iapply (wp_load Variants.none (c : Thread nD τ) none Set.univ (m := Memref.whole cc0_scratch0) (r := (Rect.unit (s := S2x512x2048) ![s.val, b, 0] S1x256x2048.size inb).toLoadRect) (S := halfSet s) ?_) $$ H
  · intro i hi
    obtain ⟨k, hk, rfl⟩ := Finset.mem_map.mp hi
    obtain ⟨j, rfl⟩ := (Rect.unit (s := S2x512x2048) ![s.val, b, 0] S1x256x2048.size inb).exists_idx_of_mem hk
    refine Finset.mem_filter.mpr ⟨Finset.mem_univ _, ?_⟩
    have h0 := hx j 0
    have h1 : (j 0).val < 1 := (j 0).isLt
    have h2 : (((Rect.unit (s := S2x512x2048) ![s.val, b, 0] S1x256x2048.size inb).idx j) 0).val = s.val := h0.trans (by show s.val + (j 0).val = s.val; omega)
    exact h2
  iintro H
  rw [e]
  iapply Hk $$ H

/-- The waits, the loads and the block computed. -/
def tail (t : Fin grid0.N) (a3 : Memref sig .tc .vmem S256x2048 .f32) (a5 : Memref sig .tc .vmem S1x2048 .f32) (a6 : Memref sig .tc .vmem S256x2048 .f32) :
    Prog (TpuEff nD τ sig (Elt F) Λ₀ .tc) (FVec F S256x2048 .f32) := do
  Scf.Loop.for k0_t3_loop k0_t3_ok ⟨⟩ fun k _ => do
    Prog.lift (.waitDma2 (semM (k0_off9 (grid0.coords t)) (k0_off9_inb _)) (srcM ![0, 0] inb_S40960x2048_S1x2048_0_0)
      (dstM (k0_off10 (grid0.coords t)) (k0_off10_inb _) (k0_off11 k) (k0_off11_inb k)) (View.wordExact_bits rfl) (View.wordExact_bits rfl))
    pure ⟨⟩
  let x : Vec F S256x2048 .f32 ← Prog.lift (.load a3 (Rect.unit (s := S256x2048) ![0, 0] S256x2048.size inb_S256x2048_S256x2048_0_0).toLoadRect (View.loadsAt_vmem h_S256x2048))
  let a : Vec F S1x256x2048 .f32 ← Prog.lift (.load (Memref.whole cc0_scratch0) (Rect.unit (s := S2x512x2048) (k0_off12 (grid0.coords t)) S1x256x2048.size (k0_off12_inb _)).toLoadRect (View.loadsAt_vmem h_S1x256x2048))
  let b : Vec F S1x256x2048 .f32 ← Prog.lift (.load (Memref.whole cc0_scratch0) (Rect.unit (s := S2x512x2048) (k0_off13 (grid0.coords t)) S1x256x2048.size (k0_off13_inb _)).toLoadRect (View.loadsAt_vmem h_S1x256x2048))
  let g : Vec F S1x2048 .f32 ← Prog.lift (.load a5 (Rect.unit (s := S1x2048) ![0, 0] S1x2048.size inb_S1x2048_S1x2048_0_0).toLoadRect (View.loadsAt_vmem h_S1x2048))
  let _ : Vec F S256x2048 .f32 ← Prog.lift (.load a6 (Rect.unit (s := S256x2048) ![0, 0] S256x2048.size inb_S256x2048_S256x2048_0_0).toLoadRect (View.loadsAt_vmem h_S256x2048))
  pure (blend x a b g)

/-- The copies of the next point's rows started, when there is one, then the rest. -/
def mid (t : Fin grid0.N) (a2 : Memref sig .tc .smem S1x1x512 .i32) (a3 : Memref sig .tc .vmem S256x2048 .f32) (a5 : Memref sig .tc .vmem S1x2048 .f32)
    (a6 : Memref sig .tc .vmem S256x2048 .f32) : Prog (TpuEff nD τ sig (Elt F) Λ₀ .tc) (FVec F S256x2048 .f32) :=
  if h : k0_cond2 (grid0.coords t) = 1#1 then do
    Scf.Loop.for k0_t2_loop (k0_t2_ok (grid0.coords t) h) ⟨⟩ fun k _ =>
      issue a2 (k0_off4 k) (k0_off4_inb _ k h) (k0_chk2 (grid0.coords t)) (k0_chk2.dec (grid0.coords t)) (fun v hv => k0_off8_inb _ v hv h)
        (k0_off5 (grid0.coords t)) (k0_off5_inb _ h) (k0_off6 (grid0.coords t)) (k0_off6_inb _ h) (k0_off7 k) (k0_off7_inb _ k h)
    tail t a3 a5 a6
  else tail t a3 a5 a6

/-- The body's parts, in order. -/
theorem body_eq (t : Fin grid0.N) (a1 : Memref sig .tc .smem S1x1x512 .i32) (h1 : a1.IsWhole) (a2 : Memref sig .tc .smem S1x1x512 .i32) (h2 : a2.IsWhole)
    (a3 : Memref sig .tc .vmem S256x2048 .f32) (h3 : a3.IsWhole) (a5 : Memref sig .tc .vmem S1x2048 .f32) (h5 : a5.IsWhole)
    (a6 : Memref sig .tc .vmem S256x2048 .f32) (h6 : a6.IsWhole) :
    k0_part1 (F := F) (grid0.coords t) a1 h1 a2 h2 a3 h3 (Memref.whole main_arg1) (Memref.isWhole_whole _) a5 h5 a6 h6
          (Memref.whole cc0_scratch0) (Memref.isWhole_whole _) cc0_scratch1
      = if h : k0_cond1 (grid0.coords t) = 1#1 then do
          Scf.Loop.for k0_t1_loop (k0_t1_ok (grid0.coords t) h) ⟨⟩ fun k _ =>
            issue a1 (k0_off1 k) (k0_off1_inb _ k h) (k0_chk1 (grid0.coords t)) (k0_chk1.dec (grid0.coords t)) (fun v hv => k0_off3_inb _ v hv h)
              ![0] inb_S2_S1_0 ![0, 0, 0] inb_S2x512x2048_S1x512x2048_0_0_0 (k0_off2 k) (k0_off2_inb _ k h)
          mid t a2 a3 a5 a6
        else mid t a2 a3 a5 a6 := rfl

/-- What stays held while the block is computed. -/
def staged (a3 : Memref sig .tc .vmem S256x2048 .f32) (a5 : Memref sig .tc .vmem S1x2048 .f32) (a6 : Memref sig .tc .vmem S256x2048 .f32)
    (x : Vec F S256x2048 .f32) (g : Vec F S1x2048 .f32) : sProp 𝕄 :=
  iprop((∃ W, owes (c : Thread nD τ) 0 W) ∗ owns (c : Thread nD τ) a3 fullShare x ∗ owns (c : Thread nD τ) a5 fullShare g ∗ (∃ d, owns (c : Thread nD τ) a6 fullShare d))

variable (t : Fin grid0.N) (a3 : Memref sig .tc .vmem S256x2048 .f32) (a5 : Memref sig .tc .vmem S1x2048 .f32) (a6 : Memref sig .tc .vmem S256x2048 .f32)
  (x : Vec F S256x2048 .f32) (g : Vec F S1x2048 .f32) (defs : Defs nD τ sig (Elt F) Λ₀)

/-- A row number that fits. -/
theorem row_fits (v : BitVec 32) (n : Fin 40960) (h : v.toNat = n.val) : ∀ a, (![v.toNat, 0] : Fin 2 → ℕ) a + S1x2048.size a ≤ S40960x2048.size a := by
  rw [h]; exact word_inb n

/-- An issuing loop over a staged table. -/
theorem issue_table (s : Fin 2) (T : Fin 512 → Fin 40960) (a : Memref sig .tc .smem S1x1x512 .i32) (w : Vec F S1x1x512 .i32) (lb ub st : BitVec 32) (hok : Scf.OK lb ub st)
    (tr : Scf.trips lb ub st = 512) (body : Fin (Scf.trips lb ub st) → PUnit → Prog (TpuEff nD τ sig (Elt F) Λ₀ .tc) PUnit)
    (hstep : ∀ f : a.view.ty.Contents (Elt F), a.view.read (Elt F) f = w → ∀ (k : Fin (Scf.trips lb ub st)) (u : PUnit),
      iprop((a.view.loc (c : Thread nD τ) ↦[a.view.set]{fullShare} f) ∗ copies c s T y k.val 0 ∗ before c s y ⟨k.val, lt_of_lt_of_eq k.isLt tr⟩)
        ⊢ wp frame (wpE defs Variants.none (c : Thread nD τ) none) Set.univ (body k u)
          (fun _ => iprop((a.view.loc (c : Thread nD τ) ↦[a.view.set]{fullShare} f) ∗ copies c s T y (k.val + 1) 0 ∗ kept c s T y ⟨k.val, lt_of_lt_of_eq k.isLt tr⟩))) :
    iprop(owns (c : Thread nD τ) a fullShare w ∗ free c s y)
      ⊢ wp frame (wpE defs Variants.none (c : Thread nD τ) none) Set.univ (Scf.for lb ub st hok ⟨⟩ body) (fun _ => iprop(owns (c : Thread nD τ) a fullShare w ∗ flight c s T y)) := by
  unfold owns
  iintro ⟨⟨%f, %hf, Hf⟩, Hs⟩
  iapply (wp_wand_r frame _ _)
  isplitl [Hf Hs]
  · iapply (issue_loop c s T y defs lb ub st hok tr body (a.view.loc (c : Thread nD τ) ↦[a.view.set]{fullShare} f) ?_)
    · intro k u r hr
      obtain rfl : r = ⟨k.val, lt_of_lt_of_eq k.isLt tr⟩ := Fin.ext hr
      exact hstep f hf k u
    · isplitl [Hf] <;> iassumption
  iintro %u ⟨Hf, Hs⟩
  isplitl [Hf]
  · iexists f
    isplitr; · ipureintro; exact hf
    iexact Hf
  · iexact Hs

/-- The own half when a point begins, and the other half when it ends. -/
def ready (T : Fin 512 → Fin 40960) (n : ℕ) : sProp 𝕄 := if n = 0 then free c (own n) y else flight c (own n) T y
def ahead (T : Fin 512 → Fin 40960) (n : ℕ) : sProp 𝕄 := if n + 1 < 64 then flight c (own (n + 1)) T y else free c (own (n + 1)) y

/-- One wait, its operands as the body spells them. -/
theorem wait_step (s : Fin 2) (T : Fin 512 → Fin 40960) (r : Fin 512) (w : Fin 1 → ℕ) (hw : ∀ a, w a + S1.size a ≤ S2.size a)
    (p : Fin 3 → ℕ) (hp : ∀ a, p a + S1x512x2048.size a ≤ S2x512x2048.size a) (o : Fin 2 → ℕ) (ho : ∀ a, o a + S1x2048.size a ≤ S512x2048.size a)
    (ew : w = ![s.val]) (ep : p = ![s.val, 0, 0]) (eo : o = ![r.val, 0])
    {hsrc : (srcM ![0, 0] inb_S40960x2048_S1x2048_0_0).view.WordExact} {hdst : (dstM p hp o ho).view.WordExact} :
    draining c s T y r.val ⊢ wp frame (wpE defs Variants.none (c : Thread nD τ) none) Set.univ
      (.op (.waitDma2 (semM w hw) (srcM ![0, 0] inb_S40960x2048_S1x2048_0_0) (dstM p hp o ho) hsrc hdst) fun _ => .ret ⟨⟩ : Prog (TpuEff nD τ sig (Elt F) Λ₀ .tc) PUnit)
      (fun _ => draining c s T y (r.val + 1)) := by
  subst ew ep eo
  exact wait_row c s T y defs r.val r.isLt r 0

theorem sound_tail (T : Fin 512 → Fin 40960) :
    iprop(staged c a3 a5 a6 x g ∗ flight c (own t.val) T y)
      ⊢ wp frame (wpE defs Variants.none (c : Thread nD τ) none) Set.univ (tail (F := F) t a3 a5 a6)
        (fun v => iprop(⌜v = blend x (first y T) (second y T) g⌝ ∗ staged c a3 a5 a6 x g ∗ free c (own t.val) y)) := by
  obtain ⟨e9, e10, e12, e13⟩ := off_own t
  unfold tail staged
  rw [wp_bind]
  iintro ⟨⟨Ho, H3, H5, %d, H6⟩, Hf⟩
  iapply (wp_wand_r frame _ _)
  isplitl [Ho Hf]
  · iapply (drain_loop c (own t.val) T y defs k0_t3_loop.lb k0_t3_loop.ub k0_t3_loop.st k0_t3_ok trips3 _ ?_)
    · intro k a
      exact wait_step c y defs (own t.val) T ⟨k.val, lt_of_lt_of_eq k.isLt trips3⟩ _ _ _ _ _ _ e9 e10 (off11_eq k)
    · isplitl [Ho] <;> iassumption
  iintro %u ⟨Ho, Hf⟩
  unfold filled
  icases Hf with ⟨Hs, Hv, Hy⟩
  iapply (load_whole c defs (S := S256x2048) a3 ![0, 0] inb_S256x2048_S256x2048_0_0 (by decide) x) $$ H3
  iintro H3
  iapply (load_half c y defs (own t.val) T (k0_off12 (grid0.coords t)) (k0_off12_inb _) 0 e12 (first y T) (fun j r h => by
    unfold first; congr 2; apply congrArg T; apply Fin.ext; rw [h, Nat.zero_add]; rfl)) $$ Hs
  iintro Hs
  iapply (load_half c y defs (own t.val) T (k0_off13 (grid0.coords t)) (k0_off13_inb _) 256 e13 (second y T) (fun j r h => by
    unfold second; congr 2; apply congrArg T; apply Fin.ext; rw [h]; rfl)) $$ Hs
  iintro Hs
  iapply (load_whole c defs (S := S1x2048) a5 ![0, 0] inb_S1x2048_S1x2048_0_0 (by decide) g) $$ H5
  iintro H5
  iapply (load_whole c defs (S := S256x2048) a6 ![0, 0] inb_S256x2048_S256x2048_0_0 (by decide) d) $$ H6
  iintro H6
  iapply (le_wp_ret frame _ _)
  isplitr; · ipureintro; rfl
  isplitl [Ho H3 H5 H6]
  · isplitl [Ho]; · iexact Ho
    isplitl [H3]; · iexact H3
    isplitl [H5]; · iexact H5
    iexists d; iexact H6
  · unfold free
    isplitl [Hs]; · iexists _; iexact Hs
    isplitl [Hv] <;> iassumption

theorem sound_mid (T T' : Fin 512 → Fin 40960) (a2 : Memref sig .tc .smem S1x1x512 .i32) (w : Vec F S1x1x512 .i32)
    (hT : ∀ r : Fin 512, BitVec.toNat (w (ix3 (0 : Fin 1) (0 : Fin 1) r) : BitVec 32) = (T' r).val) :
    iprop(owns (c : Thread nD τ) a2 fullShare w ∗ free c (own (t.val + 1)) y ∗ staged c a3 a5 a6 x g ∗ flight c (own t.val) T y)
      ⊢ wp frame (wpE defs Variants.none (c : Thread nD τ) none) Set.univ (mid (F := F) t a2 a3 a5 a6)
        (fun v => iprop(owns (c : Thread nD τ) a2 fullShare w ∗ ahead c y T' t.val
          ∗ ⌜v = blend x (first y T) (second y T) g⌝ ∗ staged c a3 a5 a6 x g ∗ free c (own t.val) y)) := by
  unfold mid ahead
  iintro ⟨H2, Hn, H⟩
  by_cases h : t.val + 1 < 64
  · have hc := (cond2_iff t).mpr h
    obtain ⟨e5, e6⟩ := off_other t
    rw [dif_pos hc, if_pos h, wp_bind]
    iapply (wp_wand_r frame _ _)
    isplitl [H2 Hn]
    · iapply (issue_table c y defs (own (t.val + 1)) T' a2 w k0_t2_loop.lb k0_t2_loop.ub k0_t2_loop.st (k0_t2_ok _ hc) trips2 _ ?_)
      · intro f hf k a
        exact issue_step c (own (t.val + 1)) T' y defs a2 f ⟨k.val, lt_of_lt_of_eq k.isLt trips2⟩ _ _ _ _ _ _ _ _ _ _ _ (off4_eq k).1 e5 e6 (off4_eq k).2
          (by rw [hf]; exact hT _) (fun _ => by rw [hf]; exact row_fits _ _ (hT _))
      · isplitl [H2] <;> iassumption
    iintro %u ⟨H2, Hn⟩
    iapply (wp_wand_r frame _ _)
    isplitl [H]
    · iapply (sound_tail c y t a3 a5 a6 x g defs T); iexact H
    iintro %v H
    isplitl [H2]; · iexact H2
    isplitl [Hn] <;> iassumption
  · have hc := mt (cond2_iff t).mp h
    rw [dif_neg hc, if_neg h]
    iapply (wp_wand_r frame _ _)
    isplitl [H]
    · iapply (sound_tail c y t a3 a5 a6 x g defs T); iexact H
    iintro %v H
    isplitl [H2]; · iexact H2
    isplitl [Hn] <;> iassumption

theorem sound_part (T T' : Fin 512 → Fin 40960) (a1 : Memref sig .tc .smem S1x1x512 .i32) (h1 : a1.IsWhole) (a2 : Memref sig .tc .smem S1x1x512 .i32) (h2 : a2.IsWhole)
    (h3 : a3.IsWhole) (h5 : a5.IsWhole) (h6 : a6.IsWhole) (w w' : Vec F S1x1x512 .i32)
    (hT : ∀ r : Fin 512, BitVec.toNat (w (ix3 (0 : Fin 1) (0 : Fin 1) r) : BitVec 32) = (T r).val)
    (hT' : ∀ r : Fin 512, BitVec.toNat (w' (ix3 (0 : Fin 1) (0 : Fin 1) r) : BitVec 32) = (T' r).val) :
    iprop(owns (c : Thread nD τ) a1 fullShare w ∗ ready c y T t.val
        ∗ owns (c : Thread nD τ) a2 fullShare w' ∗ free c (own (t.val + 1)) y ∗ staged c a3 a5 a6 x g)
      ⊢ wp frame (wpE defs Variants.none (c : Thread nD τ) none) Set.univ
        (k0_part1 (F := F) (grid0.coords t) a1 h1 a2 h2 a3 h3 (Memref.whole main_arg1) (Memref.isWhole_whole _) a5 h5 a6 h6
          (Memref.whole cc0_scratch0) (Memref.isWhole_whole _) cc0_scratch1)
        (fun v => iprop(owns (c : Thread nD τ) a1 fullShare w ∗ owns (c : Thread nD τ) a2 fullShare w'
          ∗ ahead c y T' t.val
          ∗ ⌜v = blend x (first y T) (second y T) g⌝ ∗ staged c a3 a5 a6 x g ∗ free c (own t.val) y)) := by
  rw [body_eq]
  by_cases h : t.val = 0
  · have hc := (cond1_iff t).mpr h
    have e0 : own t.val = 0 := by rw [h]; rfl
    rw [dif_pos hc, ready, if_pos h, wp_bind]
    iintro ⟨H1, Hf, H2, Hn, H⟩
    iapply (wp_wand_r frame _ _)
    isplitl [H1 Hf]
    · iapply (issue_table c y defs (own t.val) T a1 w k0_t1_loop.lb k0_t1_loop.ub k0_t1_loop.st (k0_t1_ok _ hc) trips1 _ ?_)
      · intro f hf k a
        exact issue_step c (own t.val) T y defs a1 f ⟨k.val, lt_of_lt_of_eq k.isLt trips1⟩ _ _ _ _ _ _ _ _ _ _ _ (off1_eq k).1 (by rw [e0]; rfl) (by rw [e0]; rfl) (off1_eq k).2
          (by rw [hf]; exact hT _) (fun _ => by rw [hf]; exact row_fits _ _ (hT _))
      · isplitl [H1] <;> iassumption
    iintro %u ⟨H1, Hf⟩
    iapply (wp_wand_r frame _ _)
    isplitr [H1]
    · iapply (sound_mid c y t a3 a5 a6 x g defs T T' a2 w' hT')
      isplitl [H2]; · iexact H2
      isplitl [Hn]; · iexact Hn
      isplitl [H] <;> iassumption
    iintro %v H
    isplitl [H1] <;> iassumption
  · have hc := mt (cond1_iff t).mp h
    rw [dif_neg hc, ready, if_neg h]
    iintro ⟨H1, Hf, H2, Hn, H⟩
    iapply (wp_wand_r frame _ _)
    isplitr [H1]
    · iapply (sound_mid c y t a3 a5 a6 x g defs T T' a2 w' hT')
      isplitl [H2]; · iexact H2
      isplitl [Hn]; · iexact Hn
      isplitl [H] <;> iassumption
    iintro %v H
    isplitl [H1] <;> iassumption

/-- A store of a whole buffer. -/
theorem store_whole {α : Type} {S : Shape} (a : Memref sig .tc .vmem S .f32) (off : Fin S.rank → ℕ) (inb : ∀ d, off d + S.size d ≤ S.size d)
    (ho : off = fun _ => 0) (d v : Vec F S .f32) {hx : (a.access (Rect.unit (s := S) off S.size inb)).Stores Finset.univ}
    {hm : (Finset.univ : Finset (Rect.unit (s := S) off S.size inb).shape.Idx) = Finset.univ ∨ ∀ b, (Rect.unit (s := S) off S.size inb).stride b = 1}
    (k : PUnit → Prog (TpuEff nD τ sig (Elt F) Λ₀ .tc) α) (Q : α → sProp 𝕄) :
    owns (c : Thread nD τ) a fullShare d
      ⊢ iprop((owns (c : Thread nD τ) a fullShare v -∗ wp frame (wpE defs Variants.none (c : Thread nD τ) none) Set.univ (k ⟨⟩) Q)
        -∗ wp frame (wpE defs Variants.none (c : Thread nD τ) none) Set.univ (.op (.store a (Rect.unit (s := S) off S.size inb) v Finset.univ hx hm) k) Q) := by
  unfold owns
  iintro ⟨%f, %hf, Hf⟩ Hk
  iapply (wp_store Variants.none (c : Thread nD τ) none Set.univ (m := a) (r := Rect.unit (s := S) off S.size inb) (Mk := Finset.univ) (S := a.view.set)
    ((View.setOn_subset_set _ _).trans (View.set_slice_subset _ _))) $$ Hf
  iintro Hf
  have e : a.view.read (Elt F) ((a.access (Rect.unit (s := S) off S.size inb)).write (Elt F) f v Finset.univ) = v := by
    have h := View.read_write_univ (v := a.access (Rect.unit (s := S) off S.size inb)) (Val := Elt F) f v
    exact (View.ld_unit_zero (Val := Elt F) ho inb _).symm.trans h
  iapply Hk
  iexists _
  isplitr; · ipureintro; exact e
  iexact Hf

/-- The body at a point: the point's block stored, the next point's copies under way. -/
theorem sound_body (T T' : Fin 512 → Fin 40960) (a1 : Memref sig .tc .smem S1x1x512 .i32) (h1 : a1.IsWhole) (a2 : Memref sig .tc .smem S1x1x512 .i32) (h2 : a2.IsWhole)
    (h3 : a3.IsWhole) (h5 : a5.IsWhole) (h6 : a6.IsWhole) (w w' : Vec F S1x1x512 .i32)
    (hT : ∀ r : Fin 512, BitVec.toNat (w (ix3 (0 : Fin 1) (0 : Fin 1) r) : BitVec 32) = (T r).val)
    (hT' : ∀ r : Fin 512, BitVec.toNat (w' (ix3 (0 : Fin 1) (0 : Fin 1) r) : BitVec 32) = (T' r).val) :
    iprop(owns (c : Thread nD τ) a1 fullShare w ∗ ready c y T t.val ∗ owns (c : Thread nD τ) a2 fullShare w' ∗ free c (own (t.val + 1)) y ∗ staged c a3 a5 a6 x g)
      ⊢ wp frame (wpE defs Variants.none (c : Thread nD τ) none) Set.univ
        (cc0_combine (F := F) (grid0.coords t) a1 h1 a2 h2 a3 h3 (Memref.whole main_arg1) (Memref.isWhole_whole _) a5 h5 a6 h6
          (Memref.whole cc0_scratch0) (Memref.isWhole_whole _) cc0_scratch1)
        (fun _ => iprop(owns (c : Thread nD τ) a1 fullShare w ∗ owns (c : Thread nD τ) a2 fullShare w' ∗ ahead c y T' t.val ∗ free c (own t.val) y
          ∗ (∃ W, owes (c : Thread nD τ) 0 W) ∗ owns (c : Thread nD τ) a3 fullShare x ∗ owns (c : Thread nD τ) a5 fullShare g
          ∗ owns (c : Thread nD τ) a6 fullShare (blend x (first y T) (second y T) g))) := by
  unfold cc0_combine
  rw [wp_bind]
  refine (sound_part c y t a3 a5 a6 x g defs T T' a1 h1 a2 h2 h3 h5 h6 w w' hT hT').trans (wp_mono frame _ _ fun v => ?_)
  unfold staged
  iintro ⟨H1, H2, Hn, %hv, ⟨Ho, H3, H5, %d, H6⟩, Hf⟩
  subst hv
  iapply (store_whole c defs (S := S256x2048) a6 ![0, 0] inb_S256x2048_S256x2048_0_0 (by decide) d (blend x (first y T) (second y T) g)) $$ H6
  iintro H6
  iapply (le_wp_ret frame _ _)
  isplitl [H1]; · iexact H1
  isplitl [H2]; · iexact H2
  isplitl [Hn]; · iexact Hn
  isplitl [Hf]; · iexact Hf
  isplitl [Ho]; · iexact Ho
  isplitl [H3]; · iexact H3
  isplitl [H5]; · iexact H5
  iexact H6

end Cert.CombineIdeal.Rows

end
-- ==== Proof.CombPoint.lean ====
/- What the combine kernel's windows hold at a grid point, read from the arguments: the point's row numbers, the next point's,
   the residual stream's block and the gain. -/
module

public import proofs.«01_k».proof.Proof.CombBody
public import Idealize.ShloMosaic.Lib.Pointwise
public import Idealize.ShloMosaic.Lib.IdealHost
public import Idealize.ShloMosaic.Lib.Pipeline.ValueKit

@[expose] public section

set_option maxRecDepth 16384

noncomputable section

namespace Cert.CombineIdeal.Rows

open Idealize.ShloMosaic Idealize.ShloMosaic.TcCoe Idealize.ShloMosaic.Tactic
open Cert.CombineIdeal.Gen

variable {F : FTy → Type} [FloatOps F]
variable (m : (ℓ : Loc nD τ sig) → Buf (Elt F) ℓ)

/-- The point whose row numbers the second window holds. -/
def nxt (t : Fin cfg0.N) : Fin cfg0.N := ⟨min (t.val + 1) 63, lt_of_le_of_lt (Nat.min_le_right _ _) (by decide : 63 < cfg0.N)⟩

/-- The blocks each window takes at a grid point. -/
theorem idx : ∀ t : Fin cfg0.N, win0_0.index t = ![t.val, 0, 0] ∧ win0_1.index t = ![(nxt t).val, 0, 0] ∧ win0_2.index t = ![t.val, 0]
    ∧ win0_3.index t = ![0, 0] ∧ win0_4.index t = ![t.val, 0] :=
  (by decide +kernel : ∀ t : Fin grid0.N, _)

/-- The token and the choice that entry `r` of a point's row numbers is for. -/
def tok (t : Fin cfg0.N) (r : Fin 512) : Fin 16384 := ⟨t.val * 256 + r.val % 256, by have h : t.val < 64 := t.isLt; omega⟩
def pick (r : Fin 512) : Fin 2 := ⟨r.val / 256, by omega⟩

theorem word_here (c : Dev nD) (t : Fin cfg0.N) (r : Fin 512) :
    (iblk m c 0 t : Vec F S1x1x512 .i32) (ix3 0 0 r) = m ((c : Thread nD τ).loc main_arg2) (ix2 (tok t r) (pick r)) := by
  have h : t.val < 64 := t.isLt
  blk_ext! [iblk, V, idx t, tok, pick]

theorem word_next (c : Dev nD) (t : Fin cfg0.N) (r : Fin 512) :
    (iblk m c 1 t : Vec F S1x1x512 .i32) (ix3 0 0 r) = m ((c : Thread nD τ).loc main_arg2) (ix2 (tok (nxt t) r) (pick r)) := by
  have h : (nxt t).val < 64 := (nxt t).isLt
  blk_ext! [iblk, V, idx t, tok, pick]

theorem x_read (c : Dev nD) (t : Fin cfg0.N) (r : Fin 256) (d : Fin 2048) (a : Fin 16384) (ha : a.val = t.val * 256 + r.val) :
    (iblk m c 2 t : Vec F S256x2048 .f32) (ix2 r d) = m ((c : Thread nD τ).loc main_arg0) (ix2 a d) := by
  blk_ext! [iblk, V, idx t]

theorem g_read (c : Dev nD) (t : Fin cfg0.N) (d : Fin 2048) :
    (iblk m c 3 t : Vec F S1x2048 .f32) (ix2 0 d) = m ((c : Thread nD τ).loc main_arg3) (ix1 d) := by
  blk_ext! [iblk, V, idx t]

end Cert.CombineIdeal.Rows

end
-- ==== Proof.CombRun.lean ====
/- The combine kernel's run: what the scratch and its semaphores hold between the grid points, the body at each point, and the
   launch. -/
module

public import proofs.«01_k».proof.Proof.CombPoint

@[expose] public section

set_option maxRecDepth 16384

noncomputable section

namespace Cert.CombineIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.CombineIdeal.Gen
open Idealize.ShloMosaic.Rounds
open Idealize.ShloMosaic.Pipeline (Dat Cfg Window BodyObligation UD)

variable {F : FTy → Type} [FloatOps F]

local notation "𝕄" => MT nD τ sig Unit (Elt F) ℕ (UD sig nD τ) ℕ

variable (m : (ℓ : Loc nD τ sig) → Buf (Elt F) ℓ) (ρ : Dev nD → PrngReg)

/-- Every row number names a row of the experts' array. -/
def Fits : Prop := ∀ (c : Dev nD) (i : S16384x2.Idx), BitVec.toNat (m ((c : Thread nD τ).loc main_arg2) i : BitVec 32) < 40960

/-- A point's row numbers. -/
def tab (c : Dev nD) (t : Fin cfg0.N) (r : Fin 512) : Fin 40960 :=
  ⟨min (BitVec.toNat (m ((c : Thread nD τ).loc main_arg2) (ix2 (tok t r) (pick r)) : BitVec 32)) 40959, lt_of_le_of_lt (Nat.min_le_right _ _) (by decide)⟩

theorem tab_val (h : Fits m) (c : Dev nD) (t : Fin cfg0.N) (r : Fin 512) :
    BitVec.toNat (m ((c : Thread nD τ).loc main_arg2) (ix2 (tok t r) (pick r)) : BitVec 32) = (tab m c t r).val := by
  have := h c (ix2 (tok t r) (pick r))
  unfold tab
  show _ = min _ _
  omega

/-- The same by a number, the last point's past the end. -/
def tabN (c : Dev nD) (n : ℕ) : Fin 512 → Fin 40960 := tab m c ⟨min n 63, lt_of_le_of_lt (Nat.min_le_right _ _) (by decide : 63 < cfg0.N)⟩

theorem tabN_here (c : Dev nD) (t : Fin cfg0.N) : tabN m c t.val = tab m c t := by
  have h : t.val < 64 := t.isLt
  unfold tabN
  congr 1; apply Fin.ext; show min t.val 63 = t.val; omega

/-- The experts' rows as launched. -/
abbrev rows (c : Dev nD) : S40960x2048.Idx → Elt F .f32 := V m c main_arg1

/-- What is held before point `n`. -/
def inv (c : Dev nD) (n : ℕ) : sProp 𝕄 :=
  iprop((∃ r, prngReg c r) ∗ yOn c (rows m c) Finset.univ (Transfers.shareDrop fullShare 2)
    ∗ (if 0 < n ∧ n < 64 then flight c (own n) (tabN m c n) (rows m c) else free c (own n) (rows m c)) ∗ free c (own (n + 1)) (rows m c))

theorem inv_ready (c : Dev nD) (t : Fin cfg0.N) : inv m c t.val = iprop((∃ r, prngReg c r) ∗ yOn c (rows m c) Finset.univ (Transfers.shareDrop fullShare 2)
    ∗ ready c (rows m c) (tab m c t) t.val ∗ free c (own (t.val + 1)) (rows m c)) := by
  have h : t.val < 64 := t.isLt
  unfold inv ready
  rw [tabN_here]
  by_cases h0 : t.val = 0
  · rw [if_neg (by omega), if_pos h0]
  · rw [if_pos (by omega), if_neg h0]

theorem inv_ahead (c : Dev nD) (t : Fin cfg0.N) : inv m c (t.val + 1) = iprop((∃ r, prngReg c r) ∗ yOn c (rows m c) Finset.univ (Transfers.shareDrop fullShare 2)
    ∗ ahead c (rows m c) (tab m c (nxt t)) t.val ∗ free c (own t.val) (rows m c)) := by
  have e : own (t.val + 1 + 1) = own t.val := Fin.ext (by show (t.val + 1 + 1) % 2 = t.val % 2; omega)
  unfold inv ahead
  rw [e]
  by_cases h0 : t.val + 1 < 64
  · rw [if_pos (by omega), if_pos h0]; rfl
  · rw [if_neg (by omega), if_neg h0]

/-- The proof data: the inputs' blocks left in place, the output's block computed. -/
def dats (_ : Fin 1) (c : Dev nD) : Dat τ (Elt F) Unit ℕ (UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blend (iblk m c 2 t) (first (rows m c) (tab m c t)) (second (rows m c) (tab m c t)) (iblk m c 3 t)
  Φ t := inv m c t.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = blend (iblk m c 2 t) (first (rows m c) (tab m c t)) (second (rows m c) (tab m c t)) (iblk m c 3 t) := by dsimp only [dats]

/-- An input's staging buffer holds its block. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_point (hfit : Fits m) (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before_0, before_1, before_2, before_3]
  rw [show (dats m 0 c).Φ t.succ = inv m c (t.val + 1) from rfl, show (dats m 0 c).Φ t.castSucc = inv m c t.val from rfl, inv_ready, inv_ahead,
    after_0, after_1, after_2, after_3, after_4]
  iintro ⟨⟨Hp, Hr, Hf, Hn⟩, ⟨%W, -, Ho⟩, ⟨%d0, H0⟩, ⟨%d1, H1⟩, ⟨%d2, H2⟩, ⟨%d3, H3⟩, ⟨%d4, H4⟩⟩
  iapply (wp_wand_r frame _ _)
  isplitr [Hp Hr]
  · iapply (sound_body c (rows m c) t (st0_2 t) (st0_3 t) (st0_4 t) (iblk m c 2 t) (iblk m c 3 t) (defs₀ (F := F)) (tab m c t) (tab m c (nxt t))
      (st0_0 t) _ (st0_1 t) _ _ _ _ (iblk m c 0 t) (iblk m c 1 t)
      (fun r => (congrArg BitVec.toNat (word_here m c t r)).trans (tab_val m hfit c t r))
      (fun r => (congrArg BitVec.toNat (word_next m c t r)).trans (tab_val m hfit c (nxt t) r)))
    isplitl [H0]; · iexact H0
    isplitl [Hf]; · iexact Hf
    isplitl [H1]; · iexact H1
    isplitl [Hn]; · iexact Hn
    unfold staged
    isplitl [Ho]; · iexists W; iexact Ho
    isplitl [H2]; · iexact H2
    isplitl [H3]; · iexact H3
    iexists _; iexact H4
  iintro %u ⟨H0, H1, Hn, Hf, ⟨%W', Ho⟩, H2, H3, H4⟩
  isplitl [Hp Hr Hn Hf]
  · isplitl [Hp]; · iexact Hp
    isplitl [Hr]; · iexact Hr
    isplitl [Hn]; · iexact Hn
    iexact Hf
  isplitl [Ho]
  · iexists W'
    isplitr; · ipureintro; exact fun _ _ => Or.inl trivial
    iexact Ho
  isplitl [H0]; · iexact H0
  isplitl [H1]; · iexact H1
  isplitl [H2]; · iexact H2
  isplitl [H3]; · iexact H3
  iexact H4

theorem row_at (t : Fin cfg0.N) : defs₀ (F := F) .tc cfg0.body (cfg0.bodyArgs t (cfg0.slots t)) = bodyAt0 t := by
  unfold defs₀; rw [Defs.onTc_tc]

theorem obligation (hfit : Fits m) (c : Dev nD) : BodyObligation (dats (F := F) m 0 c) (defs₀ (F := F)) Variants.none () Set.univ := fun t => by
  rw [bigSep_W0, bigSep_W0, row_at]
  exact triple_restated (sound_point m hfit c t) rfl .rfl fun _ => .rfl

end Cert.CombineIdeal.Rows

end
-- ==== Proof.CombLaunch.lean ====
/- The combine kernel's launch: what it is handed at its start and hands back at its end, and the arrays its run leaves. -/
module

public import proofs.«01_k».proof.Proof.CombRun

@[expose] public section

set_option maxRecDepth 16384

noncomputable section

namespace Cert.CombineIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.CombineIdeal.Gen
open Idealize.ShloMosaic.Rounds
open Idealize.ShloMosaic.Pipeline (Dat Cfg Window BodyObligation UD)

variable {F : FTy → Type} [FloatOps F]

local notation "𝕄" => MT nD τ sig Unit (Elt F) ℕ (UD sig nD τ) ℕ

variable (m : (ℓ : Loc nD τ sig) → Buf (Elt F) ℓ) (ρ : Dev nD → PrngReg)

/-- The kernel's own two semaphores, and the array it reads itself. -/
def cells (s : Fin 2) : SemLoc sig := .dma (semS s)

abbrev readSet : Finset (Ref sig .tc) := {main_arg1}

theorem cells_own : Pipeline.OwnSemFacts spec0 cells := by decide

theorem halves_union : (Finset.univ : Finset S2x512x2048.Idx) = halfSet 0 ∪ halfSet 1 := by
  ext i
  have : (i 0).val < 2 := (i 0).isLt
  simp only [halfSet, Finset.mem_univ, Finset.mem_union, Finset.mem_filter, true_and, true_iff]
  show (i 0).val = 0 ∨ (i 0).val = 1
  omega

theorem halves_disjoint : Disjoint (halfSet 0) (halfSet 1) := by
  refine Finset.disjoint_left.mpr fun i h h' => ?_
  have e := (Finset.mem_filter.mp h).2
  have e' := (Finset.mem_filter.mp h').2
  rw [e] at e'
  exact absurd e' (by decide)

/-- The scratch in two halves. -/
theorem scratch_cut (c : Dev nD) (f : S2x512x2048.Idx → Elt F .f32) :
    (sOn c Finset.univ f : sProp 𝕄) ⊣⊢ iprop(sOn c (halfSet 0) f ∗ sOn c (halfSet 1) f) := by
  rw [halves_union]
  exact pointsTo_union halves_disjoint

theorem scratch_join (c : Dev nD) (f g : S2x512x2048.Idx → Elt F .f32) :
    (iprop(sOn c (halfSet 0) f ∗ sOn c (halfSet 1) g) : sProp 𝕄) ⊢ iprop(∃ h, sOn c Finset.univ h) := by
  rw [halves_union]
  iintro H
  iexists ((halfSet 1).piecewise g f)
  iapply (pointsTo_join halves_disjoint)
  iexact H

/-- The two halves' shares of the experts' rows. -/
theorem rows_cut (c : Dev nD) (y : S40960x2048.Idx → Elt F .f32) :
    (yOn c y Finset.univ fullShare : sProp 𝕄)
      ⊣⊢ iprop(yOn c y Finset.univ (Transfers.shareDrop fullShare 2) ∗ yOn c y Finset.univ (qHalf 0) ∗ yOn c y Finset.univ (qHalf 1)) := by
  have h := Transfers.pointsTo_toks_range (Ix := Unit) (Name := ℕ) (U := UD sig nD τ) (Lvl := ℕ) (Val := Elt F) (ℓ := yLoc c) (S := Finset.univ) (f := y) fullShare 2
  rw [show Finset.range 2 = ({0, 1} : Finset ℕ) from rfl, bigSep_insert (by decide), bigSep_singleton] at h
  exact h

theorem sems_eq (c : Dev nD) : (Pipeline.ownSems0 (Ix := Unit) (Name := ℕ) (U := UD sig nD τ) (Lvl := ℕ) (Val := Elt F) (τ := τ) cells c : sProp 𝕄)
    = iprop(semVal ((c : Thread nD τ), SemLoc.dma (semS 0)) 0 ∗ semVal ((c : Thread nD τ), SemLoc.dma (semS 1)) 0) := by
  show bigSep Finset.univ _ = _
  rw [show (Finset.univ : Finset (Fin 2)) = {0, 1} from rfl, bigSep_insert (by decide), bigSep_singleton]
  rfl

/-- Nothing in flight: both halves free. -/
def idle (c : Dev nD) : sProp 𝕄 := iprop((∃ r, prngReg c r) ∗ yOn c (rows m c) Finset.univ (Transfers.shareDrop fullShare 2)
    ∗ free c 0 (rows m c) ∗ free c 1 (rows m c))

theorem inv_first (c : Dev nD) : inv m c 0 = idle m c := by
  unfold inv idle
  rw [if_neg (by decide)]
  rfl
theorem inv_last (c : Dev nD) : inv m c 64 = idle m c := by
  unfold inv idle
  rw [if_neg (by decide)]
  rfl

theorem launched_eq (c : Dev nD) : (Pipeline.ΦD cells spec0 readSet (V m) c : sProp 𝕄)
    = iprop((∃ f, sOn c Finset.univ f) ∗ (∃ r, prngReg c r) ∗ (semVal ((c : Thread nD τ), SemLoc.dma (semS 0)) 0 ∗ semVal ((c : Thread nD τ), SemLoc.dma (semS 1)) 0)
      ∗ yOn c (rows m c) Finset.univ fullShare) := by
  rw [Pipeline.ΦD_eq, scopedRest0_eq, sems_eq, bigSep_singleton]
  rfl

theorem idle_in (c : Dev nD) : (Pipeline.ΦD cells spec0 readSet (V m) c : sProp 𝕄) ⊢ idle m c := by
  rw [launched_eq]
  unfold idle free
  iintro ⟨⟨%f, Hs⟩, Hp, ⟨Ha, Hb⟩, Hy⟩
  ihave Hy := (rows_cut c (rows m c)).1 $$ Hy
  ihave Hs := (scratch_cut c f).1 $$ Hs
  icases Hy with ⟨Hy, Hy0, Hy1⟩
  icases Hs with ⟨Hs0, Hs1⟩
  isplitl [Hp]; · iexact Hp
  isplitl [Hy]; · iexact Hy
  isplitl [Hs0 Ha Hy0]
  · isplitl [Hs0]; · iexists f; iexact Hs0
    isplitl [Ha]; · iexact Ha
    iexact Hy0
  isplitl [Hs1]; · iexists f; iexact Hs1
  isplitl [Hb]; · iexact Hb
  iexact Hy1

theorem idle_out (c : Dev nD) : idle m c ⊢ (Pipeline.ΦD cells spec0 readSet (V m) c : sProp 𝕄) := by
  rw [launched_eq]
  unfold idle free
  iintro ⟨Hp, Hy, ⟨⟨%f, Hs0⟩, Ha, Hy0⟩, ⟨%g, Hs1⟩, Hb, Hy1⟩
  isplitl [Hs0 Hs1]
  · iapply (scratch_join c f g)
    isplitl [Hs0]; · iexact Hs0
    iexact Hs1
  isplitl [Hp]; · iexact Hp
  isplitl [Ha Hb]
  · isplitl [Ha]; · iexact Ha
    iexact Hb
  iapply (rows_cut c (rows m c)).2
  isplitl [Hy]; · iexact Hy
  isplitl [Hy0]; · iexact Hy0
  iexact Hy1

set_option maxHeartbeats 800000 in
theorem main_prefix : Pipeline.HMain (Ix := Unit) (Name := ℕ) (U := UD sig nD τ) (Lvl := ℕ) cfgs 0 (defs₀ (F := F)) Variants.none m (main (F := F)) (V m) :=
  Pipeline.hmain_prefix cfgs 0 defs₀ Variants.none m main hostOps0 hostOps0_sub hostOps0_fresh main_chain

set_option backward.isDefEq.respectTransparency.types false in
set_option maxHeartbeats 800000 in
/-- The kernel's run, from any memory whose row numbers name rows. -/
theorem run_main (hfit : Fits m) : θ_run defs (onTc (τ := τ) (main (F := F))) ⟨m, fun _ => 0, ρ⟩
    (fun r => Pipeline.FramePost cfgs (dats m) 0 (V m) r ∧ r.2.sem = fun _ => 0) :=
  Pipeline.θ_run_frame_dma_shared cfgs (dats m) (0 : Fin 1) launch₀0 cells defs₀ Variants.none cells_own readSet (by decide) m ρ main
    (fun c => (obligation m hfit c).loose) (fun _ _ _ => rfl) (fun _ _ => rfl) (V m) (main_prefix m)
    (fun c w => A_eq m c w) (fun c => (idle_in m c).trans (Entails.of_eq (inv_first m c).symm))
    (fun c => (Entails.of_eq (inv_last m c)).trans (idle_out m c)) (Q' := _) (fun _ h => h)

theorem args_kept (hfit : Fits m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 2).trans (((dats m 0 c).arrAt_in 2 rfl _).trans ((A_eq m c 2).trans (V_main_arg0 m c))),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c)⟩) (run_main m ρ hfit)

/-- A run ends with every semaphore at zero and the arguments as launched. -/
theorem quiet (hfit : Fits m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_and (args_kept m ρ hfit) ((θ_run defs _ _).mono (fun _ h => h.2) (run_main m ρ hfit))

end Cert.CombineIdeal.Rows

end
-- ==== Proof.CombRef.lean ====
/- The combine reference's result, entry by entry: a token's residual plus its two experts' rows, normed. -/
module

public import proofs.«01_k».proof.Proof.Gen.CombineReferenceIdeal.Read
public import proofs.«01_k».proof.Proof.Gen.Pre_placed
public import proofs.«01_k».proof.Proof.Norm
public import Idealize.ShloMosaic.Lib.Pointwise

@[expose] public section

set_option maxRecDepth 16384

noncomputable section

namespace Cert.CombineReferenceIdeal.Body

open Idealize.ShloMosaic Idealize.ShloMosaic.TcCoe Idealize.SL.Sem Cert.CombineReferenceIdeal Cert.CombineReferenceIdeal.Gen Cert.CombineReferenceIdeal.Read Cert.Norm

variable (x0 : Vec Ideal S16384x2048 .f32) (x1 : Vec Ideal S40960x2048 .f32) (x2 : (⟨S16384x2, .i32⟩ : BufTy).Contents (Elt Ideal)) (x3 : Vec Ideal S2048 .f32)

/-- The gather of rows by the row numbers. -/
abbrev rowsOf : GatherDims S40960x2048 S16384x2x1 S16384x2x2048 := gather_S40960x2048_S16384x2x1_S16384x2x2048_2_0_n_n_0_2_12048

/-- The place the gather reads. -/
theorem place (idx : IVec S16384x2x1 32) (a : Fin 16384) (b : Fin 2) (k : Fin 2048) (n : Fin 40960) (hn : (idx (ix3 a b (0 : Fin 1))).toInt = n.val) :
    (rowsOf.operandIdx (ix3 a b k) idx : S40960x2048.Idx) = ix2 n k := by
  have hs : rowsOf.siIdx (ix3 a b k) ⟨0, by decide⟩ = (ix3 a b (0 : Fin 1) : S16384x2x1.Idx) := by
    funext i
    fin_cases i <;> rfl
  have h0 : rowsOf.start (ix3 a b k) idx 0 = n.val := by
    unfold GatherDims.start
    rw [dif_pos (by decide)]
    show min (idx (rowsOf.siIdx (ix3 a b k) ⟨0, by decide⟩)).toInt.toNat 40959 = n.val
    rw [hs, hn]
    have := n.isLt
    omega
  funext i
  apply Fin.ext
  show rowsOf.start (ix3 a b k) idx i + rowsOf.batchCoord (ix3 a b k) i + rowsOf.offCoord (ix3 a b k) i = _
  rw [GatherDims.batchCoord_eq_zero _ _ _ (by exact List.not_mem_nil)]
  fin_cases i
  · exact (congrArg (· + 0 + 0) h0).trans rfl
  · show 0 + 0 + k.val = k.val
    omega

/-- A gathered entry. -/
theorem gathered (a : Fin 16384) (b : Fin 2) (k : Fin 2048) (n : Fin 40960) (hn : BitVec.toNat (x2 (ix2 a b) : BitVec 32) = n.val) :
    val_main_v6 (F := Ideal) x1 x2 (ix3 a b k) = x1 (ix2 n k) := by
  have hlt := n.isLt
  have hi : (x2 (ix2 a b) : BitVec 32).toInt = n.val := by
    rw [BitVec.toInt_eq_toNat_of_lt (by omega), hn]
  refine congrArg x1 (place _ a b k n ?_)
  have e : idx_main_v5 (ix3 a b (0 : Fin 1)) = ix2 a b := by funext i; fin_cases i <;> rfl
  rw [val_main_v5_apply, e, val_main_v4_apply, val_main_v1_apply, val_main_v0_apply, val_main_c_apply]
  have hc : IntOp.cmpi .slt (x2 (ix2 a b) : BitVec 32) 0#32 = 0#1 := by
    have h0 : (0#32 : BitVec 32).toInt = 0 := by decide
    simp only [IntOp.cmpi, BitVec.slt, hi, h0]
    have : ¬ ((n.val : ℤ) < 0) := by omega
    simp [this]
  rw [hc]
  exact hi

/-- A token's residual and its two rows. -/
def row (T : Fin 16384 → Fin 2 → Fin 40960) (a : Fin 16384) (d : Fin 2048) : EReal := x0 (ix2 a d) + (x1 (ix2 (T a 0) d) + x1 (ix2 (T a 1) d))

theorem sum_apply (T : Fin 16384 → Fin 2 → Fin 40960) (hT : ∀ a b, BitVec.toNat (x2 (ix2 a b) : BitVec 32) = (T a b).val) (a : Fin 16384) (d : Fin 2048) :
    val_main_v8 (F := Ideal) x0 x1 x2 (ix2 a d) = row x0 x1 T a d := by
  rw [val_main_v8_apply, val_main_v7_apply, val_main_cst_apply, Fin.sum_univ_two]
  have e : ∀ b : Fin 2, idx_main_v7 (ix2 a d) b = ix3 a b d := fun b => by funext i; fin_cases i <;> rfl
  rw [e, e, gathered x1 x2 a 0 d (T a 0) (hT a 0), gathered x1 x2 a 1 d (T a 1) (hT a 1)]
  simp only [Ideal.addf_def, Ideal.ofBits_def, Ideal.ofBits_zero_f32, zero_add]
  rfl

/-- The result, entry by entry. -/
theorem out_apply (T : Fin 16384 → Fin 2 → Fin 40960) (hT : ∀ a b, BitVec.toNat (x2 (ix2 a b) : BitVec 32) = (T a b).val) (a : Fin 16384) (k : Fin 2048) :
    val_main_v21 (F := Ideal) x0 x1 x2 x3 (ix2 a k) = normed (row x0 x1 T a) (fun j => x3 (ix1 j)) k := by
  rw [val_main_v21_apply, val_main_v18_apply, val_main_v17_apply, val_main_v16_apply, val_main_v15_apply, val_main_v13_apply, val_main_v11_apply,
    val_main_v10_apply, val_main_v12_apply, val_main_v14_apply, val_main_v20_apply, val_main_v19_apply]
  simp only [val_main_v9_apply, val_main_cst_1_apply, val_main_cst_2_apply, val_main_cst_3_apply]
  have e : ∀ j : Fin 2048, idx_main_v10 (idx_main_v11 (idx_main_v17 (ix2 a k))) j = ix2 a j := fun j => by
    funext i; fin_cases i <;> rfl
  have e' : idx_main_v19 (idx_main_v20 (ix2 a k)) = ix1 k := by
    funext i; fin_cases i <;> rfl
  simp only [e, e', sum_apply x0 x1 x2 T hT, Ideal.mulf_def, Ideal.addf_def, Ideal.hostDivf_def, Ideal.ofBits_def, Ideal.ofBits_zero_f32, zero_add]
  rfl

/-- The precondition bounds every row number. -/
theorem bound_of_placed {F : FTy → Type} [FloatOps F] (x0 : FVec F Cert.Pre_placed.S16384x2048 .f32) (x1 : FVec F Cert.Pre_placed.S40960x2048 .f32)
    (x2 : IVec Cert.Pre_placed.S16384x2 32) (x3 : FVec F Cert.Pre_placed.S2048 .f32) (h : Cert.Pre_placed.fn (F := F) x0 x1 x2 x3 = fun _ => 1#1) (i : Cert.Pre_placed.S16384x2.Idx) :
    (x2 i).toNat < 40960 := by
  have e : IntOp.cmpi .sge (x2 i) 0#32 &&& IntOp.cmpi .slt (x2 i) 40960#32 = 1#1 := congrFun h i
  have h0 : (0#32 : BitVec 32).toInt = 0 := by decide
  have h1 : (40960#32 : BitVec 32).toInt = 40960 := by decide
  simp only [IntOp.cmpi, BitVec.slt, BitVec.sle, h0, h1] at e
  have hx := BitVec.toInt_eq_toNat_cond (x2 i)
  by_cases ha : (0 : ℤ) ≤ (x2 i).toInt
  · by_cases hb : (x2 i).toInt < 40960
    · have := (x2 i).isLt
      split at hx <;> omega
    · simp [hb] at e
  · simp [ha] at e

end Cert.CombineReferenceIdeal.Body
-- ==== Proof.CombWhole.lean ====
/- The array the combine kernel leaves is the reference's result. -/
module

public import proofs.«01_k».proof.Proof.CombLaunch
public import proofs.«01_k».proof.Proof.CombRef

@[expose] public section

set_option maxRecDepth 16384

noncomputable section

namespace Cert.CombineIdeal.Rows

open Idealize.ShloMosaic Idealize.ShloMosaic.TcCoe Idealize.SL.Sem Cert.CombineIdeal Cert.CombineIdeal.Gen Cert.Norm
open Idealize.ShloMosaic.Pipeline (Dat)

/-- The stored block, entry by entry. -/
theorem blend_apply (x : Vec Ideal S256x2048 .f32) (a b : Vec Ideal S1x256x2048 .f32) (g : Vec Ideal S1x2048 .f32) (r : Fin 256) (k : Fin 2048) :
    blend (F := Ideal) x a b g (ix2 r k)
      = normed (fun j => x (ix2 r j) + (a (ix3 (0 : Fin 1) r j) + b (ix3 (0 : Fin 1) r j))) (fun j => g (ix2 (0 : Fin 1) j)) k := by
  pointwise [blend]
  rfl

variable (m : (ℓ : Loc nD τ sig) → Buf (Elt Ideal) ℓ) (ρ : Dev nD → PrngReg)

/-- The rows a token's numbers name. -/
def named (hfit : Fits m) (c : Dev nD) (a : Fin 16384) (b : Fin 2) : Fin 40960 :=
  ⟨BitVec.toNat (m ((c : Thread nD τ).loc main_arg2) (ix2 a b) : BitVec 32), hfit c (ix2 a b)⟩

/-- The kernel's output array is the reference's result. -/
theorem final (hfit : Fits m) (c : Dev nD) : (dats m 0 c).arrAt 4 cfg0.N = Cert.CombineReferenceIdeal.Read.val_main_v21 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨r, d, rfl⟩ : ∃ (r : Fin 256) (d : Fin 2048), y = ix2 r d := ⟨y 0, y 1, by funext a; fin_cases a <;> rfl⟩
  have ht : t.val < 64 := t.isLt
  have := r.isLt
  have e : ((cfg0.win 4).blk t).view.emb (ix2 r d) = (ix2 (⟨t.val * 256 + r.val, by omega⟩ : Fin 16384) d : S16384x2048.Idx) := by
    funext a
    apply Fin.ext
    blk_simp [idx t]
    fin_cases a <;> simp
  rw [e, Cert.CombineReferenceIdeal.Body.out_apply _ _ _ _ (named m hfit c) (fun _ _ => rfl)]
  blk_simp
  rw [after_4, blend_apply]
  refine congrFun (normed_congr (fun j => ?_) fun j => g_read m c t j) d
  unfold Cert.CombineReferenceIdeal.Body.row
  rw [x_read m c t r j ⟨t.val * 256 + r.val, by omega⟩ rfl]
  have h1 : tab m c t (Fin.castLE (by decide : 256 ≤ 512) r) = named m hfit c ⟨t.val * 256 + r.val, by omega⟩ 0 := by
    apply Fin.ext
    rw [← tab_val m hfit c t]
    have q1 : tok t (Fin.castLE (by decide : 256 ≤ 512) r) = ⟨t.val * 256 + r.val, by omega⟩ := Fin.ext (by show t.val * 256 + r.val % 256 = t.val * 256 + r.val; omega)
    have q2 : pick (Fin.castLE (by decide : 256 ≤ 512) r) = 0 := Fin.ext (by show r.val / 256 = 0; omega)
    rw [q1, q2]
    rfl
  have h2 : tab m c t (Fin.natAdd 256 r) = named m hfit c ⟨t.val * 256 + r.val, by omega⟩ 1 := by
    apply Fin.ext
    rw [← tab_val m hfit c t]
    have q1 : tok t (Fin.natAdd 256 r) = ⟨t.val * 256 + r.val, by omega⟩ := Fin.ext (by show t.val * 256 + (256 + r.val) % 256 = t.val * 256 + r.val; omega)
    have q2 : pick (Fin.natAdd 256 r) = 1 := Fin.ext (by show (256 + r.val) / 256 = 1; omega)
    rw [q1, q2]
    rfl
  rw [← h1, ← h2, ← V_main_arg1 m c]
  rfl

/-- The kernel's run, its result and its arguments. -/
theorem run_result (hfit : Fits m) : θ_run defs (onTc (τ := τ) (main (F := Ideal))) ⟨m, fun _ => 0, ρ⟩ (fun r => ∀ c : Dev nD,
      r.2.mem ((c.tc : Thread nD τ).loc main_v4) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1.1 c).1 4, h.2 c⟩) (θ_run_and (run_main m ρ hfit) (args_kept m ρ hfit))

end Cert.CombineIdeal.Rows
-- ==== Proof.CombSame.lean ====
/- The combine program as printed at the bit level is the idealized one's text, so its run is that one's. -/
module

public import proofs.«01_k».proof.Proof.CombLaunch
public import proofs.«01_k».proof.Proof.Gen.Combine

@[expose] public section

set_option maxRecDepth 16384

noncomputable section

namespace Cert.Combine.Rows

open Idealize.ShloMosaic Idealize.ShloMosaic.TcCoe Idealize.SL.Sem Cert.Combine Cert.Combine.Gen

variable {F : FTy → Type} [FloatOps F]

theorem sig_eq : Cert.Combine.sig = Cert.CombineIdeal.sig := rfl

theorem body_same : (Cert.Combine.cc0_combine (F := F)) = Cert.CombineIdeal.cc0_combine (F := F) := rfl

theorem windows_same : (Cert.Combine.pcfgs (F := F)) = Cert.CombineIdeal.pcfgs (F := F) := rfl

theorem rows_same : (Cert.Combine.defs₀ (F := F)) = Cert.CombineIdeal.defs₀ (F := F) := by
  unfold Cert.Combine.defs₀ Cert.CombineIdeal.defs₀
  refine congrArg Defs.onTc (funext fun l => funext fun a => ?_)
  obtain rfl : l = 0 := Subsingleton.elim (α := Fin 1) _ _
  rfl

theorem defs_same : (Cert.Combine.defs (F := F)) = Cert.CombineIdeal.defs (F := F) :=
  congrArg (Pipeline.defs (Cert.CombineIdeal.pcfgs (F := F))) rows_same

theorem main_same : (Cert.Combine.main (F := F)) = Cert.CombineIdeal.main (F := F) := rfl

variable (m : (ℓ : Loc nD τ sig) → Buf (Elt F) ℓ) (ρ : Dev nD → PrngReg)

/-- A run ends with every semaphore at zero and the arguments as launched. -/
theorem quiet (hfit : Cert.CombineIdeal.Rows.Fits (F := F) m) : θ_run (Cert.Combine.defs (F := F)) (onTc (τ := τ) (Cert.Combine.main (F := F))) ⟨m, fun _ => 0, ρ⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (congrArg₂ (fun d p => θ_run d (onTc (τ := τ) p) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0))
    (defs_same (F := F)) (main_same (F := F))).mpr (Cert.CombineIdeal.Rows.quiet (F := F) m ρ hfit)

end Cert.Combine.Rows
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjReferenceIdeal
public import proofs.«01_k».proof.Proof.Gen.InProjReferenceIdeal.Run
public import proofs.«01_k».proof.Proof.Gen.InProjReferenceIdeal.Read
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjReferenceIdeal
public import proofs.«01_k».proof.Proof.Gen.OutProjReferenceIdeal.Run
public import proofs.«01_k».proof.Proof.Gen.OutProjReferenceIdeal.Read
public import proofs.«01_k».proof.Proof.Gen.Mixers
public import proofs.«01_k».proof.Proof.Gen.Mixers.Frame
public import proofs.«01_k».proof.Proof.Gen.MixersIdeal
public import proofs.«01_k».proof.Proof.Gen.MixersIdeal.Frame
public import proofs.«01_k».proof.Proof.Gen.MixersIdeal.Value
public import proofs.«01_k».proof.Proof.Gen.MixersReferenceIdeal
public import proofs.«01_k».proof.Proof.Gen.MixersReferenceIdeal.Run
public import proofs.«01_k».proof.Proof.Gen.MixersReferenceIdeal.Read
public import proofs.«01_k».proof.Proof.Gen.Combine
public import proofs.«01_k».proof.Proof.Gen.Combine.Frame
public import proofs.«01_k».proof.Proof.Gen.CombineIdeal
public import proofs.«01_k».proof.Proof.Gen.CombineIdeal.Frame
public import proofs.«01_k».proof.Proof.Gen.CombineReferenceIdeal
public import proofs.«01_k».proof.Proof.Gen.CombineReferenceIdeal.Run
public import proofs.«01_k».proof.Proof.Gen.CombineReferenceIdeal.Read
public import proofs.«01_k».proof.Proof.Gen.Pre_placed
public import proofs.«01_k».proof.Proof.Whole
public import proofs.«01_k».proof.Proof.InWhole
public import proofs.«01_k».proof.Proof.OutWhole
public import proofs.«01_k».proof.Proof.MixWhole
public import proofs.«01_k».proof.Proof.CombWhole
public import proofs.«01_k».proof.Proof.CombSame
public import Idealize.ShloMosaic.Adequacy
public import Idealize.ShloMosaic.Init

@[expose] public section

noncomputable section

namespace Cert.Proof

open Idealize.ShloMosaic Idealize.SL.Sem Cert.Kernel

/-- The reference runs, leaves its argument, and has no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0) :=
  (θ_run _ _ _).mono (fun r h => ⟨fun c => (h c).2, sem_eq_zero_of_no_sems rfl r.2⟩) (Cert.ReferenceIdeal.Value.run m g)

theorem claim : Cert.Claim := ⟨Cert.Kernel.Gen.facts, Cert.KernelIdeal.Gen.facts, Cert.ReferenceIdeal.Gen.facts, Cert.InProj.Gen.facts, Cert.InProjIdeal.Gen.facts,
  Cert.InProjReferenceIdeal.Gen.facts, Cert.OutProj.Gen.facts, Cert.OutProjIdeal.Gen.facts, Cert.OutProjReferenceIdeal.Gen.facts,
  Cert.Mixers.Gen.facts, Cert.MixersIdeal.Gen.facts, Cert.MixersReferenceIdeal.Gen.facts,
  Cert.Combine.Gen.facts, Cert.CombineIdeal.Gen.facts, Cert.CombineReferenceIdeal.Gen.facts, Cert.Pre_finite.Gen.facts, Cert.Pre_placed.Gen.facts, by
  refine ⟨fun m g _ => ?_, fun m g _ => ?_, fun m g _ => ?_, fun m g _ => ?_, fun m g _ => ?_, fun m g _ => ?_, fun m g _ => ?_, fun m g _ => ?_, fun m g _ => ?_,
    fun m g _ => ?_, fun m g _ => ?_, fun m g _ => ?_, fun m g _ => ?_, fun m g _ => ?_, fun m g h => ?_, fun m g h => ?_, fun m g _ => ?_, fun m g _ => ?_,
    ?_, ?_, ?_, ?_, ?_, ?_, ?_, ?_, ?_, ?_⟩
  · exact Cert.Kernel.Gen.frame m g
  · exact Cert.KernelIdeal.Gen.frame m g
  · exact Cert.KernelIdeal.Gen.frame m g
  · exact reference_frame m g
  · exact reference_frame m g
  · exact Cert.InProj.Gen.frame m g
  · exact Cert.InProjIdeal.Gen.frame m g
  · exact (θ_run _ _ _).mono (fun r h => ⟨fun c => (h c).2, sem_eq_zero_of_no_sems rfl r.2⟩) (Cert.InProjReferenceIdeal.Value.run m g)
  · exact Cert.OutProj.Gen.frame m g
  · exact Cert.OutProjIdeal.Gen.frame m g
  · exact (θ_run _ _ _).mono (fun r h => ⟨fun c => (h c).2.2.2, sem_eq_zero_of_no_sems rfl r.2⟩) (Cert.OutProjReferenceIdeal.Value.run m g)
  · exact Cert.Mixers.Gen.frame m g
  · exact Cert.MixersIdeal.Gen.frame m g
  · exact (θ_run _ _ _).mono (fun r h => ⟨fun c => (h c).2.2, sem_eq_zero_of_no_sems rfl r.2⟩) (Cert.MixersReferenceIdeal.Value.run m g)
  · exact Cert.Combine.Rows.quiet m g fun c i => Cert.CombineReferenceIdeal.Body.bound_of_placed _ _ _ _ (h c) i
  · exact Cert.CombineIdeal.Rows.quiet m g fun c i => Cert.CombineReferenceIdeal.Body.bound_of_placed _ _ _ _ (h c) i
  · exact (θ_run _ _ _).mono (fun r h => ⟨fun c => (h c).2, sem_eq_zero_of_no_sems rfl r.2⟩) (Cert.CombineReferenceIdeal.Value.run m g)
  · exact (θ_run _ _ _).mono (fun r h => ⟨fun c => (h c).2, sem_eq_zero_of_no_sems rfl r.2⟩) (Cert.CombineReferenceIdeal.Value.run m g)
  · exact IdealRules.named_const.statement Cert.KernelIdeal.κ "mask" .f32 0xF149F2CA#32 ⊥ rfl
  · pair_intro
    · run_from Cert.KernelIdeal.Value.run_blocks m g
    · run_from Cert.ReferenceIdeal.Value.run m' g'
      refine (Cert.ReferenceIdeal.Read.val_main_v126_eq (StableHlo.launchContents m' c)).trans ?_
      rw [Cert.KernelIdeal.Body.final m c (hpre c), ← hagree c]
  · trivial
  · pair_intro
    · run_from Cert.InProjIdeal.Value.run_blocks m g
    · run_from Cert.InProjReferenceIdeal.Value.run m' g'
      rw [Cert.InProjIdeal.Body.final m c, ← (hagree c).1, ← (hagree c).2.1, ← (hagree c).2.2]
      exact Cert.InProjReferenceIdeal.Read.val_main_v14_eq _ _ _
  · trivial
  · pair_intro
    · run_from Cert.OutProjIdeal.Value.run_blocks m g
    · run_from Cert.OutProjReferenceIdeal.Value.run m' g'
      all_goals obtain ⟨h0, h1, h2, h3, h4, h5, h6, h7, h8, h9⟩ := hagree c
      · rw [Cert.OutProjIdeal.Body.final8 m c, ← h0, ← h1, ← h2, ← h3, ← h4]
        exact Cert.OutProjReferenceIdeal.Read.val_main_v3_eq _ _ _ _ _
      · rw [Cert.OutProjIdeal.Body.final9 m c, ← h0, ← h1, ← h2, ← h3, ← h4, ← h5]
        exact Cert.OutProjReferenceIdeal.Read.val_main_v16_eq _ _ _ _ _ _
      · rw [Cert.OutProjIdeal.Body.final10 m c, ← h0, ← h1, ← h2, ← h3, ← h4, ← h5, ← h6, ← h7, ← h8, ← h9]
        exact Cert.OutProjReferenceIdeal.Read.val_main_v26_eq m' c
  · trivial
  · pair_intro
    · run_from Cert.MixersIdeal.Value.run_blocks m g
    · run_from Cert.MixersReferenceIdeal.Value.run m' g'
      all_goals obtain ⟨h0, h1, h2, h3, h4, h5⟩ := hagree c
      · rw [Cert.MixersIdeal.Body.final10 m c, ← h0, ← h1]
        exact Cert.MixersReferenceIdeal.Read.val_main_v289_eq (StableHlo.launchContents m' c)
      · rw [Cert.MixersIdeal.Body.final11 m c, ← h0, ← h2, ← h3, ← h4, ← h5]
        exact Cert.MixersReferenceIdeal.Read.val_main_v291_eq (StableHlo.launchContents m' c)
  · trivial
  · intro m g m' g' hpre hagree
    have hfit : Cert.CombineIdeal.Rows.Fits (F := Ideal) m := fun c i => Cert.CombineReferenceIdeal.Body.bound_of_placed _ _ _ _ (hpre c) i
    refine ⟨fun c => (Cert.CombineIdeal.Rows.dats m 0 c).arrAt 4 Cert.CombineIdeal.cfg0.N, Cert.CombineIdeal.Rows.run_result m g hfit, ?_⟩
    run_from Cert.CombineReferenceIdeal.Value.run m' g'
    obtain ⟨h0, h1, h2, h3⟩ := hagree c
    rw [Cert.CombineIdeal.Rows.final m hfit c, ← h0, ← h1, ← h2, ← h3]
    exact Cert.CombineReferenceIdeal.Read.val_main_v21_eq _ _ _ _⟩

end Cert.Proof

end
